-- ==== Defs.lean ====
def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_GlaStep (m : (ℓ : Loc Cert.GlaStep.nD Cert.GlaStep.τ Cert.GlaStep.sig) → Buf (Elt Bits) ℓ) : Prop :=
  True

def Pre_GlaStepIdeal (m : (ℓ : Loc Cert.GlaStepIdeal.nD Cert.GlaStepIdeal.τ Cert.GlaStepIdeal.sig) → Buf (Elt Ideal) ℓ) : Prop :=
  True

def Pre_GlaStepIdeal_finite_qkv [hPre_finite_qkv : Cert.Pre_finite_qkv.Facts] (m : (ℓ : Loc Cert.GlaStepIdeal.nD Cert.GlaStepIdeal.τ Cert.GlaStepIdeal.sig) → Buf (Elt Ideal) ℓ) : Prop :=
  ∀ c : Dev Cert.GlaStepIdeal.nD,
    (Cert.Pre_finite_qkv.fn (F := Ideal) (m ((c.tc : Thread Cert.GlaStepIdeal.nD Cert.GlaStepIdeal.τ).loc Cert.GlaStepIdeal.main_arg0)) (m ((c.tc : Thread Cert.GlaStepIdeal.nD Cert.GlaStepIdeal.τ).loc Cert.GlaStepIdeal.main_arg1)) (m ((c.tc : Thread Cert.GlaStepIdeal.nD Cert.GlaStepIdeal.τ).loc Cert.GlaStepIdeal.main_arg2)) (m ((c.tc : Thread Cert.GlaStepIdeal.nD Cert.GlaStepIdeal.τ).loc Cert.GlaStepIdeal.main_arg3)) (m ((c.tc : Thread Cert.GlaStepIdeal.nD Cert.GlaStepIdeal.τ).loc Cert.GlaStepIdeal.main_arg4))) = (fun _ => 1#1)

def Pre_GlaRefIdeal (m : (ℓ : Loc Cert.GlaRefIdeal.nD Cert.GlaRefIdeal.τ Cert.GlaRefIdeal.sig) → Buf (Elt Ideal) ℓ) : Prop :=
  True

def Pre_GlaRefIdeal_finite_qkv [hPre_finite_qkv : Cert.Pre_finite_qkv.Facts] (m : (ℓ : Loc Cert.GlaRefIdeal.nD Cert.GlaRefIdeal.τ Cert.GlaRefIdeal.sig) → Buf (Elt Ideal) ℓ) : Prop :=
  ∀ c : Dev Cert.GlaRefIdeal.nD,
    (Cert.Pre_finite_qkv.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4))) = (fun _ => 1#1)

def Pre_ProjSample (m : (ℓ : Loc Cert.ProjSample.nD Cert.ProjSample.τ Cert.ProjSample.sig) → Buf (Elt Bits) ℓ) : Prop :=
  True

def Pre_ProjSampleIdeal (m : (ℓ : Loc Cert.ProjSampleIdeal.nD Cert.ProjSampleIdeal.τ Cert.ProjSampleIdeal.sig) → Buf (Elt Ideal) ℓ) : Prop :=
  True

def Pre_ProjSampleRefIdeal (m : (ℓ : Loc Cert.ProjSampleRefIdeal.nD Cert.ProjSampleRefIdeal.τ Cert.ProjSampleRefIdeal.sig) → Buf (Elt Ideal) ℓ) : Prop :=
  True

def Pre_MergeSample (m : (ℓ : Loc Cert.MergeSample.nD Cert.MergeSample.τ Cert.MergeSample.sig) → Buf (Elt Bits) ℓ) : Prop :=
  True

def Pre_MergeSampleIdeal (m : (ℓ : Loc Cert.MergeSampleIdeal.nD Cert.MergeSampleIdeal.τ Cert.MergeSampleIdeal.sig) → Buf (Elt Ideal) ℓ) : Prop :=
  True

def Pre_MergeSampleRefIdeal (m : (ℓ : Loc Cert.MergeSampleRefIdeal.nD Cert.MergeSampleRefIdeal.τ Cert.MergeSampleRefIdeal.sig) → Buf (Elt Ideal) ℓ) : Prop :=
  True

def Pre_RwkvStep (m : (ℓ : Loc Cert.RwkvStep.nD Cert.RwkvStep.τ Cert.RwkvStep.sig) → Buf (Elt Bits) ℓ) : Prop :=
  True

def Pre_RwkvStepIdeal (m : (ℓ : Loc Cert.RwkvStepIdeal.nD Cert.RwkvStepIdeal.τ Cert.RwkvStepIdeal.sig) → Buf (Elt Ideal) ℓ) : Prop :=
  True

def Pre_RwkvRefIdeal (m : (ℓ : Loc Cert.RwkvRefIdeal.nD Cert.RwkvRefIdeal.τ Cert.RwkvRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_GlaStep [hGlaStep : Cert.GlaStep.Facts] : Prop :=
  ∀ (m : (ℓ : Loc Cert.GlaStep.nD Cert.GlaStep.τ Cert.GlaStep.sig) → Buf (Elt Bits) ℓ) (g : Dev Cert.GlaStep.nD → PrngReg), Pre_GlaStep m →
    θ_run (Cert.GlaStep.defs (F := Bits)) (onTc (τ := Cert.GlaStep.τ) (Cert.GlaStep.main (F := Bits))) ⟨m, fun _ => 0, g⟩ (fun r => (∀ c : Dev Cert.GlaStep.nD,
      r.2.mem ((c.tc : Thread Cert.GlaStep.nD Cert.GlaStep.τ).loc Cert.GlaStep.main_arg0) = m ((c.tc : Thread Cert.GlaStep.nD Cert.GlaStep.τ).loc Cert.GlaStep.main_arg0)
      ∧ r.2.mem ((c.tc : Thread Cert.GlaStep.nD Cert.GlaStep.τ).loc Cert.GlaStep.main_arg1) = m ((c.tc : Thread Cert.GlaStep.nD Cert.GlaStep.τ).loc Cert.GlaStep.main_arg1)
      ∧ r.2.mem ((c.tc : Thread Cert.GlaStep.nD Cert.GlaStep.τ).loc Cert.GlaStep.main_arg2) = m ((c.tc : Thread Cert.GlaStep.nD Cert.GlaStep.τ).loc Cert.GlaStep.main_arg2)
      ∧ r.2.mem ((c.tc : Thread Cert.GlaStep.nD Cert.GlaStep.τ).loc Cert.GlaStep.main_arg3) = m ((c.tc : Thread Cert.GlaStep.nD Cert.GlaStep.τ).loc Cert.GlaStep.main_arg3)
      ∧ r.2.mem ((c.tc : Thread Cert.GlaStep.nD Cert.GlaStep.τ).loc Cert.GlaStep.main_arg4) = m ((c.tc : Thread Cert.GlaStep.nD Cert.GlaStep.τ).loc Cert.GlaStep.main_arg4))
      ∧ r.2.sem = fun _ => 0)

def quiescent_GlaStepIdeal [hGlaStepIdeal : Cert.GlaStepIdeal.Facts] : Prop :=
  ∀ (m : (ℓ : Loc Cert.GlaStepIdeal.nD Cert.GlaStepIdeal.τ Cert.GlaStepIdeal.sig) → Buf (Elt Ideal) ℓ) (g : Dev Cert.GlaStepIdeal.nD → PrngReg), Pre_GlaStepIdeal m →
    θ_run (Cert.GlaStepIdeal.defs (F := Ideal)) (onTc (τ := Cert.GlaStepIdeal.τ) (Cert.GlaStepIdeal.main (F := Ideal))) ⟨m, fun _ => 0, g⟩ (fun r => (∀ c : Dev Cert.GlaStepIdeal.nD,
      r.2.mem ((c.tc : Thread Cert.GlaStepIdeal.nD Cert.GlaStepIdeal.τ).loc Cert.GlaStepIdeal.main_arg0) = m ((c.tc : Thread Cert.GlaStepIdeal.nD Cert.GlaStepIdeal.τ).loc Cert.GlaStepIdeal.main_arg0)
      ∧ r.2.mem ((c.tc : Thread Cert.GlaStepIdeal.nD Cert.GlaStepIdeal.τ).loc Cert.GlaStepIdeal.main_arg1) = m ((c.tc : Thread Cert.GlaStepIdeal.nD Cert.GlaStepIdeal.τ).loc Cert.GlaStepIdeal.main_arg1)
      ∧ r.2.mem ((c.tc : Thread Cert.GlaStepIdeal.nD Cert.GlaStepIdeal.τ).loc Cert.GlaStepIdeal.main_arg2) = m ((c.tc : Thread Cert.GlaStepIdeal.nD Cert.GlaStepIdeal.τ).loc Cert.GlaStepIdeal.main_arg2)
      ∧ r.2.mem ((c.tc : Thread Cert.GlaStepIdeal.nD Cert.GlaStepIdeal.τ).loc Cert.GlaStepIdeal.main_arg3) = m ((c.tc : Thread Cert.GlaStepIdeal.nD Cert.GlaStepIdeal.τ).loc Cert.GlaStepIdeal.main_arg3)
      ∧ r.2.mem ((c.tc : Thread Cert.GlaStepIdeal.nD Cert.GlaStepIdeal.τ).loc Cert.GlaStepIdeal.main_arg4) = m ((c.tc : Thread Cert.GlaStepIdeal.nD Cert.GlaStepIdeal.τ).loc Cert.GlaStepIdeal.main_arg4))
      ∧ r.2.sem = fun _ => 0)

def quiescent_GlaStepIdeal_pre_finite_qkv [hGlaStepIdeal : Cert.GlaStepIdeal.Facts] [hPre_finite_qkv : Cert.Pre_finite_qkv.Facts] : Prop :=
  ∀ (m : (ℓ : Loc Cert.GlaStepIdeal.nD Cert.GlaStepIdeal.τ Cert.GlaStepIdeal.sig) → Buf (Elt Ideal) ℓ) (g : Dev Cert.GlaStepIdeal.nD → PrngReg), Pre_GlaStepIdeal_finite_qkv m →
    θ_run (Cert.GlaStepIdeal.defs (F := Ideal)) (onTc (τ := Cert.GlaStepIdeal.τ) (Cert.GlaStepIdeal.main (F := Ideal))) ⟨m, fun _ => 0, g⟩ (fun r => (∀ c : Dev Cert.GlaStepIdeal.nD,
      r.2.mem ((c.tc : Thread Cert.GlaStepIdeal.nD Cert.GlaStepIdeal.τ).loc Cert.GlaStepIdeal.main_arg0) = m ((c.tc : Thread Cert.GlaStepIdeal.nD Cert.GlaStepIdeal.τ).loc Cert.GlaStepIdeal.main_arg0)
      ∧ r.2.mem ((c.tc : Thread Cert.GlaStepIdeal.nD Cert.GlaStepIdeal.τ).loc Cert.GlaStepIdeal.main_arg1) = m ((c.tc : Thread Cert.GlaStepIdeal.nD Cert.GlaStepIdeal.τ).loc Cert.GlaStepIdeal.main_arg1)
      ∧ r.2.mem ((c.tc : Thread Cert.GlaStepIdeal.nD Cert.GlaStepIdeal.τ).loc Cert.GlaStepIdeal.main_arg2) = m ((c.tc : Thread Cert.GlaStepIdeal.nD Cert.GlaStepIdeal.τ).loc Cert.GlaStepIdeal.main_arg2)
      ∧ r.2.mem ((c.tc : Thread Cert.GlaStepIdeal.nD Cert.GlaStepIdeal.τ).loc Cert.GlaStepIdeal.main_arg3) = m ((c.tc : Thread Cert.GlaStepIdeal.nD Cert.GlaStepIdeal.τ).loc Cert.GlaStepIdeal.main_arg3)
      ∧ r.2.mem ((c.tc : Thread Cert.GlaStepIdeal.nD Cert.GlaStepIdeal.τ).loc Cert.GlaStepIdeal.main_arg4) = m ((c.tc : Thread Cert.GlaStepIdeal.nD Cert.GlaStepIdeal.τ).loc Cert.GlaStepIdeal.main_arg4))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4))
      ∧ r.2.sem = fun _ => 0)

def quiescent_GlaRefIdeal_pre_finite_qkv [hGlaRefIdeal : Cert.GlaRefIdeal.Facts] [hPre_finite_qkv : Cert.Pre_finite_qkv.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal_finite_qkv m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4))
      ∧ r.2.sem = fun _ => 0)

def quiescent_ProjSample [hProjSample : Cert.ProjSample.Facts] : Prop :=
  ∀ (m : (ℓ : Loc Cert.ProjSample.nD Cert.ProjSample.τ Cert.ProjSample.sig) → Buf (Elt Bits) ℓ) (g : Dev Cert.ProjSample.nD → PrngReg), Pre_ProjSample m →
    θ_run (Cert.ProjSample.defs (F := Bits)) (onTc (τ := Cert.ProjSample.τ) (Cert.ProjSample.main (F := Bits))) ⟨m, fun _ => 0, g⟩ (fun r => (∀ c : Dev Cert.ProjSample.nD,
      r.2.mem ((c.tc : Thread Cert.ProjSample.nD Cert.ProjSample.τ).loc Cert.ProjSample.main_arg0) = m ((c.tc : Thread Cert.ProjSample.nD Cert.ProjSample.τ).loc Cert.ProjSample.main_arg0)
      ∧ r.2.mem ((c.tc : Thread Cert.ProjSample.nD Cert.ProjSample.τ).loc Cert.ProjSample.main_arg1) = m ((c.tc : Thread Cert.ProjSample.nD Cert.ProjSample.τ).loc Cert.ProjSample.main_arg1))
      ∧ r.2.sem = fun _ => 0)

def quiescent_ProjSampleIdeal [hProjSampleIdeal : Cert.ProjSampleIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg), Pre_ProjSampleIdeal m →
    θ_run (Cert.ProjSampleIdeal.defs (F := Ideal)) (onTc (τ := Cert.ProjSampleIdeal.τ) (Cert.ProjSampleIdeal.main (F := Ideal))) ⟨m, fun _ => 0, g⟩ (fun r => (∀ c : Dev Cert.ProjSampleIdeal.nD,
      r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
      ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1))
      ∧ r.2.sem = fun _ => 0)

def quiescent_ProjSampleRefIdeal [hProjSampleRefIdeal : Cert.ProjSampleRefIdeal.Facts] : Prop :=
  ∀ (m : (ℓ : Loc Cert.ProjSampleRefIdeal.nD Cert.ProjSampleRefIdeal.τ Cert.ProjSampleRefIdeal.sig) → Buf (Elt Ideal) ℓ) (g : Dev Cert.ProjSampleRefIdeal.nD → PrngReg), Pre_ProjSampleRefIdeal m →
    θ_run (Cert.ProjSampleRefIdeal.defs (F := Ideal)) (onTc (τ := Cert.ProjSampleRefIdeal.τ) (Cert.ProjSampleRefIdeal.main (F := Ideal))) ⟨m, fun _ => 0, g⟩ (fun r => (∀ c : Dev Cert.ProjSampleRefIdeal.nD,
      r.2.mem ((c.tc : Thread Cert.ProjSampleRefIdeal.nD Cert.ProjSampleRefIdeal.τ).loc Cert.ProjSampleRefIdeal.main_arg0) = m ((c.tc : Thread Cert.ProjSampleRefIdeal.nD Cert.ProjSampleRefIdeal.τ).loc Cert.ProjSampleRefIdeal.main_arg0)
      ∧ r.2.mem ((c.tc : Thread Cert.ProjSampleRefIdeal.nD Cert.ProjSampleRefIdeal.τ).loc Cert.ProjSampleRefIdeal.main_arg1) = m ((c.tc : Thread Cert.ProjSampleRefIdeal.nD Cert.ProjSampleRefIdeal.τ).loc Cert.ProjSampleRefIdeal.main_arg1))
      ∧ r.2.sem = fun _ => 0)

def quiescent_MergeSample [hMergeSample : Cert.MergeSample.Facts] : Prop :=
  ∀ (m : (ℓ : Loc Cert.MergeSample.nD Cert.MergeSample.τ Cert.MergeSample.sig) → Buf (Elt Bits) ℓ) (g : Dev Cert.MergeSample.nD → PrngReg), Pre_MergeSample m →
    θ_run (Cert.MergeSample.defs (F := Bits)) (onTc (τ := Cert.MergeSample.τ) (Cert.MergeSample.main (F := Bits))) ⟨m, fun _ => 0, g⟩ (fun r => (∀ c : Dev Cert.MergeSample.nD,
      r.2.mem ((c.tc : Thread Cert.MergeSample.nD Cert.MergeSample.τ).loc Cert.MergeSample.main_arg0) = m ((c.tc : Thread Cert.MergeSample.nD Cert.MergeSample.τ).loc Cert.MergeSample.main_arg0)
      ∧ r.2.mem ((c.tc : Thread Cert.MergeSample.nD Cert.MergeSample.τ).loc Cert.MergeSample.main_arg1) = m ((c.tc : Thread Cert.MergeSample.nD Cert.MergeSample.τ).loc Cert.MergeSample.main_arg1)
      ∧ r.2.mem ((c.tc : Thread Cert.MergeSample.nD Cert.MergeSample.τ).loc Cert.MergeSample.main_arg2) = m ((c.tc : Thread Cert.MergeSample.nD Cert.MergeSample.τ).loc Cert.MergeSample.main_arg2)
      ∧ r.2.mem ((c.tc : Thread Cert.MergeSample.nD Cert.MergeSample.τ).loc Cert.MergeSample.main_arg3) = m ((c.tc : Thread Cert.MergeSample.nD Cert.MergeSample.τ).loc Cert.MergeSample.main_arg3)
      ∧ r.2.mem ((c.tc : Thread Cert.MergeSample.nD Cert.MergeSample.τ).loc Cert.MergeSample.main_arg4) = m ((c.tc : Thread Cert.MergeSample.nD Cert.MergeSample.τ).loc Cert.MergeSample.main_arg4)
      ∧ r.2.mem ((c.tc : Thread Cert.MergeSample.nD Cert.MergeSample.τ).loc Cert.MergeSample.main_arg5) = m ((c.tc : Thread Cert.MergeSample.nD Cert.MergeSample.τ).loc Cert.MergeSample.main_arg5)
      ∧ r.2.mem ((c.tc : Thread Cert.MergeSample.nD Cert.MergeSample.τ).loc Cert.MergeSample.main_arg6) = m ((c.tc : Thread Cert.MergeSample.nD Cert.MergeSample.τ).loc Cert.MergeSample.main_arg6)
      ∧ r.2.mem ((c.tc : Thread Cert.MergeSample.nD Cert.MergeSample.τ).loc Cert.MergeSample.main_arg7) = m ((c.tc : Thread Cert.MergeSample.nD Cert.MergeSample.τ).loc Cert.MergeSample.main_arg7)
      ∧ r.2.mem ((c.tc : Thread Cert.MergeSample.nD Cert.MergeSample.τ).loc Cert.MergeSample.main_arg8) = m ((c.tc : Thread Cert.MergeSample.nD Cert.MergeSample.τ).loc Cert.MergeSample.main_arg8))
      ∧ r.2.sem = fun _ => 0)

def quiescent_MergeSampleIdeal [hMergeSampleIdeal : Cert.MergeSampleIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg), Pre_MergeSampleIdeal m →
    θ_run (Cert.MergeSampleIdeal.defs (F := Ideal)) (onTc (τ := Cert.MergeSampleIdeal.τ) (Cert.MergeSampleIdeal.main (F := Ideal))) ⟨m, fun _ => 0, g⟩ (fun r => (∀ c : Dev Cert.MergeSampleIdeal.nD,
      r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
      ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
      ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
      ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
      ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
      ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
      ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
      ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7)
      ∧ r.2.mem ((c.tc : Thread Cert.MergeSampleIdeal.nD Cert.MergeSampleIdeal.τ).loc Cert.MergeSampleIdeal.main_arg8) = m ((c.tc : Thread Cert.MergeSampleIdeal.nD Cert.MergeSampleIdeal.τ).loc Cert.MergeSampleIdeal.main_arg8))
      ∧ r.2.sem = fun _ => 0)

def quiescent_MergeSampleRefIdeal [hMergeSampleRefIdeal : Cert.MergeSampleRefIdeal.Facts] : Prop :=
  ∀ (m : (ℓ : Loc Cert.MergeSampleRefIdeal.nD Cert.MergeSampleRefIdeal.τ Cert.MergeSampleRefIdeal.sig) → Buf (Elt Ideal) ℓ) (g : Dev Cert.MergeSampleRefIdeal.nD → PrngReg), Pre_MergeSampleRefIdeal m →
    θ_run (Cert.MergeSampleRefIdeal.defs (F := Ideal)) (onTc (τ := Cert.MergeSampleRefIdeal.τ) (Cert.MergeSampleRefIdeal.main (F := Ideal))) ⟨m, fun _ => 0, g⟩ (fun r => (∀ c : Dev Cert.MergeSampleRefIdeal.nD,
      r.2.mem ((c.tc : Thread Cert.MergeSampleRefIdeal.nD Cert.MergeSampleRefIdeal.τ).loc Cert.MergeSampleRefIdeal.main_arg0) = m ((c.tc : Thread Cert.MergeSampleRefIdeal.nD Cert.MergeSampleRefIdeal.τ).loc Cert.MergeSampleRefIdeal.main_arg0)
      ∧ r.2.mem ((c.tc : Thread Cert.MergeSampleRefIdeal.nD Cert.MergeSampleRefIdeal.τ).loc Cert.MergeSampleRefIdeal.main_arg1) = m ((c.tc : Thread Cert.MergeSampleRefIdeal.nD Cert.MergeSampleRefIdeal.τ).loc Cert.MergeSampleRefIdeal.main_arg1)
      ∧ r.2.mem ((c.tc : Thread Cert.MergeSampleRefIdeal.nD Cert.MergeSampleRefIdeal.τ).loc Cert.MergeSampleRefIdeal.main_arg2) = m ((c.tc : Thread Cert.MergeSampleRefIdeal.nD Cert.MergeSampleRefIdeal.τ).loc Cert.MergeSampleRefIdeal.main_arg2)
      ∧ r.2.mem ((c.tc : Thread Cert.MergeSampleRefIdeal.nD Cert.MergeSampleRefIdeal.τ).loc Cert.MergeSampleRefIdeal.main_arg3) = m ((c.tc : Thread Cert.MergeSampleRefIdeal.nD Cert.MergeSampleRefIdeal.τ).loc Cert.MergeSampleRefIdeal.main_arg3)
      ∧ r.2.mem ((c.tc : Thread Cert.MergeSampleRefIdeal.nD Cert.MergeSampleRefIdeal.τ).loc Cert.MergeSampleRefIdeal.main_arg4) = m ((c.tc : Thread Cert.MergeSampleRefIdeal.nD Cert.MergeSampleRefIdeal.τ).loc Cert.MergeSampleRefIdeal.main_arg4)
      ∧ r.2.mem ((c.tc : Thread Cert.MergeSampleRefIdeal.nD Cert.MergeSampleRefIdeal.τ).loc Cert.MergeSampleRefIdeal.main_arg5) = m ((c.tc : Thread Cert.MergeSampleRefIdeal.nD Cert.MergeSampleRefIdeal.τ).loc Cert.MergeSampleRefIdeal.main_arg5)
      ∧ r.2.mem ((c.tc : Thread Cert.MergeSampleRefIdeal.nD Cert.MergeSampleRefIdeal.τ).loc Cert.MergeSampleRefIdeal.main_arg6) = m ((c.tc : Thread Cert.MergeSampleRefIdeal.nD Cert.MergeSampleRefIdeal.τ).loc Cert.MergeSampleRefIdeal.main_arg6)
      ∧ r.2.mem ((c.tc : Thread Cert.MergeSampleRefIdeal.nD Cert.MergeSampleRefIdeal.τ).loc Cert.MergeSampleRefIdeal.main_arg7) = m ((c.tc : Thread Cert.MergeSampleRefIdeal.nD Cert.MergeSampleRefIdeal.τ).loc Cert.MergeSampleRefIdeal.main_arg7)
      ∧ r.2.mem ((c.tc : Thread Cert.MergeSampleRefIdeal.nD Cert.MergeSampleRefIdeal.τ).loc Cert.MergeSampleRefIdeal.main_arg8) = m ((c.tc : Thread Cert.MergeSampleRefIdeal.nD Cert.MergeSampleRefIdeal.τ).loc Cert.MergeSampleRefIdeal.main_arg8))
      ∧ r.2.sem = fun _ => 0)

def quiescent_RwkvStep [hRwkvStep : Cert.RwkvStep.Facts] : Prop :=
  ∀ (m : (ℓ : Loc Cert.RwkvStep.nD Cert.RwkvStep.τ Cert.RwkvStep.sig) → Buf (Elt Bits) ℓ) (g : Dev Cert.RwkvStep.nD → PrngReg), Pre_RwkvStep m →
    θ_run (Cert.RwkvStep.defs (F := Bits)) (onTc (τ := Cert.RwkvStep.τ) (Cert.RwkvStep.main (F := Bits))) ⟨m, fun _ => 0, g⟩ (fun r => (∀ c : Dev Cert.RwkvStep.nD,
      r.2.mem ((c.tc : Thread Cert.RwkvStep.nD Cert.RwkvStep.τ).loc Cert.RwkvStep.main_arg0) = m ((c.tc : Thread Cert.RwkvStep.nD Cert.RwkvStep.τ).loc Cert.RwkvStep.main_arg0)
      ∧ r.2.mem ((c.tc : Thread Cert.RwkvStep.nD Cert.RwkvStep.τ).loc Cert.RwkvStep.main_arg1) = m ((c.tc : Thread Cert.RwkvStep.nD Cert.RwkvStep.τ).loc Cert.RwkvStep.main_arg1)
      ∧ r.2.mem ((c.tc : Thread Cert.RwkvStep.nD Cert.RwkvStep.τ).loc Cert.RwkvStep.main_arg2) = m ((c.tc : Thread Cert.RwkvStep.nD Cert.RwkvStep.τ).loc Cert.RwkvStep.main_arg2)
      ∧ r.2.mem ((c.tc : Thread Cert.RwkvStep.nD Cert.RwkvStep.τ).loc Cert.RwkvStep.main_arg3) = m ((c.tc : Thread Cert.RwkvStep.nD Cert.RwkvStep.τ).loc Cert.RwkvStep.main_arg3)
      ∧ r.2.mem ((c.tc : Thread Cert.RwkvStep.nD Cert.RwkvStep.τ).loc Cert.RwkvStep.main_arg4) = m ((c.tc : Thread Cert.RwkvStep.nD Cert.RwkvStep.τ).loc Cert.RwkvStep.main_arg4)
      ∧ r.2.mem ((c.tc : Thread Cert.RwkvStep.nD Cert.RwkvStep.τ).loc Cert.RwkvStep.main_arg5) = m ((c.tc : Thread Cert.RwkvStep.nD Cert.RwkvStep.τ).loc Cert.RwkvStep.main_arg5)
      ∧ r.2.mem ((c.tc : Thread Cert.RwkvStep.nD Cert.RwkvStep.τ).loc Cert.RwkvStep.main_arg6) = m ((c.tc : Thread Cert.RwkvStep.nD Cert.RwkvStep.τ).loc Cert.RwkvStep.main_arg6)
      ∧ r.2.mem ((c.tc : Thread Cert.RwkvStep.nD Cert.RwkvStep.τ).loc Cert.RwkvStep.main_arg7) = m ((c.tc : Thread Cert.RwkvStep.nD Cert.RwkvStep.τ).loc Cert.RwkvStep.main_arg7)
      ∧ r.2.mem ((c.tc : Thread Cert.RwkvStep.nD Cert.RwkvStep.τ).loc Cert.RwkvStep.main_arg8) = m ((c.tc : Thread Cert.RwkvStep.nD Cert.RwkvStep.τ).loc Cert.RwkvStep.main_arg8)
      ∧ r.2.mem ((c.tc : Thread Cert.RwkvStep.nD Cert.RwkvStep.τ).loc Cert.RwkvStep.main_arg9) = m ((c.tc : Thread Cert.RwkvStep.nD Cert.RwkvStep.τ).loc Cert.RwkvStep.main_arg9)
      ∧ r.2.mem ((c.tc : Thread Cert.RwkvStep.nD Cert.RwkvStep.τ).loc Cert.RwkvStep.main_arg10) = m ((c.tc : Thread Cert.RwkvStep.nD Cert.RwkvStep.τ).loc Cert.RwkvStep.main_arg10)
      ∧ r.2.mem ((c.tc : Thread Cert.RwkvStep.nD Cert.RwkvStep.τ).loc Cert.RwkvStep.main_arg11) = m ((c.tc : Thread Cert.RwkvStep.nD Cert.RwkvStep.τ).loc Cert.RwkvStep.main_arg11)
      ∧ r.2.mem ((c.tc : Thread Cert.RwkvStep.nD Cert.RwkvStep.τ).loc Cert.RwkvStep.main_arg12) = m ((c.tc : Thread Cert.RwkvStep.nD Cert.RwkvStep.τ).loc Cert.RwkvStep.main_arg12))
      ∧ r.2.sem = fun _ => 0)

def quiescent_RwkvStepIdeal [hRwkvStepIdeal : Cert.RwkvStepIdeal.Facts] : Prop :=
  ∀ (m : (ℓ : Loc Cert.RwkvStepIdeal.nD Cert.RwkvStepIdeal.τ Cert.RwkvStepIdeal.sig) → Buf (Elt Ideal) ℓ) (g : Dev Cert.RwkvStepIdeal.nD → PrngReg), Pre_RwkvStepIdeal m →
    θ_run (Cert.RwkvStepIdeal.defs (F := Ideal)) (onTc (τ := Cert.RwkvStepIdeal.τ) (Cert.RwkvStepIdeal.main (F := Ideal))) ⟨m, fun _ => 0, g⟩ (fun r => (∀ c : Dev Cert.RwkvStepIdeal.nD,
      r.2.mem ((c.tc : Thread Cert.RwkvStepIdeal.nD Cert.RwkvStepIdeal.τ).loc Cert.RwkvStepIdeal.main_arg0) = m ((c.tc : Thread Cert.RwkvStepIdeal.nD Cert.RwkvStepIdeal.τ).loc Cert.RwkvStepIdeal.main_arg0)
      ∧ r.2.mem ((c.tc : Thread Cert.RwkvStepIdeal.nD Cert.RwkvStepIdeal.τ).loc Cert.RwkvStepIdeal.main_arg1) = m ((c.tc : Thread Cert.RwkvStepIdeal.nD Cert.RwkvStepIdeal.τ).loc Cert.RwkvStepIdeal.main_arg1)
      ∧ r.2.mem ((c.tc : Thread Cert.RwkvStepIdeal.nD Cert.RwkvStepIdeal.τ).loc Cert.RwkvStepIdeal.main_arg2) = m ((c.tc : Thread Cert.RwkvStepIdeal.nD Cert.RwkvStepIdeal.τ).loc Cert.RwkvStepIdeal.main_arg2)
      ∧ r.2.mem ((c.tc : Thread Cert.RwkvStepIdeal.nD Cert.RwkvStepIdeal.τ).loc Cert.RwkvStepIdeal.main_arg3) = m ((c.tc : Thread Cert.RwkvStepIdeal.nD Cert.RwkvStepIdeal.τ).loc Cert.RwkvStepIdeal.main_arg3)
      ∧ r.2.mem ((c.tc : Thread Cert.RwkvStepIdeal.nD Cert.RwkvStepIdeal.τ).loc Cert.RwkvStepIdeal.main_arg4) = m ((c.tc : Thread Cert.RwkvStepIdeal.nD Cert.RwkvStepIdeal.τ).loc Cert.RwkvStepIdeal.main_arg4)
      ∧ r.2.mem ((c.tc : Thread Cert.RwkvStepIdeal.nD Cert.RwkvStepIdeal.τ).loc Cert.RwkvStepIdeal.main_arg5) = m ((c.tc : Thread Cert.RwkvStepIdeal.nD Cert.RwkvStepIdeal.τ).loc Cert.RwkvStepIdeal.main_arg5)
      ∧ r.2.mem ((c.tc : Thread Cert.RwkvStepIdeal.nD Cert.RwkvStepIdeal.τ).loc Cert.RwkvStepIdeal.main_arg6) = m ((c.tc : Thread Cert.RwkvStepIdeal.nD Cert.RwkvStepIdeal.τ).loc Cert.RwkvStepIdeal.main_arg6)
      ∧ r.2.mem ((c.tc : Thread Cert.RwkvStepIdeal.nD Cert.RwkvStepIdeal.τ).loc Cert.RwkvStepIdeal.main_arg7) = m ((c.tc : Thread Cert.RwkvStepIdeal.nD Cert.RwkvStepIdeal.τ).loc Cert.RwkvStepIdeal.main_arg7)
      ∧ r.2.mem ((c.tc : Thread Cert.RwkvStepIdeal.nD Cert.RwkvStepIdeal.τ).loc Cert.RwkvStepIdeal.main_arg8) = m ((c.tc : Thread Cert.RwkvStepIdeal.nD Cert.RwkvStepIdeal.τ).loc Cert.RwkvStepIdeal.main_arg8)
      ∧ r.2.mem ((c.tc : Thread Cert.RwkvStepIdeal.nD Cert.RwkvStepIdeal.τ).loc Cert.RwkvStepIdeal.main_arg9) = m ((c.tc : Thread Cert.RwkvStepIdeal.nD Cert.RwkvStepIdeal.τ).loc Cert.RwkvStepIdeal.main_arg9)
      ∧ r.2.mem ((c.tc : Thread Cert.RwkvStepIdeal.nD Cert.RwkvStepIdeal.τ).loc Cert.RwkvStepIdeal.main_arg10) = m ((c.tc : Thread Cert.RwkvStepIdeal.nD Cert.RwkvStepIdeal.τ).loc Cert.RwkvStepIdeal.main_arg10)
      ∧ r.2.mem ((c.tc : Thread Cert.RwkvStepIdeal.nD Cert.RwkvStepIdeal.τ).loc Cert.RwkvStepIdeal.main_arg11) = m ((c.tc : Thread Cert.RwkvStepIdeal.nD Cert.RwkvStepIdeal.τ).loc Cert.RwkvStepIdeal.main_arg11)
      ∧ r.2.mem ((c.tc : Thread Cert.RwkvStepIdeal.nD Cert.RwkvStepIdeal.τ).loc Cert.RwkvStepIdeal.main_arg12) = m ((c.tc : Thread Cert.RwkvStepIdeal.nD Cert.RwkvStepIdeal.τ).loc Cert.RwkvStepIdeal.main_arg12))
      ∧ r.2.sem = fun _ => 0)

def quiescent_RwkvRefIdeal [hRwkvRefIdeal : Cert.RwkvRefIdeal.Facts] : Prop :=
  ∀ (m : (ℓ : Loc Cert.RwkvRefIdeal.nD Cert.RwkvRefIdeal.τ Cert.RwkvRefIdeal.sig) → Buf (Elt Ideal) ℓ) (g : Dev Cert.RwkvRefIdeal.nD → PrngReg), Pre_RwkvRefIdeal m →
    θ_run (Cert.RwkvRefIdeal.defs (F := Ideal)) (onTc (τ := Cert.RwkvRefIdeal.τ) (Cert.RwkvRefIdeal.main (F := Ideal))) ⟨m, fun _ => 0, g⟩ (fun r => (∀ c : Dev Cert.RwkvRefIdeal.nD,
      r.2.mem ((c.tc : Thread Cert.RwkvRefIdeal.nD Cert.RwkvRefIdeal.τ).loc Cert.RwkvRefIdeal.main_arg0) = m ((c.tc : Thread Cert.RwkvRefIdeal.nD Cert.RwkvRefIdeal.τ).loc Cert.RwkvRefIdeal.main_arg0)
      ∧ r.2.mem ((c.tc : Thread Cert.RwkvRefIdeal.nD Cert.RwkvRefIdeal.τ).loc Cert.RwkvRefIdeal.main_arg1) = m ((c.tc : Thread Cert.RwkvRefIdeal.nD Cert.RwkvRefIdeal.τ).loc Cert.RwkvRefIdeal.main_arg1)
      ∧ r.2.mem ((c.tc : Thread Cert.RwkvRefIdeal.nD Cert.RwkvRefIdeal.τ).loc Cert.RwkvRefIdeal.main_arg2) = m ((c.tc : Thread Cert.RwkvRefIdeal.nD Cert.RwkvRefIdeal.τ).loc Cert.RwkvRefIdeal.main_arg2)
      ∧ r.2.mem ((c.tc : Thread Cert.RwkvRefIdeal.nD Cert.RwkvRefIdeal.τ).loc Cert.RwkvRefIdeal.main_arg3) = m ((c.tc : Thread Cert.RwkvRefIdeal.nD Cert.RwkvRefIdeal.τ).loc Cert.RwkvRefIdeal.main_arg3)
      ∧ r.2.mem ((c.tc : Thread Cert.RwkvRefIdeal.nD Cert.RwkvRefIdeal.τ).loc Cert.RwkvRefIdeal.main_arg4) = m ((c.tc : Thread Cert.RwkvRefIdeal.nD Cert.RwkvRefIdeal.τ).loc Cert.RwkvRefIdeal.main_arg4)
      ∧ r.2.mem ((c.tc : Thread Cert.RwkvRefIdeal.nD Cert.RwkvRefIdeal.τ).loc Cert.RwkvRefIdeal.main_arg5) = m ((c.tc : Thread Cert.RwkvRefIdeal.nD Cert.RwkvRefIdeal.τ).loc Cert.RwkvRefIdeal.main_arg5)
      ∧ r.2.mem ((c.tc : Thread Cert.RwkvRefIdeal.nD Cert.RwkvRefIdeal.τ).loc Cert.RwkvRefIdeal.main_arg6) = m ((c.tc : Thread Cert.RwkvRefIdeal.nD Cert.RwkvRefIdeal.τ).loc Cert.RwkvRefIdeal.main_arg6)
      ∧ r.2.mem ((c.tc : Thread Cert.RwkvRefIdeal.nD Cert.RwkvRefIdeal.τ).loc Cert.RwkvRefIdeal.main_arg7) = m ((c.tc : Thread Cert.RwkvRefIdeal.nD Cert.RwkvRefIdeal.τ).loc Cert.RwkvRefIdeal.main_arg7)
      ∧ r.2.mem ((c.tc : Thread Cert.RwkvRefIdeal.nD Cert.RwkvRefIdeal.τ).loc Cert.RwkvRefIdeal.main_arg8) = m ((c.tc : Thread Cert.RwkvRefIdeal.nD Cert.RwkvRefIdeal.τ).loc Cert.RwkvRefIdeal.main_arg8)
      ∧ r.2.mem ((c.tc : Thread Cert.RwkvRefIdeal.nD Cert.RwkvRefIdeal.τ).loc Cert.RwkvRefIdeal.main_arg9) = m ((c.tc : Thread Cert.RwkvRefIdeal.nD Cert.RwkvRefIdeal.τ).loc Cert.RwkvRefIdeal.main_arg9)
      ∧ r.2.mem ((c.tc : Thread Cert.RwkvRefIdeal.nD Cert.RwkvRefIdeal.τ).loc Cert.RwkvRefIdeal.main_arg10) = m ((c.tc : Thread Cert.RwkvRefIdeal.nD Cert.RwkvRefIdeal.τ).loc Cert.RwkvRefIdeal.main_arg10)
      ∧ r.2.mem ((c.tc : Thread Cert.RwkvRefIdeal.nD Cert.RwkvRefIdeal.τ).loc Cert.RwkvRefIdeal.main_arg11) = m ((c.tc : Thread Cert.RwkvRefIdeal.nD Cert.RwkvRefIdeal.τ).loc Cert.RwkvRefIdeal.main_arg11)
      ∧ r.2.mem ((c.tc : Thread Cert.RwkvRefIdeal.nD Cert.RwkvRefIdeal.τ).loc Cert.RwkvRefIdeal.main_arg12) = m ((c.tc : Thread Cert.RwkvRefIdeal.nD Cert.RwkvRefIdeal.τ).loc Cert.RwkvRefIdeal.main_arg12))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14))
      ∧ r.2.sem = fun _ => 0)

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v4_0)) (v1 : (c : Dev Cert.ProjIdeal.nD) → Buf (Elt Ideal) ((c.tc : Thread Cert.ProjIdeal.nD Cert.ProjIdeal.τ).loc Cert.ProjIdeal.main_v4_1)) (v2 : (c : Dev Cert.ProjIdeal.nD) → Buf (Elt Ideal) ((c.tc : Thread Cert.ProjIdeal.nD Cert.ProjIdeal.τ).loc Cert.ProjIdeal.main_v4_2)) (v3 : (c : Dev Cert.ProjIdeal.nD) → Buf (Elt Ideal) ((c.tc : Thread Cert.ProjIdeal.nD Cert.ProjIdeal.τ).loc Cert.ProjIdeal.main_v7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4_0) = v0 c
          ∧ r.2.mem ((c.tc : Thread Cert.ProjIdeal.nD Cert.ProjIdeal.τ).loc Cert.ProjIdeal.main_v4_1) = v1 c
          ∧ r.2.mem ((c.tc : Thread Cert.ProjIdeal.nD Cert.ProjIdeal.τ).loc Cert.ProjIdeal.main_v4_2) = v2 c
          ∧ r.2.mem ((c.tc : Thread Cert.ProjIdeal.nD Cert.ProjIdeal.τ).loc Cert.ProjIdeal.main_v7) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_v4) = v1 c
          ∧ r.2.mem ((c.tc : Thread Cert.ProjRefIdeal.nD Cert.ProjRefIdeal.τ).loc Cert.ProjRefIdeal.main_v6) = v2 c
          ∧ r.2.mem ((c.tc : Thread Cert.ProjRefIdeal.nD Cert.ProjRefIdeal.τ).loc Cert.ProjRefIdeal.main_v9) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v11)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v11) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v55) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_GlaStep_GlaStepIdeal : Prop :=
  True

def algebraic_GlaStepIdeal_GlaRefIdeal_pre_finite_qkv [hGlaStepIdeal : Cert.GlaStepIdeal.Facts] [hGlaRefIdeal : Cert.GlaRefIdeal.Facts] [hPre_finite_qkv : Cert.Pre_finite_qkv.Facts] : Prop :=
  ∀ (m : (ℓ : Loc Cert.GlaStepIdeal.nD Cert.GlaStepIdeal.τ Cert.GlaStepIdeal.sig) → Buf (Elt Ideal) ℓ) (g : Dev Cert.GlaStepIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaStepIdeal_finite_qkv m →
    (∀ c : Dev Cert.GlaStepIdeal.nD,
      m' ((c.tc : Thread Cert.GlaRefIdeal.nD Cert.GlaRefIdeal.τ).loc Cert.GlaRefIdeal.main_arg0) = m ((c.tc : Thread Cert.GlaStepIdeal.nD Cert.GlaStepIdeal.τ).loc Cert.GlaStepIdeal.main_arg0)
      ∧ m' ((c.tc : Thread Cert.GlaRefIdeal.nD Cert.GlaRefIdeal.τ).loc Cert.GlaRefIdeal.main_arg1) = m ((c.tc : Thread Cert.GlaStepIdeal.nD Cert.GlaStepIdeal.τ).loc Cert.GlaStepIdeal.main_arg1)
      ∧ m' ((c.tc : Thread Cert.GlaRefIdeal.nD Cert.GlaRefIdeal.τ).loc Cert.GlaRefIdeal.main_arg2) = m ((c.tc : Thread Cert.GlaStepIdeal.nD Cert.GlaStepIdeal.τ).loc Cert.GlaStepIdeal.main_arg2)
      ∧ m' ((c.tc : Thread Cert.GlaRefIdeal.nD Cert.GlaRefIdeal.τ).loc Cert.GlaRefIdeal.main_arg3) = m ((c.tc : Thread Cert.GlaStepIdeal.nD Cert.GlaStepIdeal.τ).loc Cert.GlaStepIdeal.main_arg3)
      ∧ m' ((c.tc : Thread Cert.GlaRefIdeal.nD Cert.GlaRefIdeal.τ).loc Cert.GlaRefIdeal.main_arg4) = m ((c.tc : Thread Cert.GlaStepIdeal.nD Cert.GlaStepIdeal.τ).loc Cert.GlaStepIdeal.main_arg4)) →
    ∃ (v0 : (c : Dev Cert.GlaStepIdeal.nD) → Buf (Elt Ideal) ((c.tc : Thread Cert.GlaStepIdeal.nD Cert.GlaStepIdeal.τ).loc Cert.GlaStepIdeal.main_v8_0)) (v1 : (c : Dev Cert.GlaStepIdeal.nD) → Buf (Elt Ideal) ((c.tc : Thread Cert.GlaStepIdeal.nD Cert.GlaStepIdeal.τ).loc Cert.GlaStepIdeal.main_v8_1)),
      θ_run (Cert.GlaStepIdeal.defs (F := Ideal)) (onTc (τ := Cert.GlaStepIdeal.τ) (Cert.GlaStepIdeal.main (F := Ideal))) ⟨m, fun _ => 0, g⟩ (fun r => ∀ c : Dev Cert.GlaStepIdeal.nD,
          r.2.mem ((c.tc : Thread Cert.GlaStepIdeal.nD Cert.GlaStepIdeal.τ).loc Cert.GlaStepIdeal.main_v8_0) = v0 c
          ∧ r.2.mem ((c.tc : Thread Cert.GlaStepIdeal.nD Cert.GlaStepIdeal.τ).loc Cert.GlaStepIdeal.main_v8_1) = v1 c
          ∧ r.2.mem ((c.tc : Thread Cert.GlaStepIdeal.nD Cert.GlaStepIdeal.τ).loc Cert.GlaStepIdeal.main_arg0) = m ((c.tc : Thread Cert.GlaStepIdeal.nD Cert.GlaStepIdeal.τ).loc Cert.GlaStepIdeal.main_arg0)
          ∧ r.2.mem ((c.tc : Thread Cert.GlaStepIdeal.nD Cert.GlaStepIdeal.τ).loc Cert.GlaStepIdeal.main_arg1) = m ((c.tc : Thread Cert.GlaStepIdeal.nD Cert.GlaStepIdeal.τ).loc Cert.GlaStepIdeal.main_arg1)
          ∧ r.2.mem ((c.tc : Thread Cert.GlaStepIdeal.nD Cert.GlaStepIdeal.τ).loc Cert.GlaStepIdeal.main_arg2) = m ((c.tc : Thread Cert.GlaStepIdeal.nD Cert.GlaStepIdeal.τ).loc Cert.GlaStepIdeal.main_arg2)
          ∧ r.2.mem ((c.tc : Thread Cert.GlaStepIdeal.nD Cert.GlaStepIdeal.τ).loc Cert.GlaStepIdeal.main_arg3) = m ((c.tc : Thread Cert.GlaStepIdeal.nD Cert.GlaStepIdeal.τ).loc Cert.GlaStepIdeal.main_arg3)
          ∧ r.2.mem ((c.tc : Thread Cert.GlaStepIdeal.nD Cert.GlaStepIdeal.τ).loc Cert.GlaStepIdeal.main_arg4) = m ((c.tc : Thread Cert.GlaStepIdeal.nD Cert.GlaStepIdeal.τ).loc Cert.GlaStepIdeal.main_arg4))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v48) = v0 c
          ∧ r.2.mem ((c.tc : Thread Cert.GlaRefIdeal.nD Cert.GlaRefIdeal.τ).loc Cert.GlaRefIdeal.main_v30) = v1 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4))

def preserves_ProjSample_ProjSampleIdeal : Prop :=
  True

def algebraic_ProjSampleIdeal_ProjSampleRefIdeal [hProjSampleIdeal : Cert.ProjSampleIdeal.Facts] [hProjSampleRefIdeal : Cert.ProjSampleRefIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg)
    (m' : (ℓ : Loc Cert.ProjSampleRefIdeal.nD Cert.ProjSampleRefIdeal.τ Cert.ProjSampleRefIdeal.sig) → Buf (Elt Ideal) ℓ) (g' : Dev Cert.ProjSampleRefIdeal.nD → PrngReg), Pre_ProjSampleIdeal m →
    (∀ c : Dev Cert.ProjSampleIdeal.nD,
      m' ((c.tc : Thread Cert.ProjSampleRefIdeal.nD Cert.ProjSampleRefIdeal.τ).loc Cert.ProjSampleRefIdeal.main_arg0) = m ((c.tc : Thread Cert.ProjSampleIdeal.nD Cert.ProjSampleIdeal.τ).loc Cert.ProjSampleIdeal.main_arg0)
      ∧ m' ((c.tc : Thread Cert.ProjSampleRefIdeal.nD Cert.ProjSampleRefIdeal.τ).loc Cert.ProjSampleRefIdeal.main_arg1) = m ((c.tc : Thread Cert.ProjSampleIdeal.nD Cert.ProjSampleIdeal.τ).loc Cert.ProjSampleIdeal.main_arg1)) →
    ∃ (v0 : (c : Dev Cert.ProjSampleIdeal.nD) → Buf (Elt Ideal) ((c.tc : Thread Cert.ProjSampleIdeal.nD Cert.ProjSampleIdeal.τ).loc Cert.ProjSampleIdeal.main_v4_0)) (v1 : (c : Dev Cert.ProjSampleIdeal.nD) → Buf (Elt Ideal) ((c.tc : Thread Cert.ProjSampleIdeal.nD Cert.ProjSampleIdeal.τ).loc Cert.ProjSampleIdeal.main_v4_1)) (v2 : (c : Dev Cert.ProjSampleIdeal.nD) → Buf (Elt Ideal) ((c.tc : Thread Cert.ProjSampleIdeal.nD Cert.ProjSampleIdeal.τ).loc Cert.ProjSampleIdeal.main_v4_2)),
      θ_run (Cert.ProjSampleIdeal.defs (F := Ideal)) (onTc (τ := Cert.ProjSampleIdeal.τ) (Cert.ProjSampleIdeal.main (F := Ideal))) ⟨m, fun _ => 0, g⟩ (fun r => ∀ c : Dev Cert.ProjSampleIdeal.nD,
          r.2.mem ((c.tc : Thread Cert.ProjSampleIdeal.nD Cert.ProjSampleIdeal.τ).loc Cert.ProjSampleIdeal.main_v4_0) = v0 c
          ∧ r.2.mem ((c.tc : Thread Cert.ProjSampleIdeal.nD Cert.ProjSampleIdeal.τ).loc Cert.ProjSampleIdeal.main_v4_1) = v1 c
          ∧ r.2.mem ((c.tc : Thread Cert.ProjSampleIdeal.nD Cert.ProjSampleIdeal.τ).loc Cert.ProjSampleIdeal.main_v4_2) = v2 c
          ∧ r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
          ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1))
      ∧ θ_run (Cert.ProjSampleRefIdeal.defs (F := Ideal)) (onTc (τ := Cert.ProjSampleRefIdeal.τ) (Cert.ProjSampleRefIdeal.main (F := Ideal))) ⟨m', fun _ => 0, g'⟩ (fun r => ∀ c : Dev Cert.ProjSampleRefIdeal.nD,
          r.2.mem ((c.tc : Thread Cert.ProjSampleRefIdeal.nD Cert.ProjSampleRefIdeal.τ).loc Cert.ProjSampleRefIdeal.main_v3) = v0 c
          ∧ r.2.mem ((c.tc : Thread Cert.ProjSampleRefIdeal.nD Cert.ProjSampleRefIdeal.τ).loc Cert.ProjSampleRefIdeal.main_v4) = v1 c
          ∧ r.2.mem ((c.tc : Thread Cert.ProjSampleRefIdeal.nD Cert.ProjSampleRefIdeal.τ).loc Cert.ProjSampleRefIdeal.main_v6) = v2 c
          ∧ r.2.mem ((c.tc : Thread Cert.ProjSampleRefIdeal.nD Cert.ProjSampleRefIdeal.τ).loc Cert.ProjSampleRefIdeal.main_arg0) = m' ((c.tc : Thread Cert.ProjSampleRefIdeal.nD Cert.ProjSampleRefIdeal.τ).loc Cert.ProjSampleRefIdeal.main_arg0)
          ∧ r.2.mem ((c.tc : Thread Cert.ProjSampleRefIdeal.nD Cert.ProjSampleRefIdeal.τ).loc Cert.ProjSampleRefIdeal.main_arg1) = m' ((c.tc : Thread Cert.ProjSampleRefIdeal.nD Cert.ProjSampleRefIdeal.τ).loc Cert.ProjSampleRefIdeal.main_arg1))

def preserves_MergeSample_MergeSampleIdeal : Prop :=
  True

def algebraic_MergeSampleIdeal_MergeSampleRefIdeal [hMergeSampleIdeal : Cert.MergeSampleIdeal.Facts] [hMergeSampleRefIdeal : Cert.MergeSampleRefIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg)
    (m' : (ℓ : Loc Cert.MergeSampleRefIdeal.nD Cert.MergeSampleRefIdeal.τ Cert.MergeSampleRefIdeal.sig) → Buf (Elt Ideal) ℓ) (g' : Dev Cert.MergeSampleRefIdeal.nD → PrngReg), Pre_MergeSampleIdeal m →
    (∀ c : Dev Cert.MergeSampleIdeal.nD,
      m' ((c.tc : Thread Cert.MergeSampleRefIdeal.nD Cert.MergeSampleRefIdeal.τ).loc Cert.MergeSampleRefIdeal.main_arg0) = m ((c.tc : Thread Cert.MergeSampleIdeal.nD Cert.MergeSampleIdeal.τ).loc Cert.MergeSampleIdeal.main_arg0)
      ∧ m' ((c.tc : Thread Cert.MergeSampleRefIdeal.nD Cert.MergeSampleRefIdeal.τ).loc Cert.MergeSampleRefIdeal.main_arg1) = m ((c.tc : Thread Cert.MergeSampleIdeal.nD Cert.MergeSampleIdeal.τ).loc Cert.MergeSampleIdeal.main_arg1)
      ∧ m' ((c.tc : Thread Cert.MergeSampleRefIdeal.nD Cert.MergeSampleRefIdeal.τ).loc Cert.MergeSampleRefIdeal.main_arg2) = m ((c.tc : Thread Cert.MergeSampleIdeal.nD Cert.MergeSampleIdeal.τ).loc Cert.MergeSampleIdeal.main_arg2)
      ∧ m' ((c.tc : Thread Cert.MergeSampleRefIdeal.nD Cert.MergeSampleRefIdeal.τ).loc Cert.MergeSampleRefIdeal.main_arg3) = m ((c.tc : Thread Cert.MergeSampleIdeal.nD Cert.MergeSampleIdeal.τ).loc Cert.MergeSampleIdeal.main_arg3)
      ∧ m' ((c.tc : Thread Cert.MergeSampleRefIdeal.nD Cert.MergeSampleRefIdeal.τ).loc Cert.MergeSampleRefIdeal.main_arg4) = m ((c.tc : Thread Cert.MergeSampleIdeal.nD Cert.MergeSampleIdeal.τ).loc Cert.MergeSampleIdeal.main_arg4)
      ∧ m' ((c.tc : Thread Cert.MergeSampleRefIdeal.nD Cert.MergeSampleRefIdeal.τ).loc Cert.MergeSampleRefIdeal.main_arg5) = m ((c.tc : Thread Cert.MergeSampleIdeal.nD Cert.MergeSampleIdeal.τ).loc Cert.MergeSampleIdeal.main_arg5)
      ∧ m' ((c.tc : Thread Cert.MergeSampleRefIdeal.nD Cert.MergeSampleRefIdeal.τ).loc Cert.MergeSampleRefIdeal.main_arg6) = m ((c.tc : Thread Cert.MergeSampleIdeal.nD Cert.MergeSampleIdeal.τ).loc Cert.MergeSampleIdeal.main_arg6)
      ∧ m' ((c.tc : Thread Cert.MergeSampleRefIdeal.nD Cert.MergeSampleRefIdeal.τ).loc Cert.MergeSampleRefIdeal.main_arg7) = m ((c.tc : Thread Cert.MergeSampleIdeal.nD Cert.MergeSampleIdeal.τ).loc Cert.MergeSampleIdeal.main_arg7)
      ∧ m' ((c.tc : Thread Cert.MergeSampleRefIdeal.nD Cert.MergeSampleRefIdeal.τ).loc Cert.MergeSampleRefIdeal.main_arg8) = m ((c.tc : Thread Cert.MergeSampleIdeal.nD Cert.MergeSampleIdeal.τ).loc Cert.MergeSampleIdeal.main_arg8)) →
    ∃ (v0 : (c : Dev Cert.MergeSampleIdeal.nD) → Buf (Elt Ideal) ((c.tc : Thread Cert.MergeSampleIdeal.nD Cert.MergeSampleIdeal.τ).loc Cert.MergeSampleIdeal.main_v11)),
      θ_run (Cert.MergeSampleIdeal.defs (F := Ideal)) (onTc (τ := Cert.MergeSampleIdeal.τ) (Cert.MergeSampleIdeal.main (F := Ideal))) ⟨m, fun _ => 0, g⟩ (fun r => ∀ c : Dev Cert.MergeSampleIdeal.nD,
          r.2.mem ((c.tc : Thread Cert.MergeSampleIdeal.nD Cert.MergeSampleIdeal.τ).loc Cert.MergeSampleIdeal.main_v11) = v0 c
          ∧ r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
          ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
          ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
          ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
          ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
          ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
          ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
          ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7)
          ∧ r.2.mem ((c.tc : Thread Cert.MergeSampleIdeal.nD Cert.MergeSampleIdeal.τ).loc Cert.MergeSampleIdeal.main_arg8) = m ((c.tc : Thread Cert.MergeSampleIdeal.nD Cert.MergeSampleIdeal.τ).loc Cert.MergeSampleIdeal.main_arg8))
      ∧ θ_run (Cert.MergeSampleRefIdeal.defs (F := Ideal)) (onTc (τ := Cert.MergeSampleRefIdeal.τ) (Cert.MergeSampleRefIdeal.main (F := Ideal))) ⟨m', fun _ => 0, g'⟩ (fun r => ∀ c : Dev Cert.MergeSampleRefIdeal.nD,
          r.2.mem ((c.tc : Thread Cert.MergeSampleRefIdeal.nD Cert.MergeSampleRefIdeal.τ).loc Cert.MergeSampleRefIdeal.main_v53) = v0 c
          ∧ r.2.mem ((c.tc : Thread Cert.MergeSampleRefIdeal.nD Cert.MergeSampleRefIdeal.τ).loc Cert.MergeSampleRefIdeal.main_arg0) = m' ((c.tc : Thread Cert.MergeSampleRefIdeal.nD Cert.MergeSampleRefIdeal.τ).loc Cert.MergeSampleRefIdeal.main_arg0)
          ∧ r.2.mem ((c.tc : Thread Cert.MergeSampleRefIdeal.nD Cert.MergeSampleRefIdeal.τ).loc Cert.MergeSampleRefIdeal.main_arg1) = m' ((c.tc : Thread Cert.MergeSampleRefIdeal.nD Cert.MergeSampleRefIdeal.τ).loc Cert.MergeSampleRefIdeal.main_arg1)
          ∧ r.2.mem ((c.tc : Thread Cert.MergeSampleRefIdeal.nD Cert.MergeSampleRefIdeal.τ).loc Cert.MergeSampleRefIdeal.main_arg2) = m' ((c.tc : Thread Cert.MergeSampleRefIdeal.nD Cert.MergeSampleRefIdeal.τ).loc Cert.MergeSampleRefIdeal.main_arg2)
          ∧ r.2.mem ((c.tc : Thread Cert.MergeSampleRefIdeal.nD Cert.MergeSampleRefIdeal.τ).loc Cert.MergeSampleRefIdeal.main_arg3) = m' ((c.tc : Thread Cert.MergeSampleRefIdeal.nD Cert.MergeSampleRefIdeal.τ).loc Cert.MergeSampleRefIdeal.main_arg3)
          ∧ r.2.mem ((c.tc : Thread Cert.MergeSampleRefIdeal.nD Cert.MergeSampleRefIdeal.τ).loc Cert.MergeSampleRefIdeal.main_arg4) = m' ((c.tc : Thread Cert.MergeSampleRefIdeal.nD Cert.MergeSampleRefIdeal.τ).loc Cert.MergeSampleRefIdeal.main_arg4)
          ∧ r.2.mem ((c.tc : Thread Cert.MergeSampleRefIdeal.nD Cert.MergeSampleRefIdeal.τ).loc Cert.MergeSampleRefIdeal.main_arg5) = m' ((c.tc : Thread Cert.MergeSampleRefIdeal.nD Cert.MergeSampleRefIdeal.τ).loc Cert.MergeSampleRefIdeal.main_arg5)
          ∧ r.2.mem ((c.tc : Thread Cert.MergeSampleRefIdeal.nD Cert.MergeSampleRefIdeal.τ).loc Cert.MergeSampleRefIdeal.main_arg6) = m' ((c.tc : Thread Cert.MergeSampleRefIdeal.nD Cert.MergeSampleRefIdeal.τ).loc Cert.MergeSampleRefIdeal.main_arg6)
          ∧ r.2.mem ((c.tc : Thread Cert.MergeSampleRefIdeal.nD Cert.MergeSampleRefIdeal.τ).loc Cert.MergeSampleRefIdeal.main_arg7) = m' ((c.tc : Thread Cert.MergeSampleRefIdeal.nD Cert.MergeSampleRefIdeal.τ).loc Cert.MergeSampleRefIdeal.main_arg7)
          ∧ r.2.mem ((c.tc : Thread Cert.MergeSampleRefIdeal.nD Cert.MergeSampleRefIdeal.τ).loc Cert.MergeSampleRefIdeal.main_arg8) = m' ((c.tc : Thread Cert.MergeSampleRefIdeal.nD Cert.MergeSampleRefIdeal.τ).loc Cert.MergeSampleRefIdeal.main_arg8))

def preserves_RwkvStep_RwkvStepIdeal : Prop :=
  True

def algebraic_RwkvStepIdeal_RwkvRefIdeal [hRwkvStepIdeal : Cert.RwkvStepIdeal.Facts] [hRwkvRefIdeal : Cert.RwkvRefIdeal.Facts] : Prop :=
  ∀ (m : (ℓ : Loc Cert.RwkvStepIdeal.nD Cert.RwkvStepIdeal.τ Cert.RwkvStepIdeal.sig) → Buf (Elt Ideal) ℓ) (g : Dev Cert.RwkvStepIdeal.nD → PrngReg)
    (m' : (ℓ : Loc Cert.RwkvRefIdeal.nD Cert.RwkvRefIdeal.τ Cert.RwkvRefIdeal.sig) → Buf (Elt Ideal) ℓ) (g' : Dev Cert.RwkvRefIdeal.nD → PrngReg), Pre_RwkvStepIdeal m →
    (∀ c : Dev Cert.RwkvStepIdeal.nD,
      m' ((c.tc : Thread Cert.RwkvRefIdeal.nD Cert.RwkvRefIdeal.τ).loc Cert.RwkvRefIdeal.main_arg0) = m ((c.tc : Thread Cert.RwkvStepIdeal.nD Cert.RwkvStepIdeal.τ).loc Cert.RwkvStepIdeal.main_arg0)
      ∧ m' ((c.tc : Thread Cert.RwkvRefIdeal.nD Cert.RwkvRefIdeal.τ).loc Cert.RwkvRefIdeal.main_arg1) = m ((c.tc : Thread Cert.RwkvStepIdeal.nD Cert.RwkvStepIdeal.τ).loc Cert.RwkvStepIdeal.main_arg1)
      ∧ m' ((c.tc : Thread Cert.RwkvRefIdeal.nD Cert.RwkvRefIdeal.τ).loc Cert.RwkvRefIdeal.main_arg2) = m ((c.tc : Thread Cert.RwkvStepIdeal.nD Cert.RwkvStepIdeal.τ).loc Cert.RwkvStepIdeal.main_arg2)
      ∧ m' ((c.tc : Thread Cert.RwkvRefIdeal.nD Cert.RwkvRefIdeal.τ).loc Cert.RwkvRefIdeal.main_arg3) = m ((c.tc : Thread Cert.RwkvStepIdeal.nD Cert.RwkvStepIdeal.τ).loc Cert.RwkvStepIdeal.main_arg3)
      ∧ m' ((c.tc : Thread Cert.RwkvRefIdeal.nD Cert.RwkvRefIdeal.τ).loc Cert.RwkvRefIdeal.main_arg4) = m ((c.tc : Thread Cert.RwkvStepIdeal.nD Cert.RwkvStepIdeal.τ).loc Cert.RwkvStepIdeal.main_arg4)
      ∧ m' ((c.tc : Thread Cert.RwkvRefIdeal.nD Cert.RwkvRefIdeal.τ).loc Cert.RwkvRefIdeal.main_arg5) = m ((c.tc : Thread Cert.RwkvStepIdeal.nD Cert.RwkvStepIdeal.τ).loc Cert.RwkvStepIdeal.main_arg5)
      ∧ m' ((c.tc : Thread Cert.RwkvRefIdeal.nD Cert.RwkvRefIdeal.τ).loc Cert.RwkvRefIdeal.main_arg6) = m ((c.tc : Thread Cert.RwkvStepIdeal.nD Cert.RwkvStepIdeal.τ).loc Cert.RwkvStepIdeal.main_arg6)
      ∧ m' ((c.tc : Thread Cert.RwkvRefIdeal.nD Cert.RwkvRefIdeal.τ).loc Cert.RwkvRefIdeal.main_arg7) = m ((c.tc : Thread Cert.RwkvStepIdeal.nD Cert.RwkvStepIdeal.τ).loc Cert.RwkvStepIdeal.main_arg7)
      ∧ m' ((c.tc : Thread Cert.RwkvRefIdeal.nD Cert.RwkvRefIdeal.τ).loc Cert.RwkvRefIdeal.main_arg8) = m ((c.tc : Thread Cert.RwkvStepIdeal.nD Cert.RwkvStepIdeal.τ).loc Cert.RwkvStepIdeal.main_arg8)
      ∧ m' ((c.tc : Thread Cert.RwkvRefIdeal.nD Cert.RwkvRefIdeal.τ).loc Cert.RwkvRefIdeal.main_arg9) = m ((c.tc : Thread Cert.RwkvStepIdeal.nD Cert.RwkvStepIdeal.τ).loc Cert.RwkvStepIdeal.main_arg9)
      ∧ m' ((c.tc : Thread Cert.RwkvRefIdeal.nD Cert.RwkvRefIdeal.τ).loc Cert.RwkvRefIdeal.main_arg10) = m ((c.tc : Thread Cert.RwkvStepIdeal.nD Cert.RwkvStepIdeal.τ).loc Cert.RwkvStepIdeal.main_arg10)
      ∧ m' ((c.tc : Thread Cert.RwkvRefIdeal.nD Cert.RwkvRefIdeal.τ).loc Cert.RwkvRefIdeal.main_arg11) = m ((c.tc : Thread Cert.RwkvStepIdeal.nD Cert.RwkvStepIdeal.τ).loc Cert.RwkvStepIdeal.main_arg11)
      ∧ m' ((c.tc : Thread Cert.RwkvRefIdeal.nD Cert.RwkvRefIdeal.τ).loc Cert.RwkvRefIdeal.main_arg12) = m ((c.tc : Thread Cert.RwkvStepIdeal.nD Cert.RwkvStepIdeal.τ).loc Cert.RwkvStepIdeal.main_arg12)) →
    ∃ (v0 : (c : Dev Cert.RwkvStepIdeal.nD) → Buf (Elt Ideal) ((c.tc : Thread Cert.RwkvStepIdeal.nD Cert.RwkvStepIdeal.τ).loc Cert.RwkvStepIdeal.main_v25_1)),
      θ_run (Cert.RwkvStepIdeal.defs (F := Ideal)) (onTc (τ := Cert.RwkvStepIdeal.τ) (Cert.RwkvStepIdeal.main (F := Ideal))) ⟨m, fun _ => 0, g⟩ (fun r => ∀ c : Dev Cert.RwkvStepIdeal.nD,
          r.2.mem ((c.tc : Thread Cert.RwkvStepIdeal.nD Cert.RwkvStepIdeal.τ).loc Cert.RwkvStepIdeal.main_v25_1) = v0 c
          ∧ r.2.mem ((c.tc : Thread Cert.RwkvStepIdeal.nD Cert.RwkvStepIdeal.τ).loc Cert.RwkvStepIdeal.main_arg0) = m ((c.tc : Thread Cert.RwkvStepIdeal.nD Cert.RwkvStepIdeal.τ).loc Cert.RwkvStepIdeal.main_arg0)
          ∧ r.2.mem ((c.tc : Thread Cert.RwkvStepIdeal.nD Cert.RwkvStepIdeal.τ).loc Cert.RwkvStepIdeal.main_arg1) = m ((c.tc : Thread Cert.RwkvStepIdeal.nD Cert.RwkvStepIdeal.τ).loc Cert.RwkvStepIdeal.main_arg1)
          ∧ r.2.mem ((c.tc : Thread Cert.RwkvStepIdeal.nD Cert.RwkvStepIdeal.τ).loc Cert.RwkvStepIdeal.main_arg2) = m ((c.tc : Thread Cert.RwkvStepIdeal.nD Cert.RwkvStepIdeal.τ).loc Cert.RwkvStepIdeal.main_arg2)
          ∧ r.2.mem ((c.tc : Thread Cert.RwkvStepIdeal.nD Cert.RwkvStepIdeal.τ).loc Cert.RwkvStepIdeal.main_arg3) = m ((c.tc : Thread Cert.RwkvStepIdeal.nD Cert.RwkvStepIdeal.τ).loc Cert.RwkvStepIdeal.main_arg3)
          ∧ r.2.mem ((c.tc : Thread Cert.RwkvStepIdeal.nD Cert.RwkvStepIdeal.τ).loc Cert.RwkvStepIdeal.main_arg4) = m ((c.tc : Thread Cert.RwkvStepIdeal.nD Cert.RwkvStepIdeal.τ).loc Cert.RwkvStepIdeal.main_arg4)
          ∧ r.2.mem ((c.tc : Thread Cert.RwkvStepIdeal.nD Cert.RwkvStepIdeal.τ).loc Cert.RwkvStepIdeal.main_arg5) = m ((c.tc : Thread Cert.RwkvStepIdeal.nD Cert.RwkvStepIdeal.τ).loc Cert.RwkvStepIdeal.main_arg5)
          ∧ r.2.mem ((c.tc : Thread Cert.RwkvStepIdeal.nD Cert.RwkvStepIdeal.τ).loc Cert.RwkvStepIdeal.main_arg6) = m ((c.tc : Thread Cert.RwkvStepIdeal.nD Cert.RwkvStepIdeal.τ).loc Cert.RwkvStepIdeal.main_arg6)
          ∧ r.2.mem ((c.tc : Thread Cert.RwkvStepIdeal.nD Cert.RwkvStepIdeal.τ).loc Cert.RwkvStepIdeal.main_arg7) = m ((c.tc : Thread Cert.RwkvStepIdeal.nD Cert.RwkvStepIdeal.τ).loc Cert.RwkvStepIdeal.main_arg7)
          ∧ r.2.mem ((c.tc : Thread Cert.RwkvStepIdeal.nD Cert.RwkvStepIdeal.τ).loc Cert.RwkvStepIdeal.main_arg8) = m ((c.tc : Thread Cert.RwkvStepIdeal.nD Cert.RwkvStepIdeal.τ).loc Cert.RwkvStepIdeal.main_arg8)
          ∧ r.2.mem ((c.tc : Thread Cert.RwkvStepIdeal.nD Cert.RwkvStepIdeal.τ).loc Cert.RwkvStepIdeal.main_arg9) = m ((c.tc : Thread Cert.RwkvStepIdeal.nD Cert.RwkvStepIdeal.τ).loc Cert.RwkvStepIdeal.main_arg9)
          ∧ r.2.mem ((c.tc : Thread Cert.RwkvStepIdeal.nD Cert.RwkvStepIdeal.τ).loc Cert.RwkvStepIdeal.main_arg10) = m ((c.tc : Thread Cert.RwkvStepIdeal.nD Cert.RwkvStepIdeal.τ).loc Cert.RwkvStepIdeal.main_arg10)
          ∧ r.2.mem ((c.tc : Thread Cert.RwkvStepIdeal.nD Cert.RwkvStepIdeal.τ).loc Cert.RwkvStepIdeal.main_arg11) = m ((c.tc : Thread Cert.RwkvStepIdeal.nD Cert.RwkvStepIdeal.τ).loc Cert.RwkvStepIdeal.main_arg11)
          ∧ r.2.mem ((c.tc : Thread Cert.RwkvStepIdeal.nD Cert.RwkvStepIdeal.τ).loc Cert.RwkvStepIdeal.main_arg12) = m ((c.tc : Thread Cert.RwkvStepIdeal.nD Cert.RwkvStepIdeal.τ).loc Cert.RwkvStepIdeal.main_arg12))
      ∧ θ_run (Cert.RwkvRefIdeal.defs (F := Ideal)) (onTc (τ := Cert.RwkvRefIdeal.τ) (Cert.RwkvRefIdeal.main (F := Ideal))) ⟨m', fun _ => 0, g'⟩ (fun r => ∀ c : Dev Cert.RwkvRefIdeal.nD,
          r.2.mem ((c.tc : Thread Cert.RwkvRefIdeal.nD Cert.RwkvRefIdeal.τ).loc Cert.RwkvRefIdeal.main_v84) = v0 c
          ∧ r.2.mem ((c.tc : Thread Cert.RwkvRefIdeal.nD Cert.RwkvRefIdeal.τ).loc Cert.RwkvRefIdeal.main_arg0) = m' ((c.tc : Thread Cert.RwkvRefIdeal.nD Cert.RwkvRefIdeal.τ).loc Cert.RwkvRefIdeal.main_arg0)
          ∧ r.2.mem ((c.tc : Thread Cert.RwkvRefIdeal.nD Cert.RwkvRefIdeal.τ).loc Cert.RwkvRefIdeal.main_arg1) = m' ((c.tc : Thread Cert.RwkvRefIdeal.nD Cert.RwkvRefIdeal.τ).loc Cert.RwkvRefIdeal.main_arg1)
          ∧ r.2.mem ((c.tc : Thread Cert.RwkvRefIdeal.nD Cert.RwkvRefIdeal.τ).loc Cert.RwkvRefIdeal.main_arg2) = m' ((c.tc : Thread Cert.RwkvRefIdeal.nD Cert.RwkvRefIdeal.τ).loc Cert.RwkvRefIdeal.main_arg2)
          ∧ r.2.mem ((c.tc : Thread Cert.RwkvRefIdeal.nD Cert.RwkvRefIdeal.τ).loc Cert.RwkvRefIdeal.main_arg3) = m' ((c.tc : Thread Cert.RwkvRefIdeal.nD Cert.RwkvRefIdeal.τ).loc Cert.RwkvRefIdeal.main_arg3)
          ∧ r.2.mem ((c.tc : Thread Cert.RwkvRefIdeal.nD Cert.RwkvRefIdeal.τ).loc Cert.RwkvRefIdeal.main_arg4) = m' ((c.tc : Thread Cert.RwkvRefIdeal.nD Cert.RwkvRefIdeal.τ).loc Cert.RwkvRefIdeal.main_arg4)
          ∧ r.2.mem ((c.tc : Thread Cert.RwkvRefIdeal.nD Cert.RwkvRefIdeal.τ).loc Cert.RwkvRefIdeal.main_arg5) = m' ((c.tc : Thread Cert.RwkvRefIdeal.nD Cert.RwkvRefIdeal.τ).loc Cert.RwkvRefIdeal.main_arg5)
          ∧ r.2.mem ((c.tc : Thread Cert.RwkvRefIdeal.nD Cert.RwkvRefIdeal.τ).loc Cert.RwkvRefIdeal.main_arg6) = m' ((c.tc : Thread Cert.RwkvRefIdeal.nD Cert.RwkvRefIdeal.τ).loc Cert.RwkvRefIdeal.main_arg6)
          ∧ r.2.mem ((c.tc : Thread Cert.RwkvRefIdeal.nD Cert.RwkvRefIdeal.τ).loc Cert.RwkvRefIdeal.main_arg7) = m' ((c.tc : Thread Cert.RwkvRefIdeal.nD Cert.RwkvRefIdeal.τ).loc Cert.RwkvRefIdeal.main_arg7)
          ∧ r.2.mem ((c.tc : Thread Cert.RwkvRefIdeal.nD Cert.RwkvRefIdeal.τ).loc Cert.RwkvRefIdeal.main_arg8) = m' ((c.tc : Thread Cert.RwkvRefIdeal.nD Cert.RwkvRefIdeal.τ).loc Cert.RwkvRefIdeal.main_arg8)
          ∧ r.2.mem ((c.tc : Thread Cert.RwkvRefIdeal.nD Cert.RwkvRefIdeal.τ).loc Cert.RwkvRefIdeal.main_arg9) = m' ((c.tc : Thread Cert.RwkvRefIdeal.nD Cert.RwkvRefIdeal.τ).loc Cert.RwkvRefIdeal.main_arg9)
          ∧ r.2.mem ((c.tc : Thread Cert.RwkvRefIdeal.nD Cert.RwkvRefIdeal.τ).loc Cert.RwkvRefIdeal.main_arg10) = m' ((c.tc : Thread Cert.RwkvRefIdeal.nD Cert.RwkvRefIdeal.τ).loc Cert.RwkvRefIdeal.main_arg10)
          ∧ r.2.mem ((c.tc : Thread Cert.RwkvRefIdeal.nD Cert.RwkvRefIdeal.τ).loc Cert.RwkvRefIdeal.main_arg11) = m' ((c.tc : Thread Cert.RwkvRefIdeal.nD Cert.RwkvRefIdeal.τ).loc Cert.RwkvRefIdeal.main_arg11)
          ∧ r.2.mem ((c.tc : Thread Cert.RwkvRefIdeal.nD Cert.RwkvRefIdeal.τ).loc Cert.RwkvRefIdeal.main_arg12) = m' ((c.tc : Thread Cert.RwkvRefIdeal.nD Cert.RwkvRefIdeal.τ).loc Cert.RwkvRefIdeal.main_arg12))

def preserves_Mix_MixIdeal : Prop :=
  True

def Claim : Prop :=
  ∃ (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hGlaStep : Cert.GlaStep.Facts) (hGlaStepIdeal : Cert.GlaStepIdeal.Facts) (hGlaRefIdeal : Cert.GlaRefIdeal.Facts) (hProjSample : Cert.ProjSample.Facts) (hProjSampleIdeal : Cert.ProjSampleIdeal.Facts) (hProjSampleRefIdeal : Cert.ProjSampleRefIdeal.Facts) (hMergeSample : Cert.MergeSample.Facts) (hMergeSampleIdeal : Cert.MergeSampleIdeal.Facts) (hMergeSampleRefIdeal : Cert.MergeSampleRefIdeal.Facts) (hRwkvStep : Cert.RwkvStep.Facts) (hRwkvStepIdeal : Cert.RwkvStepIdeal.Facts) (hRwkvRefIdeal : Cert.RwkvRefIdeal.Facts) (hMix : Cert.Mix.Facts) (hMixIdeal : Cert.MixIdeal.Facts) (hPre_finite_qkv : Cert.Pre_finite_qkv.Facts),
    quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_GlaStep (hGlaStep := hGlaStep)
    ∧ quiescent_GlaStepIdeal (hGlaStepIdeal := hGlaStepIdeal)
    ∧ quiescent_GlaStepIdeal_pre_finite_qkv (hGlaStepIdeal := hGlaStepIdeal) (hPre_finite_qkv := hPre_finite_qkv)
    ∧ quiescent_GlaRefIdeal (hGlaRefIdeal := hGlaRefIdeal)
    ∧ quiescent_GlaRefIdeal_pre_finite_qkv (hGlaRefIdeal := hGlaRefIdeal) (hPre_finite_qkv := hPre_finite_qkv)
    ∧ quiescent_ProjSample (hProjSample := hProjSample)
    ∧ quiescent_ProjSampleIdeal (hProjSampleIdeal := hProjSampleIdeal)
    ∧ quiescent_ProjSampleRefIdeal (hProjSampleRefIdeal := hProjSampleRefIdeal)
    ∧ quiescent_MergeSample (hMergeSample := hMergeSample)
    ∧ quiescent_MergeSampleIdeal (hMergeSampleIdeal := hMergeSampleIdeal)
    ∧ quiescent_MergeSampleRefIdeal (hMergeSampleRefIdeal := hMergeSampleRefIdeal)
    ∧ quiescent_RwkvStep (hRwkvStep := hRwkvStep)
    ∧ quiescent_RwkvStepIdeal (hRwkvStepIdeal := hRwkvStepIdeal)
    ∧ quiescent_RwkvRefIdeal (hRwkvRefIdeal := hRwkvRefIdeal)
    ∧ quiescent_Mix (hMix := hMix)
    ∧ quiescent_MixIdeal (hMixIdeal := hMixIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_GlaStep_GlaStepIdeal
    ∧ algebraic_GlaStepIdeal_GlaRefIdeal_pre_finite_qkv (hGlaStepIdeal := hGlaStepIdeal) (hGlaRefIdeal := hGlaRefIdeal) (hPre_finite_qkv := hPre_finite_qkv)
    ∧ preserves_ProjSample_ProjSampleIdeal
    ∧ algebraic_ProjSampleIdeal_ProjSampleRefIdeal (hProjSampleIdeal := hProjSampleIdeal) (hProjSampleRefIdeal := hProjSampleRefIdeal)
    ∧ preserves_MergeSample_MergeSampleIdeal
    ∧ algebraic_MergeSampleIdeal_MergeSampleRefIdeal (hMergeSampleIdeal := hMergeSampleIdeal) (hMergeSampleRefIdeal := hMergeSampleRefIdeal)
    ∧ preserves_RwkvStep_RwkvStepIdeal
    ∧ algebraic_RwkvStepIdeal_RwkvRefIdeal (hRwkvStepIdeal := hRwkvStepIdeal) (hRwkvRefIdeal := hRwkvRefIdeal)
    ∧ preserves_Mix_MixIdeal
-- ==== Pre_finite_qkv.lean ====
abbrev S128x3200 : Shape := ⟨2, ![128, 3200]⟩
abbrev S1x128x4x128x256 : Shape := ⟨5, ![1, 128, 4, 128, 256]⟩
abbrev S1x16x512 : Shape := ⟨3, ![1, 16, 512]⟩
abbrev S1x512 : Shape := ⟨2, ![1, 512]⟩
abbrev S1x256 : Shape := ⟨2, ![1, 256]⟩
abbrev S128x2048 : Shape := ⟨2, ![128, 2048]⟩
abbrev S_ : Shape := ⟨0, ![]⟩

class Facts : Prop where
  slices_S128x3200_S128x2048_0_0 : S128x3200.Slices ![0, 0] S128x2048
  bcast_S_S128x2048 : S_.BroadcastsInDim S128x2048 (![] : Fin 0 → Fin S128x2048.rank)

variable [Facts]

def fn {F : FTy → Type} [FloatOps F] (main_arg0 : FVec F S128x3200 .f32) (main_arg1 : FVec F S1x128x4x128x256 .f32) (main_arg2 : FVec F S1x16x512 .f32) (main_arg3 : FVec F S1x512 .f32) (main_arg4 : FVec F S1x256 .f32) : IVec S128x2048 1 :=
  let main_v0 : FVec F S128x2048 .f32 := (extractStridedSlice S128x2048 ![0, 0] · slices_S128x3200_S128x2048_0_0) main_arg0
  let main_v1 : FVec F S128x2048 .f32 := Host.absf main_v0
  let main_cst : FVec F S_ .f32 := constant S_ .f32 0x7F800000#32
  let main_v2 : FVec F S128x2048 .f32 := broadcastInDim S128x2048 ![] bcast_S_S128x2048 main_cst
  let main_v3 : IVec S128x2048 1 := cmpf .olt main_v1 main_v2
  main_v3
-- ==== Proj.lean ====
abbrev S8x2048x1024 : Shape := ⟨3, ![8, 2048, 1024]⟩
abbrev S1x1024x9360 : Shape := ⟨3, ![1, 1024, 9360]⟩
abbrev S16384x1024 : Shape := ⟨2, ![16384, 1024]⟩
abbrev S1024x9360 : Shape := ⟨2, ![1024, 9360]⟩
abbrev S9360x1024 : Shape := ⟨2, ![9360, 1024]⟩
abbrev S16384x3200 : Shape := ⟨2, ![16384, 3200]⟩
abbrev S16384x4224 : Shape := ⟨2, ![16384, 4224]⟩
abbrev S16384x2048 : Shape := ⟨2, ![16384, 2048]⟩
abbrev S256x1024 : Shape := ⟨2, ![256, 1024]⟩
abbrev S256x3200 : Shape := ⟨2, ![256, 3200]⟩
abbrev S256x4224 : Shape := ⟨2, ![256, 4224]⟩
abbrev S256x2048 : Shape := ⟨2, ![256, 2048]⟩
abbrev S256x9360 : Shape := ⟨2, ![256, 9360]⟩
abbrev S8x2048x4224 : Shape := ⟨3, ![8, 2048, 4224]⟩
abbrev S8x1x4224 : Shape := ⟨3, ![8, 1, 4224]⟩
abbrev S8x4224 : Shape := ⟨2, ![8, 4224]⟩

abbrev nBuf : Space → Nat
  | .hbm => 12
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S1x1024x9360, .f32⟩
  | .hbm, ⟨2, _⟩ => ⟨S16384x1024, .f32⟩
  | .hbm, ⟨3, _⟩ => ⟨S1024x9360, .f32⟩
  | .hbm, ⟨4, _⟩ => ⟨S9360x1024, .f32⟩
  | .hbm, ⟨5, _⟩ => ⟨S9360x1024, .bf16⟩
  | .hbm, ⟨6, _⟩ => ⟨S16384x3200, .f32⟩
  | .hbm, ⟨7, _⟩ => ⟨S16384x4224, .f32⟩
  | .hbm, ⟨8, _⟩ => ⟨S16384x2048, .bf16⟩
  | .hbm, ⟨9, _⟩ => ⟨S8x2048x4224, .f32⟩
  | .hbm, ⟨10, _⟩ => ⟨S8x1x4224, .f32⟩
  | .hbm, ⟨11, _⟩ => ⟨S8x4224, .f32⟩
  | .local _ .vmem, ⟨0, _⟩ => ⟨S256x1024, .f32⟩
  | .local _ .vmem, ⟨1, _⟩ => ⟨S256x1024, .f32⟩
  | .local _ .vmem, ⟨2, _⟩ => ⟨S9360x1024, .bf16⟩
  | .local _ .vmem, ⟨3, _⟩ => ⟨S256x3200, .f32⟩
  | .local _ .vmem, ⟨4, _⟩ => ⟨S256x3200, .f32⟩
  | .local _ .vmem, ⟨5, _⟩ => ⟨S256x4224, .f32⟩
  | .local _ .vmem, ⟨6, _⟩ => ⟨S256x4224, .f32⟩
  | .local _ .vmem, ⟨7, _⟩ => ⟨S256x2048, .bf16⟩
  | .local _ .vmem, ⟨8, _⟩ => ⟨S256x2048, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9360x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjRefIdeal.lean ====
abbrev S8x2048x1024 : Shape := ⟨3, ![8, 2048, 1024]⟩
abbrev S1x1024x9360 : Shape := ⟨3, ![1, 1024, 9360]⟩
abbrev S1024x9360 : Shape := ⟨2, ![1024, 9360]⟩
abbrev S8x2048x9360 : Shape := ⟨3, ![8, 2048, 9360]⟩
abbrev S16384x9360 : Shape := ⟨2, ![16384, 9360]⟩
abbrev S16384x3200 : Shape := ⟨2, ![16384, 3200]⟩
abbrev S16384x4224 : Shape := ⟨2, ![16384, 4224]⟩
abbrev S16384x2048 : Shape := ⟨2, ![16384, 2048]⟩
abbrev S8x1x4224 : Shape := ⟨3, ![8, 1, 4224]⟩
abbrev S8x4224 : Shape := ⟨2, ![8, 4224]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024x9360, .f32⟩
  | .hbm, ⟨2, _⟩ => ⟨S1024x9360, .f32⟩
  | .hbm, ⟨3, _⟩ => ⟨S8x2048x9360, .f32⟩
  | .hbm, ⟨4, _⟩ => ⟨S16384x9360, .f32⟩
  | .hbm, ⟨5, _⟩ => ⟨S16384x3200, .f32⟩
  | .hbm, ⟨6, _⟩ => ⟨S16384x4224, .f32⟩
  | .hbm, ⟨7, _⟩ => ⟨S16384x2048, .f32⟩
  | .hbm, ⟨8, _⟩ => ⟨S16384x2048, .bf16⟩
  | .hbm, ⟨9, _⟩ => ⟨S8x2048x9360, .f32⟩
  | .hbm, ⟨10, _⟩ => ⟨S8x1x4224, .f32⟩
  | .hbm, ⟨11, _⟩ => ⟨S8x4224, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Merge.lean ====
abbrev S16384x1024 : Shape := ⟨2, ![16384, 1024]⟩
abbrev S16384x2048 : Shape := ⟨2, ![16384, 2048]⟩
abbrev S8x2048x1024 : Shape := ⟨3, ![8, 2048, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S1024x2048 : Shape := ⟨2, ![1024, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 21
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .bf16⟩
  | .hbm, ⟨3, _⟩ => ⟨S8x2048x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S16384x1024, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S16384x1024 : Shape := ⟨2, ![16384, 1024]⟩
abbrev S16384x2048 : Shape := ⟨2, ![16384, 2048]⟩
abbrev S8x2048x1024 : Shape := ⟨3, ![8, 2048, 1024]⟩
abbrev S1x1024x1024 : Shape := ⟨3, ![1, 1024, 1024]⟩
abbrev S1x1024 : Shape := ⟨2, ![1, 1024]⟩
abbrev S_ : Shape := ⟨0, ![]⟩
abbrev S1024x1024 : Shape := ⟨2, ![1024, 1024]⟩
abbrev S16384 : Shape := ⟨1, ![16384]⟩
abbrev S16384x1 : Shape := ⟨2, ![16384, 1]⟩
abbrev S1024 : Shape := ⟨1, ![1024]⟩

abbrev nBuf : Space → Nat
  | .hbm => 75
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .bf16⟩
  | .hbm, ⟨3, _⟩ => ⟨S8x2048x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x2048, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S1024x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S1024x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S1024x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S16384x1, .f32⟩
  | .hbm, ⟨65, _⟩ => ⟨S16384x1024, .f32⟩
  | .hbm, ⟨66, _⟩ => ⟨S16384x1024, .f32⟩
  | .hbm, ⟨67, _⟩ => ⟨S1024, .f32⟩
  | .hbm, ⟨68, _⟩ => ⟨S1x1024, .f32⟩
  | .hbm, ⟨69, _⟩ => ⟨S16384x1024, .f32⟩
  | .hbm, ⟨70, _⟩ => ⟨S16384x1024, .f32⟩
  | .hbm, ⟨71, _⟩ => ⟨S1024, .f32⟩
  | .hbm, ⟨72, _⟩ => ⟨S1x1024, .f32⟩
  | .hbm, ⟨73, _⟩ => ⟨S16384x1024, .f32⟩
  | .hbm, ⟨74, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== GlaStep.lean ====
abbrev S128x3200 : Shape := ⟨2, ![128, 3200]⟩
abbrev S1x128x4x128x256 : Shape := ⟨5, ![1, 128, 4, 128, 256]⟩
abbrev S1x16x512 : Shape := ⟨3, ![1, 16, 512]⟩
abbrev S1x512 : Shape := ⟨2, ![1, 512]⟩
abbrev S1x256 : Shape := ⟨2, ![1, 256]⟩
abbrev S16x512 : Shape := ⟨2, ![16, 512]⟩
abbrev S_ : Shape := ⟨0, ![]⟩
abbrev S128x512 : Shape := ⟨2, ![128, 512]⟩
abbrev S128x4x128x256 : Shape := ⟨4, ![128, 4, 128, 256]⟩
abbrev S512 : Shape := ⟨1, ![512]⟩
abbrev S256 : Shape := ⟨1, ![256]⟩
abbrev S128x1024 : Shape := ⟨2, ![128, 1024]⟩
abbrev S16x3200 : Shape := ⟨2, ![16, 3200]⟩
abbrev S16x4x128x256 : Shape := ⟨4, ![16, 4, 128, 256]⟩
abbrev S16x1024 : Shape := ⟨2, ![16, 1024]⟩
abbrev S16x128 : Shape := ⟨2, ![16, 128]⟩
abbrev S16x256 : Shape := ⟨2, ![16, 256]⟩
abbrev S1x128 : Shape := ⟨2, ![1, 128]⟩
abbrev S128x256 : Shape := ⟨2, ![128, 256]⟩
abbrev S1x1x128x256 : Shape := ⟨4, ![1, 1, 128, 256]⟩
abbrev S16 : Shape := ⟨1, ![16]⟩
abbrev S16x1 : Shape := ⟨2, ![16, 1]⟩

abbrev nBuf : Space → Nat
  | .hbm => 17
  | .vmem => 12
  | .smem => 0
  | _ => 0

abbrev bufTy : (tb : Table) → Fin (tcTables nBuf tb) → BufTy
  | .hbm, ⟨0, _⟩ => ⟨S128x3200, .f32⟩
  | .hbm, ⟨1, _⟩ => ⟨S1x128x4x128x256, .f32⟩
  | .hbm, ⟨2, _⟩ => ⟨S1x16x512, .f32⟩
  | .hbm, ⟨3, _⟩ => ⟨S1x512, .f32⟩
  | .hbm, ⟨4, _⟩ => ⟨S1x256, .f32⟩
  | .hbm, ⟨5, _⟩ => ⟨S16x512, .f32⟩
  | .hbm, ⟨6, _⟩ => ⟨S_, .i32⟩
  | .hbm, ⟨7, _⟩ => ⟨S_, .f32⟩
  | .hbm, ⟨8, _⟩ => ⟨S128x512, .f32⟩
  | .hbm, ⟨9, _⟩ => ⟨S128x512, .bf16⟩
  | .hbm, ⟨10, _⟩ => ⟨S128x4x128x256, .f32⟩
  | .hbm, ⟨11, _⟩ => ⟨S512, .f32⟩
  | .hbm, ⟨12, _⟩ => ⟨S1x512, .f32⟩
  | .hbm, ⟨13, _⟩ => ⟨S256, .f32⟩
  | .hbm, ⟨14, _⟩ => ⟨S1x256, .f32⟩
  | .hbm, ⟨15, _⟩ => ⟨S128x1024, .f32⟩
  | .hbm, ⟨16, _⟩ => ⟨S128x4x128x256, .f32⟩
  | .local _ .vmem, ⟨0, _⟩ => ⟨S16x3200, .f32⟩
  | .local _ .vmem, ⟨1, _⟩ => ⟨S16x3200, .f32⟩
  | .local _ .vmem, ⟨2, _⟩ => ⟨S16x4x128x256, .f32⟩
  | .local _ .vmem, ⟨3, _⟩ => ⟨S16x4x128x256, .f32⟩
  | .local _ .vmem, ⟨4, _⟩ => ⟨S128x512, .bf16⟩
  | .local _ .vmem, ⟨5, _⟩ => ⟨S1x512, .f32⟩
  | .local _ .vmem, ⟨6, _⟩ => ⟨S1x256, .f32⟩
  | .local _ .vmem, ⟨7, _⟩ => ⟨S16x1024, .f32⟩
  | .local _ .vmem, ⟨8, _⟩ => ⟨S16x1024, .f32⟩
  | .local _ .vmem, ⟨9, _⟩ => ⟨S16x4x128x256, .f32⟩
  | .local _ .vmem, ⟨10, _⟩ => ⟨S16x4x128x256, .f32⟩
  | .local _ .vmem, ⟨11, _⟩ => ⟨S16x1024, .f32⟩
  | _, _ => ⟨S128x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x4x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GlaRefIdeal.lean ====
abbrev S128x3200 : Shape := ⟨2, ![128, 3200]⟩
abbrev S1x128x4x128x256 : Shape := ⟨5, ![1, 128, 4, 128, 256]⟩
abbrev S1x16x512 : Shape := ⟨3, ![1, 16, 512]⟩
abbrev S1x512 : Shape := ⟨2, ![1, 512]⟩
abbrev S1x256 : Shape := ⟨2, ![1, 256]⟩
abbrev S128x512 : Shape := ⟨2, ![128, 512]⟩
abbrev S128x1024 : Shape := ⟨2, ![128, 1024]⟩
abbrev S128x16 : Shape := ⟨2, ![128, 16]⟩
abbrev S16x512 : Shape := ⟨2, ![16, 512]⟩
abbrev S512 : Shape := ⟨1, ![512]⟩
abbrev S_ : Shape := ⟨0, ![]⟩
abbrev S128x4x128 : Shape := ⟨3, ![128, 4, 128]⟩
abbrev S128x4x256 : Shape := ⟨3, ![128, 4, 256]⟩
abbrev S128x4x128x1 : Shape := ⟨4, ![128, 4, 128, 1]⟩
abbrev S128x4x128x256 : Shape := ⟨4, ![128, 4, 128, 256]⟩
abbrev S128x4x1x256 : Shape := ⟨4, ![128, 4, 1, 256]⟩
abbrev S128x4 : Shape := ⟨2, ![128, 4]⟩
abbrev S128x4x1 : Shape := ⟨3, ![128, 4, 1]⟩
abbrev S256 : Shape := ⟨1, ![256]⟩
abbrev S1x1x256 : Shape := ⟨3, ![1, 1, 256]⟩

abbrev nBuf : Space → Nat
  | .hbm => 82
  | .vmem => 0
  | .smem => 0
  | _ => 0

abbrev bufTy : (tb : Table) → Fin (tcTables nBuf tb) → BufTy
  | .hbm, ⟨0, _⟩ => ⟨S128x3200, .f32⟩
  | .hbm, ⟨1, _⟩ => ⟨S1x128x4x128x256, .f32⟩
  | .hbm, ⟨2, _⟩ => ⟨S1x16x512, .f32⟩
  | .hbm, ⟨3, _⟩ => ⟨S1x512, .f32⟩
  | .hbm, ⟨4, _⟩ => ⟨S1x256, .f32⟩
  | .hbm, ⟨5, _⟩ => ⟨S128x512, .f32⟩
  | .hbm, ⟨6, _⟩ => ⟨S128x512, .f32⟩
  | .hbm, ⟨7, _⟩ => ⟨S128x1024, .f32⟩
  | .hbm, ⟨8, _⟩ => ⟨S128x1024, .f32⟩
  | .hbm, ⟨9, _⟩ => ⟨S128x16, .f32⟩
  | .hbm, ⟨10, _⟩ => ⟨S16x512, .f32⟩
  | .hbm, ⟨11, _⟩ => ⟨S128x512, .f32⟩
  | .hbm, ⟨12, _⟩ => ⟨S512, .f32⟩
  | .hbm, ⟨13, _⟩ => ⟨S1x512, .f32⟩
  | .hbm, ⟨14, _⟩ => ⟨S128x512, .f32⟩
  | .hbm, ⟨15, _⟩ => ⟨S128x512, .f32⟩
  | .hbm, ⟨16, _⟩ => ⟨S128x512, .f32⟩
  | .hbm, ⟨17, _⟩ => ⟨S_, .f32⟩
  | .hbm, ⟨18, _⟩ => ⟨S128x512, .f32⟩
  | .hbm, ⟨19, _⟩ => ⟨S128x512, .f32⟩
  | .hbm, ⟨20, _⟩ => ⟨S128x512, .f32⟩
  | .hbm, ⟨21, _⟩ => ⟨S128x512, .f32⟩
  | .hbm, ⟨22, _⟩ => ⟨S128x512, .i1⟩
  | .hbm, ⟨23, _⟩ => ⟨S128x512, .f32⟩
  | .hbm, ⟨24, _⟩ => ⟨S128x512, .f32⟩
  | .hbm, ⟨25, _⟩ => ⟨S128x512, .f32⟩
  | .hbm, ⟨26, _⟩ => ⟨S128x512, .f32⟩
  | .hbm, ⟨27, _⟩ => ⟨S128x512, .f32⟩
  | .hbm, ⟨28, _⟩ => ⟨S128x512, .f32⟩
  | .hbm, ⟨29, _⟩ => ⟨S128x512, .f32⟩
  | .hbm, ⟨30, _⟩ => ⟨S128x512, .f32⟩
  | .hbm, ⟨31, _⟩ => ⟨S128x512, .f32⟩
  | .hbm, ⟨32, _⟩ => ⟨S_, .f32⟩
  | .hbm, ⟨33, _⟩ => ⟨S128x512, .f32⟩
  | .hbm, ⟨34, _⟩ => ⟨S128x512, .f32⟩
  | .hbm, ⟨35, _⟩ => ⟨S_, .f32⟩
  | .hbm, ⟨36, _⟩ => ⟨S128x512, .f32⟩
  | .hbm, ⟨37, _⟩ => ⟨S128x512, .f32⟩
  | .hbm, ⟨38, _⟩ => ⟨S128x4x128, .f32⟩
  | .hbm, ⟨39, _⟩ => ⟨S128x4x128, .f32⟩
  | .hbm, ⟨40, _⟩ => ⟨S128x4x128, .f32⟩
  | .hbm, ⟨41, _⟩ => ⟨S128x4x256, .f32⟩
  | .hbm, ⟨42, _⟩ => ⟨S128x4x128, .f32⟩
  | .hbm, ⟨43, _⟩ => ⟨S128x4x128x1, .f32⟩
  | .hbm, ⟨44, _⟩ => ⟨S128x4x128x256, .f32⟩
  | .hbm, ⟨45, _⟩ => ⟨S128x4x128x256, .f32⟩
  | .hbm, ⟨46, _⟩ => ⟨S128x4x128x256, .f32⟩
  | .hbm, ⟨47, _⟩ => ⟨S128x4x128x1, .f32⟩
  | .hbm, ⟨48, _⟩ => ⟨S128x4x1x256, .f32⟩
  | .hbm, ⟨49, _⟩ => ⟨S128x4x128x256, .f32⟩
  | .hbm, ⟨50, _⟩ => ⟨S128x4x128x256, .f32⟩
  | .hbm, ⟨51, _⟩ => ⟨S128x4x128x256, .f32⟩
  | .hbm, ⟨52, _⟩ => ⟨S128x4x128x256, .f32⟩
  | .hbm, ⟨53, _⟩ => ⟨S128x4x256, .f32⟩
  | .hbm, ⟨54, _⟩ => ⟨S128x4x256, .f32⟩
  | .hbm, ⟨55, _⟩ => ⟨S_, .f32⟩
  | .hbm, ⟨56, _⟩ => ⟨S128x4, .f32⟩
  | .hbm, ⟨57, _⟩ => ⟨S128x4x1, .f32⟩
  | .hbm, ⟨58, _⟩ => ⟨S_, .f32⟩
  | .hbm, ⟨59, _⟩ => ⟨S128x4x1, .f32⟩
  | .hbm, ⟨60, _⟩ => ⟨S128x4x1, .f32⟩
  | .hbm, ⟨61, _⟩ => ⟨S_, .f32⟩
  | .hbm, ⟨62, _⟩ => ⟨S128x4x1, .f32⟩
  | .hbm, ⟨63, _⟩ => ⟨S128x4x1, .f32⟩
  | .hbm, ⟨64, _⟩ => ⟨S128x4x1, .f32⟩
  | .hbm, ⟨65, _⟩ => ⟨S128x4x256, .f32⟩
  | .hbm, ⟨66, _⟩ => ⟨S128x4x256, .f32⟩
  | .hbm, ⟨67, _⟩ => ⟨S256, .f32⟩
  | .hbm, ⟨68, _⟩ => ⟨S1x1x256, .f32⟩
  | .hbm, ⟨69, _⟩ => ⟨S128x4x256, .f32⟩
  | .hbm, ⟨70, _⟩ => ⟨S128x4x256, .f32⟩
  | .hbm, ⟨71, _⟩ => ⟨S128x1024, .f32⟩
  | .hbm, ⟨72, _⟩ => ⟨S128x1024, .f32⟩
  | .hbm, ⟨73, _⟩ => ⟨S128x1024, .f32⟩
  | .hbm, ⟨74, _⟩ => ⟨S_, .f32⟩
  | .hbm, ⟨75, _⟩ => ⟨S128x1024, .f32⟩
  | .hbm, ⟨76, _⟩ => ⟨S128x1024, .f32⟩
  | .hbm, ⟨77, _⟩ => ⟨S_, .f32⟩
  | .hbm, ⟨78, _⟩ => ⟨S128x1024, .f32⟩
  | .hbm, ⟨79, _⟩ => ⟨S128x1024, .f32⟩
  | .hbm, ⟨80, _⟩ => ⟨S128x1024, .f32⟩
  | .hbm, ⟨81, _⟩ => ⟨S128x1024, .f32⟩
  | _, _ => ⟨S128x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_cst_0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_1 : Ref sig .tc := ⟨.hbm, 55, rfl⟩
abbrev main_v33 : Ref sig .tc := ⟨.hbm, 56, rfl⟩
abbrev main_v34 : Ref sig .tc := ⟨.hbm, 57, rfl⟩
abbrev main_cst_2 : Ref sig .tc := ⟨.hbm, 58, rfl⟩
abbrev main_v35 : Ref sig .tc := ⟨.hbm, 59, rfl⟩
abbrev main_v36 : Ref sig .tc := ⟨.hbm, 60, rfl⟩
abbrev main_cst_3 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_v0 : Ref sig .tc := ⟨.hbm, 72, rfl⟩
abbrev main_call1_v1 : Ref sig .tc := ⟨.hbm, 73, rfl⟩
abbrev main_call1_cst : Ref sig .tc := ⟨.hbm, 74, rfl⟩
abbrev main_call1_v2 : Ref sig .tc := ⟨.hbm, 75, rfl⟩
abbrev main_call1_v3 : Ref sig .tc := ⟨.hbm, 76, rfl⟩
abbrev main_call1_cst_0 : Ref sig .tc := ⟨.hbm, 77, rfl⟩
abbrev main_call1_v4 : Ref sig .tc := ⟨.hbm, 78, rfl⟩
abbrev main_call1_v5 : Ref sig .tc := ⟨.hbm, 79, rfl⟩
abbrev main_v47 : Ref sig .tc := ⟨.hbm, 80, rfl⟩
abbrev main_v48 : Ref sig .tc := ⟨.hbm, 81, rfl⟩

abbrev nD : Nat := 1
abbrev τ : Topo := Topo.v7x

variable {F : FTy → Type} [FloatOps F]
-- ==== ProjSample.lean ====
abbrev S128x1x1024 : Shape := ⟨3, ![128, 1, 1024]⟩
abbrev S1x1024x9360 : Shape := ⟨3, ![1, 1024, 9360]⟩
abbrev S128x1024 : Shape := ⟨2, ![128, 1024]⟩
abbrev S1024x9360 : Shape := ⟨2, ![1024, 9360]⟩
abbrev S9360x1024 : Shape := ⟨2, ![9360, 1024]⟩
abbrev S128x3200 : Shape := ⟨2, ![128, 3200]⟩
abbrev S128x4224 : Shape := ⟨2, ![128, 4224]⟩
abbrev S128x2048 : Shape := ⟨2, ![128, 2048]⟩
abbrev S128x9360 : Shape := ⟨2, ![128, 9360]⟩

abbrev nBuf : Space → Nat
  | .hbm => 9
  | .vmem => 5
  | .smem => 0
  | _ => 0

abbrev bufTy : (tb : Table) → Fin (tcTables nBuf tb) → BufTy
  | .hbm, ⟨0, _⟩ => ⟨S128x1x1024, .f32⟩
  | .hbm, ⟨1, _⟩ => ⟨S1x1024x9360, .f32⟩
  | .hbm, ⟨2, _⟩ => ⟨S128x1024, .f32⟩
  | .hbm, ⟨3, _⟩ => ⟨S1024x9360, .f32⟩
  | .hbm, ⟨4, _⟩ => ⟨S9360x1024, .f32⟩
  | .hbm, ⟨5, _⟩ => ⟨S9360x1024, .bf16⟩
  | .hbm, ⟨6, _⟩ => ⟨S128x3200, .f32⟩
  | .hbm, ⟨7, _⟩ => ⟨S128x4224, .f32⟩
  | .hbm, ⟨8, _⟩ => ⟨S128x2048, .bf16⟩
  | .local _ .vmem, ⟨0, _⟩ => ⟨S128x1024, .f32⟩
  | .local _ .vmem, ⟨1, _⟩ => ⟨S9360x1024, .bf16⟩
  | .local _ .vmem, ⟨2, _⟩ => ⟨S128x3200, .f32⟩
  | .local _ .vmem, ⟨3, _⟩ => ⟨S128x4224, .f32⟩
  | .local _ .vmem, ⟨4, _⟩ => ⟨S128x2048, .bf16⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S9360x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x3200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x4224 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== ProjSampleRefIdeal.lean ====
abbrev S128x1x1024 : Shape := ⟨3, ![128, 1, 1024]⟩
abbrev S1x1024x9360 : Shape := ⟨3, ![1, 1024, 9360]⟩
abbrev S1024x9360 : Shape := ⟨2, ![1024, 9360]⟩
abbrev S128x1x9360 : Shape := ⟨3, ![128, 1, 9360]⟩
abbrev S128x9360 : Shape := ⟨2, ![128, 9360]⟩
abbrev S128x3200 : Shape := ⟨2, ![128, 3200]⟩
abbrev S128x4224 : Shape := ⟨2, ![128, 4224]⟩
abbrev S128x2048 : Shape := ⟨2, ![128, 2048]⟩

abbrev nBuf : Space → Nat
  | .hbm => 9
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1x1024x9360, .f32⟩
  | .hbm, ⟨2, _⟩ => ⟨S1024x9360, .f32⟩
  | .hbm, ⟨3, _⟩ => ⟨S128x1x9360, .f32⟩
  | .hbm, ⟨4, _⟩ => ⟨S128x9360, .f32⟩
  | .hbm, ⟨5, _⟩ => ⟨S128x3200, .f32⟩
  | .hbm, ⟨6, _⟩ => ⟨S128x4224, .f32⟩
  | .hbm, ⟨7, _⟩ => ⟨S128x2048, .f32⟩
  | .hbm, ⟨8, _⟩ => ⟨S128x2048, .bf16⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== MergeSample.lean ====
abbrev S128x1024 : Shape := ⟨2, ![128, 1024]⟩
abbrev S128x2048 : Shape := ⟨2, ![128, 2048]⟩
abbrev S128x1x1024 : Shape := ⟨3, ![128, 1, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S128 : Shape := ⟨1, ![128]⟩
abbrev S128x1 : Shape := ⟨2, ![128, 1]⟩

abbrev nBuf : Space → Nat
  | .hbm => 21
  | .vmem => 10
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x2048, .bf16⟩
  | .hbm, ⟨3, _⟩ => ⟨S128x1x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S128x1024, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x2048, .bf16⟩
  | .local _ .vmem, ⟨3, _⟩ => ⟨S128x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== MergeSampleRefIdeal.lean ====
abbrev S128x1024 : Shape := ⟨2, ![128, 1024]⟩
abbrev S128x2048 : Shape := ⟨2, ![128, 2048]⟩
abbrev S128x1x1024 : Shape := ⟨3, ![128, 1, 1024]⟩
abbrev S1x1024x1024 : Shape := ⟨3, ![1, 1024, 1024]⟩
abbrev S1x1024 : Shape := ⟨2, ![1, 1024]⟩
abbrev S_ : Shape := ⟨0, ![]⟩
abbrev S1024x1024 : Shape := ⟨2, ![1024, 1024]⟩
abbrev S128 : Shape := ⟨1, ![128]⟩
abbrev S128x1 : Shape := ⟨2, ![128, 1]⟩
abbrev S1024 : Shape := ⟨1, ![1024]⟩

abbrev nBuf : Space → Nat
  | .hbm => 73
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x2048, .bf16⟩
  | .hbm, ⟨3, _⟩ => ⟨S128x1x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S128x1024, .f32⟩
  | .hbm, ⟨10, _⟩ => ⟨S128x2048, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S1024x1024, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S1024x1024, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | .hbm, ⟨39, _⟩ => ⟨S1024x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128, .f32⟩
  | .hbm, ⟨44, _⟩ => ⟨S128x1, .f32⟩
  | .hbm, ⟨45, _⟩ => ⟨S_, .f32⟩
  | .hbm, ⟨46, _⟩ => ⟨S128x1, .f32⟩
  | .hbm, ⟨47, _⟩ => ⟨S128x1, .f32⟩
  | .hbm, ⟨48, _⟩ => ⟨S128x1024, .f32⟩
  | .hbm, ⟨49, _⟩ => ⟨S128x1024, .f32⟩
  | .hbm, ⟨50, _⟩ => ⟨S128x1024, .f32⟩
  | .hbm, ⟨51, _⟩ => ⟨S_, .f32⟩
  | .hbm, ⟨52, _⟩ => ⟨S128, .f32⟩
  | .hbm, ⟨53, _⟩ => ⟨S128x1, .f32⟩
  | .hbm, ⟨54, _⟩ => ⟨S_, .f32⟩
  | .hbm, ⟨55, _⟩ => ⟨S128x1, .f32⟩
  | .hbm, ⟨56, _⟩ => ⟨S128x1, .f32⟩
  | .hbm, ⟨57, _⟩ => ⟨S128x1024, .f32⟩
  | .hbm, ⟨58, _⟩ => ⟨S128x1024, .f32⟩
  | .hbm, ⟨59, _⟩ => ⟨S_, .f32⟩
  | .hbm, ⟨60, _⟩ => ⟨S128x1, .f32⟩
  | .hbm, ⟨61, _⟩ => ⟨S128x1, .f32⟩
  | .hbm, ⟨62, _⟩ => ⟨S128x1, .f32⟩
  | .hbm, ⟨63, _⟩ => ⟨S128x1024, .f32⟩
  | .hbm, ⟨64, _⟩ => ⟨S128x1024, .f32⟩
  | .hbm, ⟨65, _⟩ => ⟨S1024, .f32⟩
  | .hbm, ⟨66, _⟩ => ⟨S1x1024, .f32⟩
  | .hbm, ⟨67, _⟩ => ⟨S128x1024, .f32⟩
  | .hbm, ⟨68, _⟩ => ⟨S128x1024, .f32⟩
  | .hbm, ⟨69, _⟩ => ⟨S1024, .f32⟩
  | .hbm, ⟨70, _⟩ => ⟨S1x1024, .f32⟩
  | .hbm, ⟨71, _⟩ => ⟨S128x1024, .f32⟩
  | .hbm, ⟨72, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== RwkvStep.lean ====
abbrev S128x4224 : Shape := ⟨2, ![128, 4224]⟩
abbrev S1x128x4224 : Shape := ⟨3, ![1, 128, 4224]⟩
abbrev S1x128x16x64x64 : Shape := ⟨5, ![1, 128, 16, 64, 64]⟩
abbrev S1x4224 : Shape := ⟨2, ![1, 4224]⟩
abbrev S1x1024 : Shape := ⟨2, ![1, 1024]⟩
abbrev S1x64x1024 : Shape := ⟨3, ![1, 64, 1024]⟩
abbrev S1x16x64 : Shape := ⟨3, ![1, 16, 64]⟩
abbrev S64x1024 : Shape := ⟨2, ![64, 1024]⟩
abbrev S_ : Shape := ⟨0, ![]⟩
abbrev S128x1024 : Shape := ⟨2, ![128, 1024]⟩
abbrev S128x16x64x64 : Shape := ⟨4, ![128, 16, 64, 64]⟩
abbrev S16x64x64x128 : Shape := ⟨4, ![16, 64, 64, 128]⟩
abbrev S4224 : Shape := ⟨1, ![4224]⟩
abbrev S1024 : Shape := ⟨1, ![1024]⟩
abbrev S16x64 : Shape := ⟨2, ![16, 64]⟩
abbrev S1x64x64x128 : Shape := ⟨4, ![1, 64, 64, 128]⟩
abbrev S6x1024x128 : Shape := ⟨3, ![6, 1024, 128]⟩
abbrev S4x128x1024 : Shape := ⟨3, ![4, 128, 1024]⟩
abbrev S1024x128 : Shape := ⟨2, ![1024, 128]⟩
abbrev S128x128 : Shape := ⟨2, ![128, 128]⟩
abbrev S1x128 : Shape := ⟨2, ![1, 128]⟩
abbrev S1x128x128 : Shape := ⟨3, ![1, 128, 128]⟩
abbrev S1x64x128 : Shape := ⟨3, ![1, 64, 128]⟩
abbrev S64x128 : Shape := ⟨2, ![64, 128]⟩
abbrev S1x1x64x128 : Shape := ⟨4, ![1, 1, 64, 128]⟩
abbrev S128 : Shape := ⟨1, ![128]⟩
abbrev S2048x128 : Shape := ⟨2, ![2048, 128]⟩

abbrev nBuf : Space → Nat
  | .hbm => 44
  | .vmem => 20
  | .smem => 0
  | _ => 0

abbrev bufTy : (tb : Table) → Fin (tcTables nBuf tb) → BufTy
  | .hbm, ⟨0, _⟩ => ⟨S128x4224, .f32⟩
  | .hbm, ⟨1, _⟩ => ⟨S1x128x4224, .f32⟩
  | .hbm, ⟨2, _⟩ => ⟨S1x128x16x64x64, .f32⟩
  | .hbm, ⟨3, _⟩ => ⟨S1x4224, .f32⟩
  | .hbm, ⟨4, _⟩ => ⟨S1x1024, .f32⟩
  | .hbm, ⟨5, _⟩ => ⟨S1x64x1024, .f32⟩
  | .hbm, ⟨6, _⟩ => ⟨S1x1024, .f32⟩
  | .hbm, ⟨7, _⟩ => ⟨S1x64x1024, .f32⟩
  | .hbm, ⟨8, _⟩ => ⟨S1x1024, .f32⟩
  | .hbm, ⟨9, _⟩ => ⟨S1x1024, .f32⟩
  | .hbm, ⟨10, _⟩ => ⟨S1x16x64, .f32⟩
  | .hbm, ⟨11, _⟩ => ⟨S1x1024, .f32⟩
  | .hbm, ⟨12, _⟩ => ⟨S1x1024, .f32⟩
  | .hbm, ⟨13, _⟩ => ⟨S64x1024, .f32⟩
  | .hbm, ⟨14, _⟩ => ⟨S_, .i32⟩
  | .hbm, ⟨15, _⟩ => ⟨S_, .f32⟩
  | .hbm, ⟨16, _⟩ => ⟨S128x1024, .f32⟩
  | .hbm, ⟨17, _⟩ => ⟨S128x1024, .bf16⟩
  | .hbm, ⟨18, _⟩ => ⟨S64x1024, .f32⟩
  | .hbm, ⟨19, _⟩ => ⟨S_, .i32⟩
  | .hbm, ⟨20, _⟩ => ⟨S_, .f32⟩
  | .hbm, ⟨21, _⟩ => ⟨S128x1024, .f32⟩
  | .hbm, ⟨22, _⟩ => ⟨S128x1024, .bf16⟩
  | .hbm, ⟨23, _⟩ => ⟨S128x4224, .f32⟩
  | .hbm, ⟨24, _⟩ => ⟨S128x16x64x64, .f32⟩
  | .hbm, ⟨25, _⟩ => ⟨S16x64x64x128, .f32⟩
  | .hbm, ⟨26, _⟩ => ⟨S4224, .f32⟩
  | .hbm, ⟨27, _⟩ => ⟨S1x4224, .f32⟩
  | .hbm, ⟨28, _⟩ => ⟨S1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S16x64, .f32⟩
  | .hbm, ⟨37, _⟩ => ⟨S1x1024, .f32⟩
  | .hbm, ⟨38, _⟩ => ⟨S1024, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S128x1024, .f32⟩
  | .hbm, ⟨43, _⟩ => ⟨S16x64x64x128, .f32⟩
  | .local _ .vmem, ⟨0, _⟩ => ⟨S128x4224, .f32⟩
  | .local _ .vmem, ⟨1, _⟩ => ⟨S128x4224, .f32⟩
  | .local _ .vmem, ⟨2, _⟩ => ⟨S1x64x64x128, .f32⟩
  | .local _ .vmem, ⟨3, _⟩ => ⟨S1x64x64x128, .f32⟩
  | .local _ .vmem, ⟨4, _⟩ => ⟨S1x4224, .f32⟩
  | .local _ .vmem, ⟨5, _⟩ => ⟨S1x1024, .f32⟩
  | .local _ .vmem, ⟨6, _⟩ => ⟨S128x1024, .bf16⟩
  | .local _ .vmem, ⟨7, _⟩ => ⟨S1x1024, .f32⟩
  | .local _ .vmem, ⟨8, _⟩ => ⟨S128x1024, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S128x1024, .f32⟩
  | .local _ .vmem, ⟨15, _⟩ => ⟨S1x64x64x128, .f32⟩
  | .local _ .vmem, ⟨16, _⟩ => ⟨S1x64x64x128, .f32⟩
  | .local _ .vmem, ⟨17, _⟩ => ⟨S6x1024x128, .f32⟩
  | .local _ .vmem, ⟨18, _⟩ => ⟨S4x128x1024, .f32⟩
  | .local _ .vmem, ⟨19, _⟩ => ⟨S1024x128, .f32⟩
  | _, _ => ⟨S128x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_call1_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25_0 : Ref sig .tc := ⟨.hbm, 42, rfl⟩
abbrev main_v25_1 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c64_i32 : BitVec 32 := 64#32
  let v3 : BitVec 32 := Scalar.muli arg0 c64_i32
  v3
def k0_off1 (i : grid0.Coords) : Fin 3 → Nat :=
  let c0 : Index := 0#32
  let arg0 : BitVec 32 := BitVec.ofNat 32 (i 0).val
  let c64_i32 : BitVec 32 := 64#32
  let v3 : BitVec 32 := Scalar.muli arg0 c64_i32
  let v4 : BitVec 32 := v3
  let v5 : Index := Scalar.indexCast v4
  let c0_1 : Index := 0#32
  ![0, v5.toNat, 0]
def k0_off2 (i : grid0.Coords) : Fin 3 → Nat :=
  let c1 : Index := 1#32
  let arg0 : BitVec 32 := BitVec.ofNat 32 (i 0).val
  let c64_i32 : BitVec 32 := 64#32
  let v3 : BitVec 32 := Scalar.muli arg0 c64_i32
  let v4 : BitVec 32 := v3
  let v8 : Index := Scalar.indexCast v4
  let c0_2 : Index := 0#32
  ![1, v8.toNat, 0]
def k0_off3 (i : grid0.Coords) : Fin 3 → Nat :=
  let c2 : Index := 2#32
  let arg0 : BitVec 32 := BitVec.ofNat 32 (i 0).val
  let c64_i32 : BitVec 32 := 64#32
  let v3 : BitVec 32 := Scalar.muli arg0 c64_i32
  let v4 : BitVec 32 := v3
  let v11 : Index := Scalar.indexCast v4
  let c0_3 : Index := 0#32
  ![2, v11.toNat, 0]
def k0_off4 (i : grid0.Coords) : Fin 3 → Nat :=
  let c3 : Index := 3#32
  let arg0 : BitVec 32 := BitVec.ofNat 32 (i 0).val
  let c64_i32 : BitVec 32 := 64#32
  let v3 : BitVec 32 := Scalar.muli arg0 c64_i32
  let v4 : BitVec 32 := v3
  let v14 : Index := Scalar.indexCast v4
  let c0_4 : Index := 0#32
  ![3, v14.toNat, 0]
def k0_off5 (i : grid0.Coords) : Fin 3 → Nat :=
  let c4 : Index := 4#32
  let arg0 : BitVec 32 := BitVec.ofNat 32 (i 0).val
  let c64_i32 : BitVec 32 := 64#32
  let v3 : BitVec 32 := Scalar.muli arg0 c64_i32
  let v4 : BitVec 32 := v3
  let v17 : Index := Scalar.indexCast v4
  let c0_5 : Index := 0#32
  ![4, v17.toNat, 0]
def k0_off6 (i : grid0.Coords) : Fin 3 → Nat :=
  let c5 : Index := 5#32
  let arg0 : BitVec 32 := BitVec.ofNat 32 (i 0).val
  let c64_i32 : BitVec 32 := 64#32
  let v3 : BitVec 32 := Scalar.muli arg0 c64_i32
  let v4 : BitVec 32 := v3
  let v20 : Index := Scalar.indexCast v4
  let c0_6 : Index := 0#32
  ![5, v20.toNat, 0]
def k0_off7 (i : grid0.Coords) : Fin 2 → Nat :=
  let arg0 : BitVec 32 := BitVec.ofNat 32 (i 0).val
  let c64_i32 : BitVec 32 := 64#32
  let v3 : BitVec 32 := Scalar.muli arg0 c64_i32
  let v4 : BitVec 32 := v3
  let v1561 : Index := Scalar.indexCast v4
  let c0_590 : Index := 0#32
  ![v1561.toNat, 0]
def k0_cond2 (i : grid0.Coords) : BitVec 1 :=
  let arg0 : BitVec 32 := BitVec.ofNat 32 (i 0).val
  let c15_i32_591 : BitVec 32 := 15#32
  let v1565 : BitVec 1 := Scalar.cmpi .eq arg0 c15_i32_591
  let v1566 : BitVec 32 := Scalar.extui v1565
  let c0_i32_592 : BitVec 32 := 0#32
  let v1567 : BitVec 1 := Scalar.cmpi .ne v1566 c0_i32_592
  v1567

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S128x4224 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x4224 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4224 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x64x64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== RwkvRefIdeal.lean ====
abbrev S128x4224 : Shape := ⟨2, ![128, 4224]⟩
abbrev S1x128x4224 : Shape := ⟨3, ![1, 128, 4224]⟩
abbrev S1x128x16x64x64 : Shape := ⟨5, ![1, 128, 16, 64, 64]⟩
abbrev S1x4224 : Shape := ⟨2, ![1, 4224]⟩
abbrev S1x1024 : Shape := ⟨2, ![1, 1024]⟩
abbrev S1x64x1024 : Shape := ⟨3, ![1, 64, 1024]⟩
abbrev S1x16x64 : Shape := ⟨3, ![1, 16, 64]⟩
abbrev S4224 : Shape := ⟨1, ![4224]⟩
abbrev S128x1024 : Shape := ⟨2, ![128, 1024]⟩
abbrev S128x64 : Shape := ⟨2, ![128, 64]⟩
abbrev S1024 : Shape := ⟨1, ![1024]⟩
abbrev S64x1024 : Shape := ⟨2, ![64, 1024]⟩
abbrev S_ : Shape := ⟨0, ![]⟩
abbrev S128x16x64 : Shape := ⟨3, ![128, 16, 64]⟩
abbrev S128x16 : Shape := ⟨2, ![128, 16]⟩
abbrev S128x16x1 : Shape := ⟨3, ![128, 16, 1]⟩
abbrev S128x16x64x64 : Shape := ⟨4, ![128, 16, 64, 64]⟩
abbrev S128x16x1x64 : Shape := ⟨4, ![128, 16, 1, 64]⟩
abbrev S128x16x64x1 : Shape := ⟨4, ![128, 16, 64, 1]⟩
abbrev S16x64x64x128 : Shape := ⟨4, ![16, 64, 64, 128]⟩

abbrev nBuf : Space → Nat
  | .hbm => 107
  | .vmem => 0
  | .smem => 0
  | _ => 0

abbrev bufTy : (tb : Table) → Fin (tcTables nBuf tb) → BufTy
  | .hbm, ⟨0, _⟩ => ⟨S128x4224, .f32⟩
  | .hbm, ⟨1, _⟩ => ⟨S1x128x4224, .f32⟩
  | .hbm, ⟨2, _⟩ => ⟨S1x128x16x64x64, .f32⟩
  | .hbm, ⟨3, _⟩ => ⟨S1x4224, .f32⟩
  | .hbm, ⟨4, _⟩ => ⟨S1x1024, .f32⟩
  | .hbm, ⟨5, _⟩ => ⟨S1x64x1024, .f32⟩
  | .hbm, ⟨6, _⟩ => ⟨S1x1024, .f32⟩
  | .hbm, ⟨7, _⟩ => ⟨S1x64x1024, .f32⟩
  | .hbm, ⟨8, _⟩ => ⟨S1x1024, .f32⟩
  | .hbm, ⟨9, _⟩ => ⟨S1x1024, .f32⟩
  | .hbm, ⟨10, _⟩ => ⟨S1x16x64, .f32⟩
  | .hbm, ⟨11, _⟩ => ⟨S1x1024, .f32⟩
  | .hbm, ⟨12, _⟩ => ⟨S1x1024, .f32⟩
  | .hbm, ⟨13, _⟩ => ⟨S128x4224, .f32⟩
  | .hbm, ⟨14, _⟩ => ⟨S128x4224, .f32⟩
  | .hbm, ⟨15, _⟩ => ⟨S4224, .f32⟩
  | .hbm, ⟨16, _⟩ => ⟨S1x4224, .f32⟩
  | .hbm, ⟨17, _⟩ => ⟨S128x4224, .f32⟩
  | .hbm, ⟨18, _⟩ => ⟨S128x4224, .f32⟩
  | .hbm, ⟨19, _⟩ => ⟨S128x4224, .f32⟩
  | .hbm, ⟨20, _⟩ => ⟨S128x1024, .f32⟩
  | .hbm, ⟨21, _⟩ => ⟨S128x1024, .f32⟩
  | .hbm, ⟨22, _⟩ => ⟨S128x64, .f32⟩
  | .hbm, ⟨23, _⟩ => ⟨S128x64, .f32⟩
  | .hbm, ⟨24, _⟩ => ⟨S1024, .f32⟩
  | .hbm, ⟨25, _⟩ => ⟨S128x64, .f32⟩
  | .hbm, ⟨26, _⟩ => ⟨S64x1024, .f32⟩
  | .hbm, ⟨27, _⟩ => ⟨S128x1024, .f32⟩
  | .hbm, ⟨28, _⟩ => ⟨S1x1024, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S1024, .f32⟩
  | .hbm, ⟨44, _⟩ => ⟨S64x1024, .f32⟩
  | .hbm, ⟨45, _⟩ => ⟨S128x1024, .f32⟩
  | .hbm, ⟨46, _⟩ => ⟨S1x1024, .f32⟩
  | .hbm, ⟨47, _⟩ => ⟨S128x1024, .f32⟩
  | .hbm, ⟨48, _⟩ => ⟨S128x1024, .f32⟩
  | .hbm, ⟨49, _⟩ => ⟨S128x1024, .f32⟩
  | .hbm, ⟨50, _⟩ => ⟨S128x1024, .f32⟩
  | .hbm, ⟨51, _⟩ => ⟨S_, .f32⟩
  | .hbm, ⟨52, _⟩ => ⟨S128x1024, .f32⟩
  | .hbm, ⟨53, _⟩ => ⟨S128x1024, .f32⟩
  | .hbm, ⟨54, _⟩ => ⟨S_, .f32⟩
  | .hbm, ⟨55, _⟩ => ⟨S128x1024, .f32⟩
  | .hbm, ⟨56, _⟩ => ⟨S128x1024, .f32⟩
  | .hbm, ⟨57, _⟩ => ⟨S1024, .f32⟩
  | .hbm, ⟨58, _⟩ => ⟨S1x1024, .f32⟩
  | .hbm, ⟨59, _⟩ => ⟨S128x1024, .f32⟩
  | .hbm, ⟨60, _⟩ => ⟨S128x1024, .f32⟩
  | .hbm, ⟨61, _⟩ => ⟨S128x16x64, .f32⟩
  | .hbm, ⟨62, _⟩ => ⟨S128x16x64, .f32⟩
  | .hbm, ⟨63, _⟩ => ⟨S_, .f32⟩
  | .hbm, ⟨64, _⟩ => ⟨S128x16, .f32⟩
  | .hbm, ⟨65, _⟩ => ⟨S128x16x1, .f32⟩
  | .hbm, ⟨66, _⟩ => ⟨S128x16x1, .f32⟩
  | .hbm, ⟨67, _⟩ => ⟨S_, .f32⟩
  | .hbm, ⟨68, _⟩ => ⟨S128x16x1, .f32⟩
  | .hbm, ⟨69, _⟩ => ⟨S128x16x1, .f32⟩
  | .hbm, ⟨70, _⟩ => ⟨S128x16x64, .f32⟩
  | .hbm, ⟨71, _⟩ => ⟨S128x16x64, .f32⟩
  | .hbm, ⟨72, _⟩ => ⟨S_, .f32⟩
  | .hbm, ⟨73, _⟩ => ⟨S128x1024, .f32⟩
  | .hbm, ⟨74, _⟩ => ⟨S128x1024, .f32⟩
  | .hbm, ⟨75, _⟩ => ⟨S1024, .f32⟩
  | .hbm, ⟨76, _⟩ => ⟨S1x1024, .f32⟩
  | .hbm, ⟨77, _⟩ => ⟨S128x1024, .f32⟩
  | .hbm, ⟨78, _⟩ => ⟨S128x1024, .f32⟩
  | .hbm, ⟨79, _⟩ => ⟨S_, .f32⟩
  | .hbm, ⟨80, _⟩ => ⟨S128x1024, .f32⟩
  | .hbm, ⟨81, _⟩ => ⟨S128x1024, .f32⟩
  | .hbm, ⟨82, _⟩ => ⟨S128x1024, .f32⟩
  | .hbm, ⟨83, _⟩ => ⟨S128x16x64, .f32⟩
  | .hbm, ⟨84, _⟩ => ⟨S128x16x64, .f32⟩
  | .hbm, ⟨85, _⟩ => ⟨S128x16x64, .f32⟩
  | .hbm, ⟨86, _⟩ => ⟨S128x16x64, .f32⟩
  | .hbm, ⟨87, _⟩ => ⟨S128x16x64x64, .f32⟩
  | .hbm, ⟨88, _⟩ => ⟨S128x16x64, .f32⟩
  | .hbm, ⟨89, _⟩ => ⟨S128x16x64, .f32⟩
  | .hbm, ⟨90, _⟩ => ⟨S128x16x1x64, .f32⟩
  | .hbm, ⟨91, _⟩ => ⟨S128x16x64x64, .f32⟩
  | .hbm, ⟨92, _⟩ => ⟨S128x16x64x64, .f32⟩
  | .hbm, ⟨93, _⟩ => ⟨S128x16x64x1, .f32⟩
  | .hbm, ⟨94, _⟩ => ⟨S128x16x64, .f32⟩
  | .hbm, ⟨95, _⟩ => ⟨S128x16x1x64, .f32⟩
  | .hbm, ⟨96, _⟩ => ⟨S128x16x64x64, .f32⟩
  | .hbm, ⟨97, _⟩ => ⟨S128x16x64x64, .f32⟩
  | .hbm, ⟨98, _⟩ => ⟨S128x16x64x64, .f32⟩
  | .hbm, ⟨99, _⟩ => ⟨S128x16x64x64, .f32⟩
  | .hbm, ⟨100, _⟩ => ⟨S128x16x64x1, .f32⟩
  | .hbm, ⟨101, _⟩ => ⟨S128x16x1x64, .f32⟩
  | .hbm, ⟨102, _⟩ => ⟨S128x16x64x64, .f32⟩
  | .hbm, ⟨103, _⟩ => ⟨S128x16x64x64, .f32⟩
  | .hbm, ⟨104, _⟩ => ⟨S128x16x64x64, .f32⟩
  | .hbm, ⟨105, _⟩ => ⟨S128x16x64x64, .f32⟩
  | .hbm, ⟨106, _⟩ => ⟨S16x64x64x128, .f32⟩
  | _, _ => ⟨S128x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_cst_0 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_2 : Ref sig .tc := ⟨.hbm, 51, rfl⟩
abbrev main_v35 : Ref sig .tc := ⟨.hbm, 52, rfl⟩
abbrev main_v36 : Ref sig .tc := ⟨.hbm, 53, rfl⟩
abbrev main_cst_3 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_4 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_5 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_6 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_7 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩

abbrev nD : Nat := 1
abbrev τ : Topo := Topo.v7x

variable {F : FTy → Type} [FloatOps F]
-- ==== Mix.lean ====
abbrev S16384x3200 : Shape := ⟨2, ![16384, 3200]⟩
abbrev S16384x4224 : Shape := ⟨2, ![16384, 4224]⟩
abbrev S1x16x512 : Shape := ⟨3, ![1, 16, 512]⟩
abbrev S1x512 : Shape := ⟨2, ![1, 512]⟩
abbrev S1x256 : Shape := ⟨2, ![1, 256]⟩
abbrev S1x4224 : Shape := ⟨2, ![1, 4224]⟩
abbrev S1x1024 : Shape := ⟨2, ![1, 1024]⟩
abbrev S1x64x1024 : Shape := ⟨3, ![1, 64, 1024]⟩
abbrev S1x16x64 : Shape := ⟨3, ![1, 16, 64]⟩
abbrev S16x512 : Shape := ⟨2, ![16, 512]⟩
abbrev S_ : Shape := ⟨0, ![]⟩
abbrev S128x512 : Shape := ⟨2, ![128, 512]⟩
abbrev S64x1024 : Shape := ⟨2, ![64, 1024]⟩
abbrev S128x1024 : Shape := ⟨2, ![128, 1024]⟩
abbrev S512 : Shape := ⟨1, ![512]⟩
abbrev S256 : Shape := ⟨1, ![256]⟩
abbrev S4224 : Shape := ⟨1, ![4224]⟩
abbrev S1024 : Shape := ⟨1, ![1024]⟩
abbrev S16x64 : Shape := ⟨2, ![16, 64]⟩
abbrev S8x2048x3200 : Shape := ⟨3, ![8, 2048, 3200]⟩
abbrev S8x2048x4224 : Shape := ⟨3, ![8, 2048, 4224]⟩
abbrev S8x2048x1024 : Shape := ⟨3, ![8, 2048, 1024]⟩
abbrev S8x4x128x256 : Shape := ⟨4, ![8, 4, 128, 256]⟩
abbrev S8x8x128x128 : Shape := ⟨4, ![8, 8, 128, 128]⟩
abbrev S4x64x3200 : Shape := ⟨3, ![4, 64, 3200]⟩
abbrev S4x64x4224 : Shape := ⟨3, ![4, 64, 4224]⟩
abbrev S4x64x1024 : Shape := ⟨3, ![4, 64, 1024]⟩
abbrev S4x4x128x256 : Shape := ⟨4, ![4, 4, 128, 256]⟩
abbrev S4x8x128x128 : Shape := ⟨4, ![4, 8, 128, 128]⟩
abbrev S16x64x256 : Shape := ⟨3, ![16, 64, 256]⟩
abbrev S16x64x64 : Shape := ⟨3, ![16, 64, 64]⟩
abbrev S4x8x4224 : Shape := ⟨3, ![4, 8, 4224]⟩
abbrev S64x64 : Shape := ⟨2, ![64, 64]⟩
abbrev S64x4224 : Shape := ⟨2, ![64, 4224]⟩
abbrev S1x64x4224 : Shape := ⟨3, ![1, 64, 4224]⟩
abbrev S1x1x4224 : Shape := ⟨3, ![1, 1, 4224]⟩
abbrev S64x128 : Shape := ⟨2, ![64, 128]⟩
abbrev S1x128 : Shape := ⟨2, ![1, 128]⟩
abbrev S128x128 : Shape := ⟨2, ![128, 128]⟩
abbrev S1024x128 : Shape := ⟨2, ![1024, 128]⟩
abbrev S256x128 : Shape := ⟨2, ![256, 128]⟩
abbrev S64x256 : Shape := ⟨2, ![64, 256]⟩
abbrev S128x256 : Shape := ⟨2, ![128, 256]⟩
abbrev S1x64x3200 : Shape := ⟨3, ![1, 64, 3200]⟩
abbrev S64x3200 : Shape := ⟨2, ![64, 3200]⟩
abbrev S64x512 : Shape := ⟨2, ![64, 512]⟩
abbrev S1x1x128x256 : Shape := ⟨4, ![1, 1, 128, 256]⟩
abbrev S1x64x256 : Shape := ⟨3, ![1, 64, 256]⟩
abbrev S128 : Shape := ⟨1, ![128]⟩
abbrev S128x1 : Shape := ⟨2, ![128, 1]⟩
abbrev S64 : Shape := ⟨1, ![64]⟩
abbrev S64x1 : Shape := ⟨2, ![64, 1]⟩
abbrev S1x1x128x128 : Shape := ⟨4, ![1, 1, 128, 128]⟩
abbrev S2048x128 : Shape := ⟨2, ![2048, 128]⟩
abbrev S1x64x128 : Shape := ⟨3, ![1, 64, 128]⟩
abbrev S1x1x128 : Shape := ⟨3, ![1, 1, 128]⟩
abbrev S1 : Shape := ⟨1, ![1]⟩
abbrev S1x1x1 : Shape := ⟨3, ![1, 1, 1]⟩
abbrev S16x128 : Shape := ⟨2, ![16, 128]⟩
abbrev S16 : Shape := ⟨1, ![16]⟩
abbrev S16x1 : Shape := ⟨2, ![16, 1]⟩
abbrev S1x64x64 : Shape := ⟨3, ![1, 64, 64]⟩

abbrev nBuf : Space → Nat
  | .hbm => 56
  | .vmem => 30
  | .smem => 0
  | _ => 0

abbrev bufTy : (tb : Table) → Fin (tcTables nBuf tb) → BufTy
  | .hbm, ⟨0, _⟩ => ⟨S16384x3200, .f32⟩
  | .hbm, ⟨1, _⟩ => ⟨S16384x4224, .f32⟩
  | .hbm, ⟨2, _⟩ => ⟨S1x16x512, .f32⟩
  | .hbm, ⟨3, _⟩ => ⟨S1x512, .f32⟩
  | .hbm, ⟨4, _⟩ => ⟨S1x256, .f32⟩
  | .hbm, ⟨5, _⟩ => ⟨S1x4224, .f32⟩
  | .hbm, ⟨6, _⟩ => ⟨S1x1024, .f32⟩
  | .hbm, ⟨7, _⟩ => ⟨S1x64x1024, .f32⟩
  | .hbm, ⟨8, _⟩ => ⟨S1x1024, .f32⟩
  | .hbm, ⟨9, _⟩ => ⟨S1x64x1024, .f32⟩
  | .hbm, ⟨10, _⟩ => ⟨S1x1024, .f32⟩
  | .hbm, ⟨11, _⟩ => ⟨S1x1024, .f32⟩
  | .hbm, ⟨12, _⟩ => ⟨S1x16x64, .f32⟩
  | .hbm, ⟨13, _⟩ => ⟨S1x1024, .f32⟩
  | .hbm, ⟨14, _⟩ => ⟨S1x1024, .f32⟩
  | .hbm, ⟨15, _⟩ => ⟨S16x512, .f32⟩
  | .hbm, ⟨16, _⟩ => ⟨S_, .i32⟩
  | .hbm, ⟨17, _⟩ => ⟨S_, .f32⟩
  | .hbm, ⟨18, _⟩ => ⟨S128x512, .f32⟩
  | .hbm, ⟨19, _⟩ => ⟨S128x512, .bf16⟩
  | .hbm, ⟨20, _⟩ => ⟨S64x1024, .f32⟩
  | .hbm, ⟨21, _⟩ => ⟨S_, .i32⟩
  | .hbm, ⟨22, _⟩ => ⟨S_, .f32⟩
  | .hbm, ⟨23, _⟩ => ⟨S128x1024, .f32⟩
  | .hbm, ⟨24, _⟩ => ⟨S128x1024, .bf16⟩
  | .hbm, ⟨25, _⟩ => ⟨S64x1024, .f32⟩
  | .hbm, ⟨26, _⟩ => ⟨S_, .i32⟩
  | .hbm, ⟨27, _⟩ => ⟨S_, .f32⟩
  | .hbm, ⟨28, _⟩ => ⟨S128x1024, .f32⟩
  | .hbm, ⟨29, _⟩ => ⟨S128x1024, .bf16⟩
  | .hbm, ⟨30, _⟩ => ⟨S512, .f32⟩
  | .hbm, ⟨31, _⟩ => ⟨S1x512, .f32⟩
  | .hbm, ⟨32, _⟩ => ⟨S256, .f32⟩
  | .hbm, ⟨33, _⟩ => ⟨S1x256, .f32⟩
  | .hbm, ⟨34, _⟩ => ⟨S4224, .f32⟩
  | .hbm, ⟨35, _⟩ => ⟨S1x4224, .f32⟩
  | .hbm, ⟨36, _⟩ => ⟨S1024, .f32⟩
  | .hbm, ⟨37, _⟩ => ⟨S1x1024, .f32⟩
  | .hbm, ⟨38, _⟩ => ⟨S1024, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S1024, .f32⟩
  | .hbm, ⟨43, _⟩ => ⟨S1x1024, .f32⟩
  | .hbm, ⟨44, _⟩ => ⟨S16x64, .f32⟩
  | .hbm, ⟨45, _⟩ => ⟨S1x1024, .f32⟩
  | .hbm, ⟨46, _⟩ => ⟨S1024, .f32⟩
  | .hbm, ⟨47, _⟩ => ⟨S1x1024, .f32⟩
  | .hbm, ⟨48, _⟩ => ⟨S1024, .f32⟩
  | .hbm, ⟨49, _⟩ => ⟨S1x1024, .f32⟩
  | .hbm, ⟨50, _⟩ => ⟨S8x2048x3200, .f32⟩
  | .hbm, ⟨51, _⟩ => ⟨S8x2048x4224, .f32⟩
  | .hbm, ⟨52, _⟩ => ⟨S8x2048x1024, .bf16⟩
  | .hbm, ⟨53, _⟩ => ⟨S8x2048x1024, .bf16⟩
  | .hbm, ⟨54, _⟩ => ⟨S8x4x128x256, .f32⟩
  | .hbm, ⟨55, _⟩ => ⟨S8x8x128x128, .f32⟩
  | .local _ .vmem, ⟨0, _⟩ => ⟨S4x64x3200, .f32⟩
  | .local _ .vmem, ⟨1, _⟩ => ⟨S4x64x3200, .f32⟩
  | .local _ .vmem, ⟨2, _⟩ => ⟨S4x64x4224, .f32⟩
  | .local _ .vmem, ⟨3, _⟩ => ⟨S4x64x4224, .f32⟩
  | .local _ .vmem, ⟨4, _⟩ => ⟨S128x512, .bf16⟩
  | .local _ .vmem, ⟨5, _⟩ => ⟨S1x512, .f32⟩
  | .local _ .vmem, ⟨6, _⟩ => ⟨S1x256, .f32⟩
  | .local _ .vmem, ⟨7, _⟩ => ⟨S1x4224, .f32⟩
  | .local _ .vmem, ⟨8, _⟩ => ⟨S1x1024, .f32⟩
  | .local _ .vmem, ⟨9, _⟩ => ⟨S128x1024, .bf16⟩
  | .local _ .vmem, ⟨10, _⟩ => ⟨S1x1024, .f32⟩
  | .local _ .vmem, ⟨11, _⟩ => ⟨S128x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S4x64x1024, .bf16⟩
  | .local _ .vmem, ⟨18, _⟩ => ⟨S4x64x1024, .bf16⟩
  | .local _ .vmem, ⟨19, _⟩ => ⟨S4x64x1024, .bf16⟩
  | .local _ .vmem, ⟨20, _⟩ => ⟨S4x64x1024, .bf16⟩
  | .local _ .vmem, ⟨21, _⟩ => ⟨S4x4x128x256, .f32⟩
  | .local _ .vmem, ⟨22, _⟩ => ⟨S4x4x128x256, .f32⟩
  | .local _ .vmem, ⟨23, _⟩ => ⟨S4x8x128x128, .f32⟩
  | .local _ .vmem, ⟨24, _⟩ => ⟨S4x8x128x128, .f32⟩
  | .local _ .vmem, ⟨25, _⟩ => ⟨S4x4x128x256, .f32⟩
  | .local _ .vmem, ⟨26, _⟩ => ⟨S16x64x256, .f32⟩
  | .local _ .vmem, ⟨27, _⟩ => ⟨S16x64x64, .f32⟩
  | .local _ .vmem, ⟨28, _⟩ => ⟨S4x8x128x128, .f32⟩
  | .local _ .vmem, ⟨29, _⟩ => ⟨S4x8x4224, .f32⟩
  | _, _ => ⟨S16384x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_call0_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_call1_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_call2_v0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31_0 : Ref sig .tc := ⟨.hbm, 52, rfl⟩
abbrev main_v31_1 : Ref sig .tc := ⟨.hbm, 53, rfl⟩
abbrev main_v31_2 : Ref sig .tc := ⟨.hbm, 54, rfl⟩
abbrev main_v31_3 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24

abbrev nD : Nat := 1
abbrev τ : Topo := Topo.v7x

variable {F : FTy → Type} [FloatOps F]

abbrev grid0 : Pipeline.Grid := ⟨2, ![2, 32], ![false, false]⟩

def k0_cond3 (i : grid0.Coords) : BitVec 1 :=
  let arg1 : BitVec 32 := BitVec.ofNat 32 (i 1).val
  let c31_i32 : BitVec 32 := 31#32
  let v11406 : BitVec 1 := Scalar.cmpi .eq arg1 c31_i32
  let v11407 : BitVec 32 := Scalar.extui v11406
  let c0_i32_3384 : BitVec 32 := 0#32
  let v11408 : BitVec 1 := Scalar.cmpi .ne v11407 c0_i32_3384
  v11408

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x64x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x64x4224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4224 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S4x64x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S4x64x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S4x4x128x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S4x8x128x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== Proof.Layer.GlaItem.lean ====
module

public import proofs.«01_k».proof.Proof.Gen.GlaStepIdeal.Value
public import proofs.«01_k».proof.Proof.Gen.GlaRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.Layer.Gla

open Idealize.ShloMosaic Idealize.ShloMosaic.TcCoe Idealize.SL.Sem
open Idealize.ShloMosaic.Pipeline (Dat)
open Cert.GlaStepIdeal Cert.GlaStepIdeal.Gen

/-- The leading bf16 term of a row. -/
def hi {s : Shape} (x : FVec Ideal s .f32) : FVec Ideal s .f32 := extf .f32 (truncf .bf16 x bitsLt_bf16_f32) bitsLt_bf16_f32

/-- The second bf16 term of a row. -/
def mid {s : Shape} (x : FVec Ideal s .f32) : FVec Ideal s .f32 := hi (subf x (hi x))

/-- The third bf16 term of a row. -/
def lo {s : Shape} (x : FVec Ideal s .f32) : FVec Ideal s .f32 := hi (subf (subf x (hi x)) (mid x))

/-- Sixteen rows with row `i` replaced by `r`, of width 128. -/
def putK (i : BitVec 32) (r : FVec Ideal S1x128 .f32) (a : FVec Ideal S16x128 .f32) : FVec Ideal S16x128 .f32 :=
  select (cmpi .eq (iota .tc S16x128 32 [0] iota_S16x128_d0_w32) (broadcast S16x128 i))
    (broadcastTo S16x128 (shapeCast S1x128 r shapeCasts_S1x128_S1x128) broadcasts_S1x128_S16x128) a

/-- Sixteen rows with row `i` replaced by `r`, of width 256. -/
def putV (i : BitVec 32) (r : FVec Ideal S1x256 .f32) (a : FVec Ideal S16x256 .f32) : FVec Ideal S16x256 .f32 :=
  select (cmpi .eq (iota .tc S16x256 32 [0] iota_S16x256_d0_w32) (broadcast S16x256 i))
    (broadcastTo S16x256 (shapeCast S1x256 r shapeCasts_S1x256_S1x256) broadcasts_S1x256_S16x256) a

/-- The rows' contraction over the sixteen terms. -/
def contract (a : FVec Ideal S16x128 .f32) (b : FVec Ideal S16x256 .bf16) : FVec Ideal S128x256 .f32 :=
  matmul dot_S16x128_S16x256_S128x256_0_0_1_1_n_n none (truncf .bf16 a bitsLt_bf16_f32) b (constant S128x256 .f32 0x00000000#32)

/-- A row's entries spread down the columns: entry `k` along row `k`. -/
def spread (x : FVec Ideal S1x128 .f32) : FVec Ideal S128x256 .f32 :=
  contract (putK 2#32 (lo x) (putK 1#32 (mid x) (putK 0#32 (hi x) (broadcast S16x128 (Scalar.ofBits .f32 0x00000000#32))))) k0_pay3

/-- The outer product of a row of keys and a row of values. -/
def outer (k : FVec Ideal S1x128 .f32) (v : FVec Ideal S1x256 .f32) : FVec Ideal S128x256 .f32 :=
  contract (putK 5#32 (lo k) (putK 4#32 (mid k) (putK 3#32 (mid k) (putK 2#32 (hi k) (putK 1#32 (hi k)
      (putK 0#32 (hi k) (broadcast S16x128 (Scalar.ofBits .f32 0x00000000#32))))))))
    (truncf .bf16 (putV 5#32 (hi v) (putV 4#32 (mid v) (putV 3#32 (hi v) (putV 2#32 (lo v) (putV 1#32 (mid v)
      (putV 0#32 (hi v) (broadcast S16x256 (Scalar.ofBits .f32 0x00000000#32)))))))) bitsLt_bf16_f32)

/-- One head's state after the step. -/
def next (k : FVec Ideal S1x128 .f32) (v : FVec Ideal S1x256 .f32) (e : FVec Ideal S1x128 .f32) (s : Vec Ideal S1x1x128x256 .f32) :
    FVec Ideal S128x256 .f32 :=
  addf (mulf (spread e) (shapeCast S128x256 s shapeCasts_S1x1x128x256_S128x256)) (outer k v)

/-- The stored state of one head. -/
def stored (k : FVec Ideal S1x128 .f32) (v : FVec Ideal S1x256 .f32) (e : FVec Ideal S1x128 .f32) (s : Vec Ideal S1x1x128x256 .f32) :
    FVec Ideal S1x1x128x256 .f32 :=
  shapeCast S1x1x128x256 (next k v e s) shapeCasts_S128x256_S1x1x128x256

/-- One head's readout: the state read at the scaled query. -/
def readout (q k : FVec Ideal S1x128 .f32) (v : FVec Ideal S1x256 .f32) (e : FVec Ideal S1x128 .f32) (s : Vec Ideal S1x1x128x256 .f32) :
    FVec Ideal S1x256 .f32 :=
  shapeCast S1x256 (shapeCast S1x256 (multiReduction .add [0] S256
    (mulf (next k v e s) (spread (mulf q (broadcast S1x128 (Scalar.ofBits .f32 0x3DB504F3#32))))) 0x00000000#32 reduces_S128x256_S256 (.inl rfl) rfl)
    shapeCasts_S256_S1x256) shapeCasts_S1x256_S1x256

/-- One head's readouts normalised by their mean square, weighted and gated. -/
def finish (w : Vec Ideal S1x256 .f32) (g y : FVec Ideal S16x256 .f32) : FVec Ideal S16x256 .f32 :=
  mulf
    (mulf
      (mulf y (broadcastTo S16x256
        (rsqrt (addf (divf (shapeCast S16x1 (multiReduction .add [1] S16 (mulf y y) 0x00000000#32 reduces_S16x256_S16 (.inl rfl) rfl) shapeCasts_S16_S16x1)
          (broadcast S16x1 (Scalar.ofBits .f32 0x43800000#32))) (broadcast S16x1 (Scalar.ofBits .f32 0x3727C5AC#32)))) broadcasts_S16x1_S16x256))
      (broadcastTo S16x256 (shapeCast S1x256 w shapeCasts_S1x256_S1x256) broadcasts_S1x256_S16x256))
    (mulf g (divf (broadcast S16x256 (Scalar.ofBits .f32 0x3F800000#32))
      (addf (broadcast S16x256 (Scalar.ofBits .f32 0x3F800000#32)) (exp (subf (broadcast S16x256 (Scalar.ofBits .f32 0x00000000#32)) g)))))

/-- The sum over sixteen terms, written out. -/
theorem sum16 (f : Fin 16 → EReal) : ∑ j, f j = f 0 + (f 1 + (f 2 + (f 3 + (f 4 + (f 5 + (f 6 + (f 7 + (f 8 + (f 9 + (f 10 + (f 11 + (f 12 + (f 13 + (f 14 + f 15)))))))))))))) := by
  simp [Fin.sum_univ_succ, Fin.succ]

/-- A finite extended real less itself is zero. -/
theorem sub_self_fin {x : EReal} (ht : x ≠ ⊤) (hb : x ≠ ⊥) : x - x = 0 := EReal.sub_self ht hb

/-- A spread row holds the row's own entries, where these are finite. -/
theorem spread_at (x : FVec Ideal S1x128 .f32) (k : Fin 128) (v : Fin 256) (ht : x (ix2 0 k) ≠ ⊤) (hb : x (ix2 0 k) ≠ ⊥) :
    spread x (ix2 k v) = x (ix2 0 k) := by
  pointwise [spread, contract, putK, hi, mid, lo, k0_pay3]
  rw [sub_self_fin ht hb]
  rw [sum16]
  simp [Scalar.select, IntOp.cmpi]

/-- The outer product's entries, where the rows are finite. -/
theorem outer_at (x : FVec Ideal S1x128 .f32) (w : FVec Ideal S1x256 .f32) (k : Fin 128) (v : Fin 256)
    (ht : x (ix2 0 k) ≠ ⊤) (hb : x (ix2 0 k) ≠ ⊥) (ht' : w (ix2 0 v) ≠ ⊤) (hb' : w (ix2 0 v) ≠ ⊥) :
    outer x w (ix2 k v) = x (ix2 0 k) * w (ix2 0 v) := by
  pointwise [outer, contract, putK, putV, hi, mid, lo]
  rw [sub_self_fin ht hb, sub_self_fin ht' hb']
  rw [sum16]
  simp [Scalar.select, IntOp.cmpi]

end Cert.Layer.Gla
end
-- ==== Proof.Layer.GlaTiles.lean ====
module

public import proofs.«01_k».proof.Proof.Layer.GlaItem
public import Idealize.ShloMosaic.Lib.Pipeline.ValueKit
public import Idealize.ShloMosaic.Lib.Pointwise
public import Idealize.ShloMosaic.Lib.Claim

@[expose] public section

set_option maxRecDepth 16384

noncomputable section

namespace Cert.Layer.Gla

open Idealize.ShloMosaic Idealize.ShloMosaic.TcCoe Idealize.SL.Sem
open Idealize.ShloMosaic.Pipeline (Dat)
open Cert.GlaStepIdeal Cert.GlaStepIdeal.Gen

/-- The sixty-four stored states of one block, one per sequence and head: `p` the projections, `S` the states, `a` the decays. -/
def states (p : Vec Ideal S16x3200 .f32) (S : Vec Ideal S16x4x128x256 .f32) (a : FVec Ideal S16x512 .f32) :
    List (View.Piece (Elt Ideal) S16x4x128x256 .f32) :=
  [⟨Rect.unit ![15, 3, 0, 0] ![1, 1, 128, 256] inb_S16x4x128x256_S1x1x128x256_15_3_0_0, stored (extractStridedSlice S1x128 ![15, 896] p slices_S16x3200_o15_896_S1x128) (extractStridedSlice S1x256 ![15, 1792] p slices_S16x3200_o15_1792_S1x256) (extractStridedSlice S1x128 ![15, 384] a slices_S16x512_o15_384_S1x128) (View.ld S (Rect.unit ![15, 3, 0, 0] ![1, 1, 128, 256] inb_S16x4x128x256_S1x1x128x256_15_3_0_0))⟩,
   ⟨Rect.unit ![15, 2, 0, 0] ![1, 1, 128, 256] inb_S16x4x128x256_S1x1x128x256_15_2_0_0, stored (extractStridedSlice S1x128 ![15, 768] p slices_S16x3200_o15_768_S1x128) (extractStridedSlice S1x256 ![15, 1536] p slices_S16x3200_o15_1536_S1x256) (extractStridedSlice S1x128 ![15, 256] a slices_S16x512_o15_256_S1x128) (View.ld S (Rect.unit ![15, 2, 0, 0] ![1, 1, 128, 256] inb_S16x4x128x256_S1x1x128x256_15_2_0_0))⟩,
   ⟨Rect.unit ![15, 1, 0, 0] ![1, 1, 128, 256] inb_S16x4x128x256_S1x1x128x256_15_1_0_0, stored (extractStridedSlice S1x128 ![15, 640] p slices_S16x3200_o15_640_S1x128) (extractStridedSlice S1x256 ![15, 1280] p slices_S16x3200_o15_1280_S1x256) (extractStridedSlice S1x128 ![15, 128] a slices_S16x512_o15_128_S1x128) (View.ld S (Rect.unit ![15, 1, 0, 0] ![1, 1, 128, 256] inb_S16x4x128x256_S1x1x128x256_15_1_0_0))⟩,
   ⟨Rect.unit ![15, 0, 0, 0] ![1, 1, 128, 256] inb_S16x4x128x256_S1x1x128x256_15_0_0_0, stored (extractStridedSlice S1x128 ![15, 512] p slices_S16x3200_o15_512_S1x128) (extractStridedSlice S1x256 ![15, 1024] p slices_S16x3200_o15_1024_S1x256) (extractStridedSlice S1x128 ![15, 0] a slices_S16x512_o15_0_S1x128) (View.ld S (Rect.unit ![15, 0, 0, 0] ![1, 1, 128, 256] inb_S16x4x128x256_S1x1x128x256_15_0_0_0))⟩,
   ⟨Rect.unit ![14, 3, 0, 0] ![1, 1, 128, 256] inb_S16x4x128x256_S1x1x128x256_14_3_0_0, stored (extractStridedSlice S1x128 ![14, 896] p slices_S16x3200_o14_896_S1x128) (extractStridedSlice S1x256 ![14, 1792] p slices_S16x3200_o14_1792_S1x256) (extractStridedSlice S1x128 ![14, 384] a slices_S16x512_o14_384_S1x128) (View.ld S (Rect.unit ![14, 3, 0, 0] ![1, 1, 128, 256] inb_S16x4x128x256_S1x1x128x256_14_3_0_0))⟩,
   ⟨Rect.unit ![14, 2, 0, 0] ![1, 1, 128, 256] inb_S16x4x128x256_S1x1x128x256_14_2_0_0, stored (extractStridedSlice S1x128 ![14, 768] p slices_S16x3200_o14_768_S1x128) (extractStridedSlice S1x256 ![14, 1536] p slices_S16x3200_o14_1536_S1x256) (extractStridedSlice S1x128 ![14, 256] a slices_S16x512_o14_256_S1x128) (View.ld S (Rect.unit ![14, 2, 0, 0] ![1, 1, 128, 256] inb_S16x4x128x256_S1x1x128x256_14_2_0_0))⟩,
   ⟨Rect.unit ![14, 1, 0, 0] ![1, 1, 128, 256] inb_S16x4x128x256_S1x1x128x256_14_1_0_0, stored (extractStridedSlice S1x128 ![14, 640] p slices_S16x3200_o14_640_S1x128) (extractStridedSlice S1x256 ![14, 1280] p slices_S16x3200_o14_1280_S1x256) (extractStridedSlice S1x128 ![14, 128] a slices_S16x512_o14_128_S1x128) (View.ld S (Rect.unit ![14, 1, 0, 0] ![1, 1, 128, 256] inb_S16x4x128x256_S1x1x128x256_14_1_0_0))⟩,
   ⟨Rect.unit ![14, 0, 0, 0] ![1, 1, 128, 256] inb_S16x4x128x256_S1x1x128x256_14_0_0_0, stored (extractStridedSlice S1x128 ![14, 512] p slices_S16x3200_o14_512_S1x128) (extractStridedSlice S1x256 ![14, 1024] p slices_S16x3200_o14_1024_S1x256) (extractStridedSlice S1x128 ![14, 0] a slices_S16x512_o14_0_S1x128) (View.ld S (Rect.unit ![14, 0, 0, 0] ![1, 1, 128, 256] inb_S16x4x128x256_S1x1x128x256_14_0_0_0))⟩,
   ⟨Rect.unit ![13, 3, 0, 0] ![1, 1, 128, 256] inb_S16x4x128x256_S1x1x128x256_13_3_0_0, stored (extractStridedSlice S1x128 ![13, 896] p slices_S16x3200_o13_896_S1x128) (extractStridedSlice S1x256 ![13, 1792] p slices_S16x3200_o13_1792_S1x256) (extractStridedSlice S1x128 ![13, 384] a slices_S16x512_o13_384_S1x128) (View.ld S (Rect.unit ![13, 3, 0, 0] ![1, 1, 128, 256] inb_S16x4x128x256_S1x1x128x256_13_3_0_0))⟩,
   ⟨Rect.unit ![13, 2, 0, 0] ![1, 1, 128, 256] inb_S16x4x128x256_S1x1x128x256_13_2_0_0, stored (extractStridedSlice S1x128 ![13, 768] p slices_S16x3200_o13_768_S1x128) (extractStridedSlice S1x256 ![13, 1536] p slices_S16x3200_o13_1536_S1x256) (extractStridedSlice S1x128 ![13, 256] a slices_S16x512_o13_256_S1x128) (View.ld S (Rect.unit ![13, 2, 0, 0] ![1, 1, 128, 256] inb_S16x4x128x256_S1x1x128x256_13_2_0_0))⟩,
   ⟨Rect.unit ![13, 1, 0, 0] ![1, 1, 128, 256] inb_S16x4x128x256_S1x1x128x256_13_1_0_0, stored (extractStridedSlice S1x128 ![13, 640] p slices_S16x3200_o13_640_S1x128) (extractStridedSlice S1x256 ![13, 1280] p slices_S16x3200_o13_1280_S1x256) (extractStridedSlice S1x128 ![13, 128] a slices_S16x512_o13_128_S1x128) (View.ld S (Rect.unit ![13, 1, 0, 0] ![1, 1, 128, 256] inb_S16x4x128x256_S1x1x128x256_13_1_0_0))⟩,
   ⟨Rect.unit ![13, 0, 0, 0] ![1, 1, 128, 256] inb_S16x4x128x256_S1x1x128x256_13_0_0_0, stored (extractStridedSlice S1x128 ![13, 512] p slices_S16x3200_o13_512_S1x128) (extractStridedSlice S1x256 ![13, 1024] p slices_S16x3200_o13_1024_S1x256) (extractStridedSlice S1x128 ![13, 0] a slices_S16x512_o13_0_S1x128) (View.ld S (Rect.unit ![13, 0, 0, 0] ![1, 1, 128, 256] inb_S16x4x128x256_S1x1x128x256_13_0_0_0))⟩,
   ⟨Rect.unit ![12, 3, 0, 0] ![1, 1, 128, 256] inb_S16x4x128x256_S1x1x128x256_12_3_0_0, stored (extractStridedSlice S1x128 ![12, 896] p slices_S16x3200_o12_896_S1x128) (extractStridedSlice S1x256 ![12, 1792] p slices_S16x3200_o12_1792_S1x256) (extractStridedSlice S1x128 ![12, 384] a slices_S16x512_o12_384_S1x128) (View.ld S (Rect.unit ![12, 3, 0, 0] ![1, 1, 128, 256] inb_S16x4x128x256_S1x1x128x256_12_3_0_0))⟩,
   ⟨Rect.unit ![12, 2, 0, 0] ![1, 1, 128, 256] inb_S16x4x128x256_S1x1x128x256_12_2_0_0, stored (extractStridedSlice S1x128 ![12, 768] p slices_S16x3200_o12_768_S1x128) (extractStridedSlice S1x256 ![12, 1536] p slices_S16x3200_o12_1536_S1x256) (extractStridedSlice S1x128 ![12, 256] a slices_S16x512_o12_256_S1x128) (View.ld S (Rect.unit ![12, 2, 0, 0] ![1, 1, 128, 256] inb_S16x4x128x256_S1x1x128x256_12_2_0_0))⟩,
   ⟨Rect.unit ![12, 1, 0, 0] ![1, 1, 128, 256] inb_S16x4x128x256_S1x1x128x256_12_1_0_0, stored (extractStridedSlice S1x128 ![12, 640] p slices_S16x3200_o12_640_S1x128) (extractStridedSlice S1x256 ![12, 1280] p slices_S16x3200_o12_1280_S1x256) (extractStridedSlice S1x128 ![12, 128] a slices_S16x512_o12_128_S1x128) (View.ld S (Rect.unit ![12, 1, 0, 0] ![1, 1, 128, 256] inb_S16x4x128x256_S1x1x128x256_12_1_0_0))⟩,
   ⟨Rect.unit ![12, 0, 0, 0] ![1, 1, 128, 256] inb_S16x4x128x256_S1x1x128x256_12_0_0_0, stored (extractStridedSlice S1x128 ![12, 512] p slices_S16x3200_o12_512_S1x128) (extractStridedSlice S1x256 ![12, 1024] p slices_S16x3200_o12_1024_S1x256) (extractStridedSlice S1x128 ![12, 0] a slices_S16x512_o12_0_S1x128) (View.ld S (Rect.unit ![12, 0, 0, 0] ![1, 1, 128, 256] inb_S16x4x128x256_S1x1x128x256_12_0_0_0))⟩,
   ⟨Rect.unit ![11, 3, 0, 0] ![1, 1, 128, 256] inb_S16x4x128x256_S1x1x128x256_11_3_0_0, stored (extractStridedSlice S1x128 ![11, 896] p slices_S16x3200_o11_896_S1x128) (extractStridedSlice S1x256 ![11, 1792] p slices_S16x3200_o11_1792_S1x256) (extractStridedSlice S1x128 ![11, 384] a slices_S16x512_o11_384_S1x128) (View.ld S (Rect.unit ![11, 3, 0, 0] ![1, 1, 128, 256] inb_S16x4x128x256_S1x1x128x256_11_3_0_0))⟩,
   ⟨Rect.unit ![11, 2, 0, 0] ![1, 1, 128, 256] inb_S16x4x128x256_S1x1x128x256_11_2_0_0, stored (extractStridedSlice S1x128 ![11, 768] p slices_S16x3200_o11_768_S1x128) (extractStridedSlice S1x256 ![11, 1536] p slices_S16x3200_o11_1536_S1x256) (extractStridedSlice S1x128 ![11, 256] a slices_S16x512_o11_256_S1x128) (View.ld S (Rect.unit ![11, 2, 0, 0] ![1, 1, 128, 256] inb_S16x4x128x256_S1x1x128x256_11_2_0_0))⟩,
   ⟨Rect.unit ![11, 1, 0, 0] ![1, 1, 128, 256] inb_S16x4x128x256_S1x1x128x256_11_1_0_0, stored (extractStridedSlice S1x128 ![11, 640] p slices_S16x3200_o11_640_S1x128) (extractStridedSlice S1x256 ![11, 1280] p slices_S16x3200_o11_1280_S1x256) (extractStridedSlice S1x128 ![11, 128] a slices_S16x512_o11_128_S1x128) (View.ld S (Rect.unit ![11, 1, 0, 0] ![1, 1, 128, 256] inb_S16x4x128x256_S1x1x128x256_11_1_0_0))⟩,
   ⟨Rect.unit ![11, 0, 0, 0] ![1, 1, 128, 256] inb_S16x4x128x256_S1x1x128x256_11_0_0_0, stored (extractStridedSlice S1x128 ![11, 512] p slices_S16x3200_o11_512_S1x128) (extractStridedSlice S1x256 ![11, 1024] p slices_S16x3200_o11_1024_S1x256) (extractStridedSlice S1x128 ![11, 0] a slices_S16x512_o11_0_S1x128) (View.ld S (Rect.unit ![11, 0, 0, 0] ![1, 1, 128, 256] inb_S16x4x128x256_S1x1x128x256_11_0_0_0))⟩,
   ⟨Rect.unit ![10, 3, 0, 0] ![1, 1, 128, 256] inb_S16x4x128x256_S1x1x128x256_10_3_0_0, stored (extractStridedSlice S1x128 ![10, 896] p slices_S16x3200_o10_896_S1x128) (extractStridedSlice S1x256 ![10, 1792] p slices_S16x3200_o10_1792_S1x256) (extractStridedSlice S1x128 ![10, 384] a slices_S16x512_o10_384_S1x128) (View.ld S (Rect.unit ![10, 3, 0, 0] ![1, 1, 128, 256] inb_S16x4x128x256_S1x1x128x256_10_3_0_0))⟩,
   ⟨Rect.unit ![10, 2, 0, 0] ![1, 1, 128, 256] inb_S16x4x128x256_S1x1x128x256_10_2_0_0, stored (extractStridedSlice S1x128 ![10, 768] p slices_S16x3200_o10_768_S1x128) (extractStridedSlice S1x256 ![10, 1536] p slices_S16x3200_o10_1536_S1x256) (extractStridedSlice S1x128 ![10, 256] a slices_S16x512_o10_256_S1x128) (View.ld S (Rect.unit ![10, 2, 0, 0] ![1, 1, 128, 256] inb_S16x4x128x256_S1x1x128x256_10_2_0_0))⟩,
   ⟨Rect.unit ![10, 1, 0, 0] ![1, 1, 128, 256] inb_S16x4x128x256_S1x1x128x256_10_1_0_0, stored (extractStridedSlice S1x128 ![10, 640] p slices_S16x3200_o10_640_S1x128) (extractStridedSlice S1x256 ![10, 1280] p slices_S16x3200_o10_1280_S1x256) (extractStridedSlice S1x128 ![10, 128] a slices_S16x512_o10_128_S1x128) (View.ld S (Rect.unit ![10, 1, 0, 0] ![1, 1, 128, 256] inb_S16x4x128x256_S1x1x128x256_10_1_0_0))⟩,
   ⟨Rect.unit ![10, 0, 0, 0] ![1, 1, 128, 256] inb_S16x4x128x256_S1x1x128x256_10_0_0_0, stored (extractStridedSlice S1x128 ![10, 512] p slices_S16x3200_o10_512_S1x128) (extractStridedSlice S1x256 ![10, 1024] p slices_S16x3200_o10_1024_S1x256) (extractStridedSlice S1x128 ![10, 0] a slices_S16x512_o10_0_S1x128) (View.ld S (Rect.unit ![10, 0, 0, 0] ![1, 1, 128, 256] inb_S16x4x128x256_S1x1x128x256_10_0_0_0))⟩,
   ⟨Rect.unit ![9, 3, 0, 0] ![1, 1, 128, 256] inb_S16x4x128x256_S1x1x128x256_9_3_0_0, stored (extractStridedSlice S1x128 ![9, 896] p slices_S16x3200_o9_896_S1x128) (extractStridedSlice S1x256 ![9, 1792] p slices_S16x3200_o9_1792_S1x256) (extractStridedSlice S1x128 ![9, 384] a slices_S16x512_o9_384_S1x128) (View.ld S (Rect.unit ![9, 3, 0, 0] ![1, 1, 128, 256] inb_S16x4x128x256_S1x1x128x256_9_3_0_0))⟩,
   ⟨Rect.unit ![9, 2, 0, 0] ![1, 1, 128, 256] inb_S16x4x128x256_S1x1x128x256_9_2_0_0, stored (extractStridedSlice S1x128 ![9, 768] p slices_S16x3200_o9_768_S1x128) (extractStridedSlice S1x256 ![9, 1536] p slices_S16x3200_o9_1536_S1x256) (extractStridedSlice S1x128 ![9, 256] a slices_S16x512_o9_256_S1x128) (View.ld S (Rect.unit ![9, 2, 0, 0] ![1, 1, 128, 256] inb_S16x4x128x256_S1x1x128x256_9_2_0_0))⟩,
   ⟨Rect.unit ![9, 1, 0, 0] ![1, 1, 128, 256] inb_S16x4x128x256_S1x1x128x256_9_1_0_0, stored (extractStridedSlice S1x128 ![9, 640] p slices_S16x3200_o9_640_S1x128) (extractStridedSlice S1x256 ![9, 1280] p slices_S16x3200_o9_1280_S1x256) (extractStridedSlice S1x128 ![9, 128] a slices_S16x512_o9_128_S1x128) (View.ld S (Rect.unit ![9, 1, 0, 0] ![1, 1, 128, 256] inb_S16x4x128x256_S1x1x128x256_9_1_0_0))⟩,
   ⟨Rect.unit ![9, 0, 0, 0] ![1, 1, 128, 256] inb_S16x4x128x256_S1x1x128x256_9_0_0_0, stored (extractStridedSlice S1x128 ![9, 512] p slices_S16x3200_o9_512_S1x128) (extractStridedSlice S1x256 ![9, 1024] p slices_S16x3200_o9_1024_S1x256) (extractStridedSlice S1x128 ![9, 0] a slices_S16x512_o9_0_S1x128) (View.ld S (Rect.unit ![9, 0, 0, 0] ![1, 1, 128, 256] inb_S16x4x128x256_S1x1x128x256_9_0_0_0))⟩,
   ⟨Rect.unit ![8, 3, 0, 0] ![1, 1, 128, 256] inb_S16x4x128x256_S1x1x128x256_8_3_0_0, stored (extractStridedSlice S1x128 ![8, 896] p slices_S16x3200_o8_896_S1x128) (extractStridedSlice S1x256 ![8, 1792] p slices_S16x3200_o8_1792_S1x256) (extractStridedSlice S1x128 ![8, 384] a slices_S16x512_o8_384_S1x128) (View.ld S (Rect.unit ![8, 3, 0, 0] ![1, 1, 128, 256] inb_S16x4x128x256_S1x1x128x256_8_3_0_0))⟩,
   ⟨Rect.unit ![8, 2, 0, 0] ![1, 1, 128, 256] inb_S16x4x128x256_S1x1x128x256_8_2_0_0, stored (extractStridedSlice S1x128 ![8, 768] p slices_S16x3200_o8_768_S1x128) (extractStridedSlice S1x256 ![8, 1536] p slices_S16x3200_o8_1536_S1x256) (extractStridedSlice S1x128 ![8, 256] a slices_S16x512_o8_256_S1x128) (View.ld S (Rect.unit ![8, 2, 0, 0] ![1, 1, 128, 256] inb_S16x4x128x256_S1x1x128x256_8_2_0_0))⟩,
   ⟨Rect.unit ![8, 1, 0, 0] ![1, 1, 128, 256] inb_S16x4x128x256_S1x1x128x256_8_1_0_0, stored (extractStridedSlice S1x128 ![8, 640] p slices_S16x3200_o8_640_S1x128) (extractStridedSlice S1x256 ![8, 1280] p slices_S16x3200_o8_1280_S1x256) (extractStridedSlice S1x128 ![8, 128] a slices_S16x512_o8_128_S1x128) (View.ld S (Rect.unit ![8, 1, 0, 0] ![1, 1, 128, 256] inb_S16x4x128x256_S1x1x128x256_8_1_0_0))⟩,
   ⟨Rect.unit ![8, 0, 0, 0] ![1, 1, 128, 256] inb_S16x4x128x256_S1x1x128x256_8_0_0_0, stored (extractStridedSlice S1x128 ![8, 512] p slices_S16x3200_o8_512_S1x128) (extractStridedSlice S1x256 ![8, 1024] p slices_S16x3200_o8_1024_S1x256) (extractStridedSlice S1x128 ![8, 0] a slices_S16x512_o8_0_S1x128) (View.ld S (Rect.unit ![8, 0, 0, 0] ![1, 1, 128, 256] inb_S16x4x128x256_S1x1x128x256_8_0_0_0))⟩,
   ⟨Rect.unit ![7, 3, 0, 0] ![1, 1, 128, 256] inb_S16x4x128x256_S1x1x128x256_7_3_0_0, stored (extractStridedSlice S1x128 ![7, 896] p slices_S16x3200_o7_896_S1x128) (extractStridedSlice S1x256 ![7, 1792] p slices_S16x3200_o7_1792_S1x256) (extractStridedSlice S1x128 ![7, 384] a slices_S16x512_o7_384_S1x128) (View.ld S (Rect.unit ![7, 3, 0, 0] ![1, 1, 128, 256] inb_S16x4x128x256_S1x1x128x256_7_3_0_0))⟩,
   ⟨Rect.unit ![7, 2, 0, 0] ![1, 1, 128, 256] inb_S16x4x128x256_S1x1x128x256_7_2_0_0, stored (extractStridedSlice S1x128 ![7, 768] p slices_S16x3200_o7_768_S1x128) (extractStridedSlice S1x256 ![7, 1536] p slices_S16x3200_o7_1536_S1x256) (extractStridedSlice S1x128 ![7, 256] a slices_S16x512_o7_256_S1x128) (View.ld S (Rect.unit ![7, 2, 0, 0] ![1, 1, 128, 256] inb_S16x4x128x256_S1x1x128x256_7_2_0_0))⟩,
   ⟨Rect.unit ![7, 1, 0, 0] ![1, 1, 128, 256] inb_S16x4x128x256_S1x1x128x256_7_1_0_0, stored (extractStridedSlice S1x128 ![7, 640] p slices_S16x3200_o7_640_S1x128) (extractStridedSlice S1x256 ![7, 1280] p slices_S16x3200_o7_1280_S1x256) (extractStridedSlice S1x128 ![7, 128] a slices_S16x512_o7_128_S1x128) (View.ld S (Rect.unit ![7, 1, 0, 0] ![1, 1, 128, 256] inb_S16x4x128x256_S1x1x128x256_7_1_0_0))⟩,
   ⟨Rect.unit ![7, 0, 0, 0] ![1, 1, 128, 256] inb_S16x4x128x256_S1x1x128x256_7_0_0_0, stored (extractStridedSlice S1x128 ![7, 512] p slices_S16x3200_o7_512_S1x128) (extractStridedSlice S1x256 ![7, 1024] p slices_S16x3200_o7_1024_S1x256) (extractStridedSlice S1x128 ![7, 0] a slices_S16x512_o7_0_S1x128) (View.ld S (Rect.unit ![7, 0, 0, 0] ![1, 1, 128, 256] inb_S16x4x128x256_S1x1x128x256_7_0_0_0))⟩,
   ⟨Rect.unit ![6, 3, 0, 0] ![1, 1, 128, 256] inb_S16x4x128x256_S1x1x128x256_6_3_0_0, stored (extractStridedSlice S1x128 ![6, 896] p slices_S16x3200_o6_896_S1x128) (extractStridedSlice S1x256 ![6, 1792] p slices_S16x3200_o6_1792_S1x256) (extractStridedSlice S1x128 ![6, 384] a slices_S16x512_o6_384_S1x128) (View.ld S (Rect.unit ![6, 3, 0, 0] ![1, 1, 128, 256] inb_S16x4x128x256_S1x1x128x256_6_3_0_0))⟩,
   ⟨Rect.unit ![6, 2, 0, 0] ![1, 1, 128, 256] inb_S16x4x128x256_S1x1x128x256_6_2_0_0, stored (extractStridedSlice S1x128 ![6, 768] p slices_S16x3200_o6_768_S1x128) (extractStridedSlice S1x256 ![6, 1536] p slices_S16x3200_o6_1536_S1x256) (extractStridedSlice S1x128 ![6, 256] a slices_S16x512_o6_256_S1x128) (View.ld S (Rect.unit ![6, 2, 0, 0] ![1, 1, 128, 256] inb_S16x4x128x256_S1x1x128x256_6_2_0_0))⟩,
   ⟨Rect.unit ![6, 1, 0, 0] ![1, 1, 128, 256] inb_S16x4x128x256_S1x1x128x256_6_1_0_0, stored (extractStridedSlice S1x128 ![6, 640] p slices_S16x3200_o6_640_S1x128) (extractStridedSlice S1x256 ![6, 1280] p slices_S16x3200_o6_1280_S1x256) (extractStridedSlice S1x128 ![6, 128] a slices_S16x512_o6_128_S1x128) (View.ld S (Rect.unit ![6, 1, 0, 0] ![1, 1, 128, 256] inb_S16x4x128x256_S1x1x128x256_6_1_0_0))⟩,
   ⟨Rect.unit ![6, 0, 0, 0] ![1, 1, 128, 256] inb_S16x4x128x256_S1x1x128x256_6_0_0_0, stored (extractStridedSlice S1x128 ![6, 512] p slices_S16x3200_o6_512_S1x128) (extractStridedSlice S1x256 ![6, 1024] p slices_S16x3200_o6_1024_S1x256) (extractStridedSlice S1x128 ![6, 0] a slices_S16x512_o6_0_S1x128) (View.ld S (Rect.unit ![6, 0, 0, 0] ![1, 1, 128, 256] inb_S16x4x128x256_S1x1x128x256_6_0_0_0))⟩,
   ⟨Rect.unit ![5, 3, 0, 0] ![1, 1, 128, 256] inb_S16x4x128x256_S1x1x128x256_5_3_0_0, stored (extractStridedSlice S1x128 ![5, 896] p slices_S16x3200_o5_896_S1x128) (extractStridedSlice S1x256 ![5, 1792] p slices_S16x3200_o5_1792_S1x256) (extractStridedSlice S1x128 ![5, 384] a slices_S16x512_o5_384_S1x128) (View.ld S (Rect.unit ![5, 3, 0, 0] ![1, 1, 128, 256] inb_S16x4x128x256_S1x1x128x256_5_3_0_0))⟩,
   ⟨Rect.unit ![5, 2, 0, 0] ![1, 1, 128, 256] inb_S16x4x128x256_S1x1x128x256_5_2_0_0, stored (extractStridedSlice S1x128 ![5, 768] p slices_S16x3200_o5_768_S1x128) (extractStridedSlice S1x256 ![5, 1536] p slices_S16x3200_o5_1536_S1x256) (extractStridedSlice S1x128 ![5, 256] a slices_S16x512_o5_256_S1x128) (View.ld S (Rect.unit ![5, 2, 0, 0] ![1, 1, 128, 256] inb_S16x4x128x256_S1x1x128x256_5_2_0_0))⟩,
   ⟨Rect.unit ![5, 1, 0, 0] ![1, 1, 128, 256] inb_S16x4x128x256_S1x1x128x256_5_1_0_0, stored (extractStridedSlice S1x128 ![5, 640] p slices_S16x3200_o5_640_S1x128) (extractStridedSlice S1x256 ![5, 1280] p slices_S16x3200_o5_1280_S1x256) (extractStridedSlice S1x128 ![5, 128] a slices_S16x512_o5_128_S1x128) (View.ld S (Rect.unit ![5, 1, 0, 0] ![1, 1, 128, 256] inb_S16x4x128x256_S1x1x128x256_5_1_0_0))⟩,
   ⟨Rect.unit ![5, 0, 0, 0] ![1, 1, 128, 256] inb_S16x4x128x256_S1x1x128x256_5_0_0_0, stored (extractStridedSlice S1x128 ![5, 512] p slices_S16x3200_o5_512_S1x128) (extractStridedSlice S1x256 ![5, 1024] p slices_S16x3200_o5_1024_S1x256) (extractStridedSlice S1x128 ![5, 0] a slices_S16x512_o5_0_S1x128) (View.ld S (Rect.unit ![5, 0, 0, 0] ![1, 1, 128, 256] inb_S16x4x128x256_S1x1x128x256_5_0_0_0))⟩,
   ⟨Rect.unit ![4, 3, 0, 0] ![1, 1, 128, 256] inb_S16x4x128x256_S1x1x128x256_4_3_0_0, stored (extractStridedSlice S1x128 ![4, 896] p slices_S16x3200_o4_896_S1x128) (extractStridedSlice S1x256 ![4, 1792] p slices_S16x3200_o4_1792_S1x256) (extractStridedSlice S1x128 ![4, 384] a slices_S16x512_o4_384_S1x128) (View.ld S (Rect.unit ![4, 3, 0, 0] ![1, 1, 128, 256] inb_S16x4x128x256_S1x1x128x256_4_3_0_0))⟩,
   ⟨Rect.unit ![4, 2, 0, 0] ![1, 1, 128, 256] inb_S16x4x128x256_S1x1x128x256_4_2_0_0, stored (extractStridedSlice S1x128 ![4, 768] p slices_S16x3200_o4_768_S1x128) (extractStridedSlice S1x256 ![4, 1536] p slices_S16x3200_o4_1536_S1x256) (extractStridedSlice S1x128 ![4, 256] a slices_S16x512_o4_256_S1x128) (View.ld S (Rect.unit ![4, 2, 0, 0] ![1, 1, 128, 256] inb_S16x4x128x256_S1x1x128x256_4_2_0_0))⟩,
   ⟨Rect.unit ![4, 1, 0, 0] ![1, 1, 128, 256] inb_S16x4x128x256_S1x1x128x256_4_1_0_0, stored (extractStridedSlice S1x128 ![4, 640] p slices_S16x3200_o4_640_S1x128) (extractStridedSlice S1x256 ![4, 1280] p slices_S16x3200_o4_1280_S1x256) (extractStridedSlice S1x128 ![4, 128] a slices_S16x512_o4_128_S1x128) (View.ld S (Rect.unit ![4, 1, 0, 0] ![1, 1, 128, 256] inb_S16x4x128x256_S1x1x128x256_4_1_0_0))⟩,
   ⟨Rect.unit ![4, 0, 0, 0] ![1, 1, 128, 256] inb_S16x4x128x256_S1x1x128x256_4_0_0_0, stored (extractStridedSlice S1x128 ![4, 512] p slices_S16x3200_o4_512_S1x128) (extractStridedSlice S1x256 ![4, 1024] p slices_S16x3200_o4_1024_S1x256) (extractStridedSlice S1x128 ![4, 0] a slices_S16x512_o4_0_S1x128) (View.ld S (Rect.unit ![4, 0, 0, 0] ![1, 1, 128, 256] inb_S16x4x128x256_S1x1x128x256_4_0_0_0))⟩,
   ⟨Rect.unit ![3, 3, 0, 0] ![1, 1, 128, 256] inb_S16x4x128x256_S1x1x128x256_3_3_0_0, stored (extractStridedSlice S1x128 ![3, 896] p slices_S16x3200_o3_896_S1x128) (extractStridedSlice S1x256 ![3, 1792] p slices_S16x3200_o3_1792_S1x256) (extractStridedSlice S1x128 ![3, 384] a slices_S16x512_o3_384_S1x128) (View.ld S (Rect.unit ![3, 3, 0, 0] ![1, 1, 128, 256] inb_S16x4x128x256_S1x1x128x256_3_3_0_0))⟩,
   ⟨Rect.unit ![3, 2, 0, 0] ![1, 1, 128, 256] inb_S16x4x128x256_S1x1x128x256_3_2_0_0, stored (extractStridedSlice S1x128 ![3, 768] p slices_S16x3200_o3_768_S1x128) (extractStridedSlice S1x256 ![3, 1536] p slices_S16x3200_o3_1536_S1x256) (extractStridedSlice S1x128 ![3, 256] a slices_S16x512_o3_256_S1x128) (View.ld S (Rect.unit ![3, 2, 0, 0] ![1, 1, 128, 256] inb_S16x4x128x256_S1x1x128x256_3_2_0_0))⟩,
   ⟨Rect.unit ![3, 1, 0, 0] ![1, 1, 128, 256] inb_S16x4x128x256_S1x1x128x256_3_1_0_0, stored (extractStridedSlice S1x128 ![3, 640] p slices_S16x3200_o3_640_S1x128) (extractStridedSlice S1x256 ![3, 1280] p slices_S16x3200_o3_1280_S1x256) (extractStridedSlice S1x128 ![3, 128] a slices_S16x512_o3_128_S1x128) (View.ld S (Rect.unit ![3, 1, 0, 0] ![1, 1, 128, 256] inb_S16x4x128x256_S1x1x128x256_3_1_0_0))⟩,
   ⟨Rect.unit ![3, 0, 0, 0] ![1, 1, 128, 256] inb_S16x4x128x256_S1x1x128x256_3_0_0_0, stored (extractStridedSlice S1x128 ![3, 512] p slices_S16x3200_o3_512_S1x128) (extractStridedSlice S1x256 ![3, 1024] p slices_S16x3200_o3_1024_S1x256) (extractStridedSlice S1x128 ![3, 0] a slices_S16x512_o3_0_S1x128) (View.ld S (Rect.unit ![3, 0, 0, 0] ![1, 1, 128, 256] inb_S16x4x128x256_S1x1x128x256_3_0_0_0))⟩,
   ⟨Rect.unit ![2, 3, 0, 0] ![1, 1, 128, 256] inb_S16x4x128x256_S1x1x128x256_2_3_0_0, stored (extractStridedSlice S1x128 ![2, 896] p slices_S16x3200_o2_896_S1x128) (extractStridedSlice S1x256 ![2, 1792] p slices_S16x3200_o2_1792_S1x256) (extractStridedSlice S1x128 ![2, 384] a slices_S16x512_o2_384_S1x128) (View.ld S (Rect.unit ![2, 3, 0, 0] ![1, 1, 128, 256] inb_S16x4x128x256_S1x1x128x256_2_3_0_0))⟩,
   ⟨Rect.unit ![2, 2, 0, 0] ![1, 1, 128, 256] inb_S16x4x128x256_S1x1x128x256_2_2_0_0, stored (extractStridedSlice S1x128 ![2, 768] p slices_S16x3200_o2_768_S1x128) (extractStridedSlice S1x256 ![2, 1536] p slices_S16x3200_o2_1536_S1x256) (extractStridedSlice S1x128 ![2, 256] a slices_S16x512_o2_256_S1x128) (View.ld S (Rect.unit ![2, 2, 0, 0] ![1, 1, 128, 256] inb_S16x4x128x256_S1x1x128x256_2_2_0_0))⟩,
   ⟨Rect.unit ![2, 1, 0, 0] ![1, 1, 128, 256] inb_S16x4x128x256_S1x1x128x256_2_1_0_0, stored (extractStridedSlice S1x128 ![2, 640] p slices_S16x3200_o2_640_S1x128) (extractStridedSlice S1x256 ![2, 1280] p slices_S16x3200_o2_1280_S1x256) (extractStridedSlice S1x128 ![2, 128] a slices_S16x512_o2_128_S1x128) (View.ld S (Rect.unit ![2, 1, 0, 0] ![1, 1, 128, 256] inb_S16x4x128x256_S1x1x128x256_2_1_0_0))⟩,
   ⟨Rect.unit ![2, 0, 0, 0] ![1, 1, 128, 256] inb_S16x4x128x256_S1x1x128x256_2_0_0_0, stored (extractStridedSlice S1x128 ![2, 512] p slices_S16x3200_o2_512_S1x128) (extractStridedSlice S1x256 ![2, 1024] p slices_S16x3200_o2_1024_S1x256) (extractStridedSlice S1x128 ![2, 0] a slices_S16x512_o2_0_S1x128) (View.ld S (Rect.unit ![2, 0, 0, 0] ![1, 1, 128, 256] inb_S16x4x128x256_S1x1x128x256_2_0_0_0))⟩,
   ⟨Rect.unit ![1, 3, 0, 0] ![1, 1, 128, 256] inb_S16x4x128x256_S1x1x128x256_1_3_0_0, stored (extractStridedSlice S1x128 ![1, 896] p slices_S16x3200_o1_896_S1x128) (extractStridedSlice S1x256 ![1, 1792] p slices_S16x3200_o1_1792_S1x256) (extractStridedSlice S1x128 ![1, 384] a slices_S16x512_o1_384_S1x128) (View.ld S (Rect.unit ![1, 3, 0, 0] ![1, 1, 128, 256] inb_S16x4x128x256_S1x1x128x256_1_3_0_0))⟩,
   ⟨Rect.unit ![1, 2, 0, 0] ![1, 1, 128, 256] inb_S16x4x128x256_S1x1x128x256_1_2_0_0, stored (extractStridedSlice S1x128 ![1, 768] p slices_S16x3200_o1_768_S1x128) (extractStridedSlice S1x256 ![1, 1536] p slices_S16x3200_o1_1536_S1x256) (extractStridedSlice S1x128 ![1, 256] a slices_S16x512_o1_256_S1x128) (View.ld S (Rect.unit ![1, 2, 0, 0] ![1, 1, 128, 256] inb_S16x4x128x256_S1x1x128x256_1_2_0_0))⟩,
   ⟨Rect.unit ![1, 1, 0, 0] ![1, 1, 128, 256] inb_S16x4x128x256_S1x1x128x256_1_1_0_0, stored (extractStridedSlice S1x128 ![1, 640] p slices_S16x3200_o1_640_S1x128) (extractStridedSlice S1x256 ![1, 1280] p slices_S16x3200_o1_1280_S1x256) (extractStridedSlice S1x128 ![1, 128] a slices_S16x512_o1_128_S1x128) (View.ld S (Rect.unit ![1, 1, 0, 0] ![1, 1, 128, 256] inb_S16x4x128x256_S1x1x128x256_1_1_0_0))⟩,
   ⟨Rect.unit ![1, 0, 0, 0] ![1, 1, 128, 256] inb_S16x4x128x256_S1x1x128x256_1_0_0_0, stored (extractStridedSlice S1x128 ![1, 512] p slices_S16x3200_o1_512_S1x128) (extractStridedSlice S1x256 ![1, 1024] p slices_S16x3200_o1_1024_S1x256) (extractStridedSlice S1x128 ![1, 0] a slices_S16x512_o1_0_S1x128) (View.ld S (Rect.unit ![1, 0, 0, 0] ![1, 1, 128, 256] inb_S16x4x128x256_S1x1x128x256_1_0_0_0))⟩,
   ⟨Rect.unit ![0, 3, 0, 0] ![1, 1, 128, 256] inb_S16x4x128x256_S1x1x128x256_0_3_0_0, stored (extractStridedSlice S1x128 ![0, 896] p slices_S16x3200_o0_896_S1x128) (extractStridedSlice S1x256 ![0, 1792] p slices_S16x3200_o0_1792_S1x256) (extractStridedSlice S1x128 ![0, 384] a slices_S16x512_o0_384_S1x128) (View.ld S (Rect.unit ![0, 3, 0, 0] ![1, 1, 128, 256] inb_S16x4x128x256_S1x1x128x256_0_3_0_0))⟩,
   ⟨Rect.unit ![0, 2, 0, 0] ![1, 1, 128, 256] inb_S16x4x128x256_S1x1x128x256_0_2_0_0, stored (extractStridedSlice S1x128 ![0, 768] p slices_S16x3200_o0_768_S1x128) (extractStridedSlice S1x256 ![0, 1536] p slices_S16x3200_o0_1536_S1x256) (extractStridedSlice S1x128 ![0, 256] a slices_S16x512_o0_256_S1x128) (View.ld S (Rect.unit ![0, 2, 0, 0] ![1, 1, 128, 256] inb_S16x4x128x256_S1x1x128x256_0_2_0_0))⟩,
   ⟨Rect.unit ![0, 1, 0, 0] ![1, 1, 128, 256] inb_S16x4x128x256_S1x1x128x256_0_1_0_0, stored (extractStridedSlice S1x128 ![0, 640] p slices_S16x3200_o0_640_S1x128) (extractStridedSlice S1x256 ![0, 1280] p slices_S16x3200_o0_1280_S1x256) (extractStridedSlice S1x128 ![0, 128] a slices_S16x512_o0_128_S1x128) (View.ld S (Rect.unit ![0, 1, 0, 0] ![1, 1, 128, 256] inb_S16x4x128x256_S1x1x128x256_0_1_0_0))⟩,
   ⟨Rect.unit ![0, 0, 0, 0] ![1, 1, 128, 256] inb_S16x4x128x256_S1x1x128x256_0_0_0_0, stored (extractStridedSlice S1x128 ![0, 512] p slices_S16x3200_o0_512_S1x128) (extractStridedSlice S1x256 ![0, 1024] p slices_S16x3200_o0_1024_S1x256) (extractStridedSlice S1x128 ![0, 0] a slices_S16x512_o0_0_S1x128) (View.ld S (Rect.unit ![0, 0, 0, 0] ![1, 1, 128, 256] inb_S16x4x128x256_S1x1x128x256_0_0_0_0))⟩]

/-- The sixty-four readouts of one block, one per sequence and head. -/
def reads (p : Vec Ideal S16x3200 .f32) (S : Vec Ideal S16x4x128x256 .f32) (a : FVec Ideal S16x512 .f32) :
    List (View.Piece (Elt Ideal) S16x1024 .f32) :=
  [⟨Rect.unit ![15, 768] ![1, 256] inb_S16x1024_S1x256_15_768, readout (extractStridedSlice S1x128 ![15, 384] p slices_S16x3200_o15_384_S1x128) (extractStridedSlice S1x128 ![15, 896] p slices_S16x3200_o15_896_S1x128) (extractStridedSlice S1x256 ![15, 1792] p slices_S16x3200_o15_1792_S1x256) (extractStridedSlice S1x128 ![15, 384] a slices_S16x512_o15_384_S1x128) (View.ld S (Rect.unit ![15, 3, 0, 0] ![1, 1, 128, 256] inb_S16x4x128x256_S1x1x128x256_15_3_0_0))⟩,
   ⟨Rect.unit ![15, 512] ![1, 256] inb_S16x1024_S1x256_15_512, readout (extractStridedSlice S1x128 ![15, 256] p slices_S16x3200_o15_256_S1x128) (extractStridedSlice S1x128 ![15, 768] p slices_S16x3200_o15_768_S1x128) (extractStridedSlice S1x256 ![15, 1536] p slices_S16x3200_o15_1536_S1x256) (extractStridedSlice S1x128 ![15, 256] a slices_S16x512_o15_256_S1x128) (View.ld S (Rect.unit ![15, 2, 0, 0] ![1, 1, 128, 256] inb_S16x4x128x256_S1x1x128x256_15_2_0_0))⟩,
   ⟨Rect.unit ![15, 256] ![1, 256] inb_S16x1024_S1x256_15_256, readout (extractStridedSlice S1x128 ![15, 128] p slices_S16x3200_o15_128_S1x128) (extractStridedSlice S1x128 ![15, 640] p slices_S16x3200_o15_640_S1x128) (extractStridedSlice S1x256 ![15, 1280] p slices_S16x3200_o15_1280_S1x256) (extractStridedSlice S1x128 ![15, 128] a slices_S16x512_o15_128_S1x128) (View.ld S (Rect.unit ![15, 1, 0, 0] ![1, 1, 128, 256] inb_S16x4x128x256_S1x1x128x256_15_1_0_0))⟩,
   ⟨Rect.unit ![15, 0] ![1, 256] inb_S16x1024_S1x256_15_0, readout (extractStridedSlice S1x128 ![15, 0] p slices_S16x3200_o15_0_S1x128) (extractStridedSlice S1x128 ![15, 512] p slices_S16x3200_o15_512_S1x128) (extractStridedSlice S1x256 ![15, 1024] p slices_S16x3200_o15_1024_S1x256) (extractStridedSlice S1x128 ![15, 0] a slices_S16x512_o15_0_S1x128) (View.ld S (Rect.unit ![15, 0, 0, 0] ![1, 1, 128, 256] inb_S16x4x128x256_S1x1x128x256_15_0_0_0))⟩,
   ⟨Rect.unit ![14, 768] ![1, 256] inb_S16x1024_S1x256_14_768, readout (extractStridedSlice S1x128 ![14, 384] p slices_S16x3200_o14_384_S1x128) (extractStridedSlice S1x128 ![14, 896] p slices_S16x3200_o14_896_S1x128) (extractStridedSlice S1x256 ![14, 1792] p slices_S16x3200_o14_1792_S1x256) (extractStridedSlice S1x128 ![14, 384] a slices_S16x512_o14_384_S1x128) (View.ld S (Rect.unit ![14, 3, 0, 0] ![1, 1, 128, 256] inb_S16x4x128x256_S1x1x128x256_14_3_0_0))⟩,
   ⟨Rect.unit ![14, 512] ![1, 256] inb_S16x1024_S1x256_14_512, readout (extractStridedSlice S1x128 ![14, 256] p slices_S16x3200_o14_256_S1x128) (extractStridedSlice S1x128 ![14, 768] p slices_S16x3200_o14_768_S1x128) (extractStridedSlice S1x256 ![14, 1536] p slices_S16x3200_o14_1536_S1x256) (extractStridedSlice S1x128 ![14, 256] a slices_S16x512_o14_256_S1x128) (View.ld S (Rect.unit ![14, 2, 0, 0] ![1, 1, 128, 256] inb_S16x4x128x256_S1x1x128x256_14_2_0_0))⟩,
   ⟨Rect.unit ![14, 256] ![1, 256] inb_S16x1024_S1x256_14_256, readout (extractStridedSlice S1x128 ![14, 128] p slices_S16x3200_o14_128_S1x128) (extractStridedSlice S1x128 ![14, 640] p slices_S16x3200_o14_640_S1x128) (extractStridedSlice S1x256 ![14, 1280] p slices_S16x3200_o14_1280_S1x256) (extractStridedSlice S1x128 ![14, 128] a slices_S16x512_o14_128_S1x128) (View.ld S (Rect.unit ![14, 1, 0, 0] ![1, 1, 128, 256] inb_S16x4x128x256_S1x1x128x256_14_1_0_0))⟩,
   ⟨Rect.unit ![14, 0] ![1, 256] inb_S16x1024_S1x256_14_0, readout (extractStridedSlice S1x128 ![14, 0] p slices_S16x3200_o14_0_S1x128) (extractStridedSlice S1x128 ![14, 512] p slices_S16x3200_o14_512_S1x128) (extractStridedSlice S1x256 ![14, 1024] p slices_S16x3200_o14_1024_S1x256) (extractStridedSlice S1x128 ![14, 0] a slices_S16x512_o14_0_S1x128) (View.ld S (Rect.unit ![14, 0, 0, 0] ![1, 1, 128, 256] inb_S16x4x128x256_S1x1x128x256_14_0_0_0))⟩,
   ⟨Rect.unit ![13, 768] ![1, 256] inb_S16x1024_S1x256_13_768, readout (extractStridedSlice S1x128 ![13, 384] p slices_S16x3200_o13_384_S1x128) (extractStridedSlice S1x128 ![13, 896] p slices_S16x3200_o13_896_S1x128) (extractStridedSlice S1x256 ![13, 1792] p slices_S16x3200_o13_1792_S1x256) (extractStridedSlice S1x128 ![13, 384] a slices_S16x512_o13_384_S1x128) (View.ld S (Rect.unit ![13, 3, 0, 0] ![1, 1, 128, 256] inb_S16x4x128x256_S1x1x128x256_13_3_0_0))⟩,
   ⟨Rect.unit ![13, 512] ![1, 256] inb_S16x1024_S1x256_13_512, readout (extractStridedSlice S1x128 ![13, 256] p slices_S16x3200_o13_256_S1x128) (extractStridedSlice S1x128 ![13, 768] p slices_S16x3200_o13_768_S1x128) (extractStridedSlice S1x256 ![13, 1536] p slices_S16x3200_o13_1536_S1x256) (extractStridedSlice S1x128 ![13, 256] a slices_S16x512_o13_256_S1x128) (View.ld S (Rect.unit ![13, 2, 0, 0] ![1, 1, 128, 256] inb_S16x4x128x256_S1x1x128x256_13_2_0_0))⟩,
   ⟨Rect.unit ![13, 256] ![1, 256] inb_S16x1024_S1x256_13_256, readout (extractStridedSlice S1x128 ![13, 128] p slices_S16x3200_o13_128_S1x128) (extractStridedSlice S1x128 ![13, 640] p slices_S16x3200_o13_640_S1x128) (extractStridedSlice S1x256 ![13, 1280] p slices_S16x3200_o13_1280_S1x256) (extractStridedSlice S1x128 ![13, 128] a slices_S16x512_o13_128_S1x128) (View.ld S (Rect.unit ![13, 1, 0, 0] ![1, 1, 128, 256] inb_S16x4x128x256_S1x1x128x256_13_1_0_0))⟩,
   ⟨Rect.unit ![13, 0] ![1, 256] inb_S16x1024_S1x256_13_0, readout (extractStridedSlice S1x128 ![13, 0] p slices_S16x3200_o13_0_S1x128) (extractStridedSlice S1x128 ![13, 512] p slices_S16x3200_o13_512_S1x128) (extractStridedSlice S1x256 ![13, 1024] p slices_S16x3200_o13_1024_S1x256) (extractStridedSlice S1x128 ![13, 0] a slices_S16x512_o13_0_S1x128) (View.ld S (Rect.unit ![13, 0, 0, 0] ![1, 1, 128, 256] inb_S16x4x128x256_S1x1x128x256_13_0_0_0))⟩,
   ⟨Rect.unit ![12, 768] ![1, 256] inb_S16x1024_S1x256_12_768, readout (extractStridedSlice S1x128 ![12, 384] p slices_S16x3200_o12_384_S1x128) (extractStridedSlice S1x128 ![12, 896] p slices_S16x3200_o12_896_S1x128) (extractStridedSlice S1x256 ![12, 1792] p slices_S16x3200_o12_1792_S1x256) (extractStridedSlice S1x128 ![12, 384] a slices_S16x512_o12_384_S1x128) (View.ld S (Rect.unit ![12, 3, 0, 0] ![1, 1, 128, 256] inb_S16x4x128x256_S1x1x128x256_12_3_0_0))⟩,
   ⟨Rect.unit ![12, 512] ![1, 256] inb_S16x1024_S1x256_12_512, readout (extractStridedSlice S1x128 ![12, 256] p slices_S16x3200_o12_256_S1x128) (extractStridedSlice S1x128 ![12, 768] p slices_S16x3200_o12_768_S1x128) (extractStridedSlice S1x256 ![12, 1536] p slices_S16x3200_o12_1536_S1x256) (extractStridedSlice S1x128 ![12, 256] a slices_S16x512_o12_256_S1x128) (View.ld S (Rect.unit ![12, 2, 0, 0] ![1, 1, 128, 256] inb_S16x4x128x256_S1x1x128x256_12_2_0_0))⟩,
   ⟨Rect.unit ![12, 256] ![1, 256] inb_S16x1024_S1x256_12_256, readout (extractStridedSlice S1x128 ![12, 128] p slices_S16x3200_o12_128_S1x128) (extractStridedSlice S1x128 ![12, 640] p slices_S16x3200_o12_640_S1x128) (extractStridedSlice S1x256 ![12, 1280] p slices_S16x3200_o12_1280_S1x256) (extractStridedSlice S1x128 ![12, 128] a slices_S16x512_o12_128_S1x128) (View.ld S (Rect.unit ![12, 1, 0, 0] ![1, 1, 128, 256] inb_S16x4x128x256_S1x1x128x256_12_1_0_0))⟩,
   ⟨Rect.unit ![12, 0] ![1, 256] inb_S16x1024_S1x256_12_0, readout (extractStridedSlice S1x128 ![12, 0] p slices_S16x3200_o12_0_S1x128) (extractStridedSlice S1x128 ![12, 512] p slices_S16x3200_o12_512_S1x128) (extractStridedSlice S1x256 ![12, 1024] p slices_S16x3200_o12_1024_S1x256) (extractStridedSlice S1x128 ![12, 0] a slices_S16x512_o12_0_S1x128) (View.ld S (Rect.unit ![12, 0, 0, 0] ![1, 1, 128, 256] inb_S16x4x128x256_S1x1x128x256_12_0_0_0))⟩,
   ⟨Rect.unit ![11, 768] ![1, 256] inb_S16x1024_S1x256_11_768, readout (extractStridedSlice S1x128 ![11, 384] p slices_S16x3200_o11_384_S1x128) (extractStridedSlice S1x128 ![11, 896] p slices_S16x3200_o11_896_S1x128) (extractStridedSlice S1x256 ![11, 1792] p slices_S16x3200_o11_1792_S1x256) (extractStridedSlice S1x128 ![11, 384] a slices_S16x512_o11_384_S1x128) (View.ld S (Rect.unit ![11, 3, 0, 0] ![1, 1, 128, 256] inb_S16x4x128x256_S1x1x128x256_11_3_0_0))⟩,
   ⟨Rect.unit ![11, 512] ![1, 256] inb_S16x1024_S1x256_11_512, readout (extractStridedSlice S1x128 ![11, 256] p slices_S16x3200_o11_256_S1x128) (extractStridedSlice S1x128 ![11, 768] p slices_S16x3200_o11_768_S1x128) (extractStridedSlice S1x256 ![11, 1536] p slices_S16x3200_o11_1536_S1x256) (extractStridedSlice S1x128 ![11, 256] a slices_S16x512_o11_256_S1x128) (View.ld S (Rect.unit ![11, 2, 0, 0] ![1, 1, 128, 256] inb_S16x4x128x256_S1x1x128x256_11_2_0_0))⟩,
   ⟨Rect.unit ![11, 256] ![1, 256] inb_S16x1024_S1x256_11_256, readout (extractStridedSlice S1x128 ![11, 128] p slices_S16x3200_o11_128_S1x128) (extractStridedSlice S1x128 ![11, 640] p slices_S16x3200_o11_640_S1x128) (extractStridedSlice S1x256 ![11, 1280] p slices_S16x3200_o11_1280_S1x256) (extractStridedSlice S1x128 ![11, 128] a slices_S16x512_o11_128_S1x128) (View.ld S (Rect.unit ![11, 1, 0, 0] ![1, 1, 128, 256] inb_S16x4x128x256_S1x1x128x256_11_1_0_0))⟩,
   ⟨Rect.unit ![11, 0] ![1, 256] inb_S16x1024_S1x256_11_0, readout (extractStridedSlice S1x128 ![11, 0] p slices_S16x3200_o11_0_S1x128) (extractStridedSlice S1x128 ![11, 512] p slices_S16x3200_o11_512_S1x128) (extractStridedSlice S1x256 ![11, 1024] p slices_S16x3200_o11_1024_S1x256) (extractStridedSlice S1x128 ![11, 0] a slices_S16x512_o11_0_S1x128) (View.ld S (Rect.unit ![11, 0, 0, 0] ![1, 1, 128, 256] inb_S16x4x128x256_S1x1x128x256_11_0_0_0))⟩,
   ⟨Rect.unit ![10, 768] ![1, 256] inb_S16x1024_S1x256_10_768, readout (extractStridedSlice S1x128 ![10, 384] p slices_S16x3200_o10_384_S1x128) (extractStridedSlice S1x128 ![10, 896] p slices_S16x3200_o10_896_S1x128) (extractStridedSlice S1x256 ![10, 1792] p slices_S16x3200_o10_1792_S1x256) (extractStridedSlice S1x128 ![10, 384] a slices_S16x512_o10_384_S1x128) (View.ld S (Rect.unit ![10, 3, 0, 0] ![1, 1, 128, 256] inb_S16x4x128x256_S1x1x128x256_10_3_0_0))⟩,
   ⟨Rect.unit ![10, 512] ![1, 256] inb_S16x1024_S1x256_10_512, readout (extractStridedSlice S1x128 ![10, 256] p slices_S16x3200_o10_256_S1x128) (extractStridedSlice S1x128 ![10, 768] p slices_S16x3200_o10_768_S1x128) (extractStridedSlice S1x256 ![10, 1536] p slices_S16x3200_o10_1536_S1x256) (extractStridedSlice S1x128 ![10, 256] a slices_S16x512_o10_256_S1x128) (View.ld S (Rect.unit ![10, 2, 0, 0] ![1, 1, 128, 256] inb_S16x4x128x256_S1x1x128x256_10_2_0_0))⟩,
   ⟨Rect.unit ![10, 256] ![1, 256] inb_S16x1024_S1x256_10_256, readout (extractStridedSlice S1x128 ![10, 128] p slices_S16x3200_o10_128_S1x128) (extractStridedSlice S1x128 ![10, 640] p slices_S16x3200_o10_640_S1x128) (extractStridedSlice S1x256 ![10, 1280] p slices_S16x3200_o10_1280_S1x256) (extractStridedSlice S1x128 ![10, 128] a slices_S16x512_o10_128_S1x128) (View.ld S (Rect.unit ![10, 1, 0, 0] ![1, 1, 128, 256] inb_S16x4x128x256_S1x1x128x256_10_1_0_0))⟩,
   ⟨Rect.unit ![10, 0] ![1, 256] inb_S16x1024_S1x256_10_0, readout (extractStridedSlice S1x128 ![10, 0] p slices_S16x3200_o10_0_S1x128) (extractStridedSlice S1x128 ![10, 512] p slices_S16x3200_o10_512_S1x128) (extractStridedSlice S1x256 ![10, 1024] p slices_S16x3200_o10_1024_S1x256) (extractStridedSlice S1x128 ![10, 0] a slices_S16x512_o10_0_S1x128) (View.ld S (Rect.unit ![10, 0, 0, 0] ![1, 1, 128, 256] inb_S16x4x128x256_S1x1x128x256_10_0_0_0))⟩,
   ⟨Rect.unit ![9, 768] ![1, 256] inb_S16x1024_S1x256_9_768, readout (extractStridedSlice S1x128 ![9, 384] p slices_S16x3200_o9_384_S1x128) (extractStridedSlice S1x128 ![9, 896] p slices_S16x3200_o9_896_S1x128) (extractStridedSlice S1x256 ![9, 1792] p slices_S16x3200_o9_1792_S1x256) (extractStridedSlice S1x128 ![9, 384] a slices_S16x512_o9_384_S1x128) (View.ld S (Rect.unit ![9, 3, 0, 0] ![1, 1, 128, 256] inb_S16x4x128x256_S1x1x128x256_9_3_0_0))⟩,
   ⟨Rect.unit ![9, 512] ![1, 256] inb_S16x1024_S1x256_9_512, readout (extractStridedSlice S1x128 ![9, 256] p slices_S16x3200_o9_256_S1x128) (extractStridedSlice S1x128 ![9, 768] p slices_S16x3200_o9_768_S1x128) (extractStridedSlice S1x256 ![9, 1536] p slices_S16x3200_o9_1536_S1x256) (extractStridedSlice S1x128 ![9, 256] a slices_S16x512_o9_256_S1x128) (View.ld S (Rect.unit ![9, 2, 0, 0] ![1, 1, 128, 256] inb_S16x4x128x256_S1x1x128x256_9_2_0_0))⟩,
   ⟨Rect.unit ![9, 256] ![1, 256] inb_S16x1024_S1x256_9_256, readout (extractStridedSlice S1x128 ![9, 128] p slices_S16x3200_o9_128_S1x128) (extractStridedSlice S1x128 ![9, 640] p slices_S16x3200_o9_640_S1x128) (extractStridedSlice S1x256 ![9, 1280] p slices_S16x3200_o9_1280_S1x256) (extractStridedSlice S1x128 ![9, 128] a slices_S16x512_o9_128_S1x128) (View.ld S (Rect.unit ![9, 1, 0, 0] ![1, 1, 128, 256] inb_S16x4x128x256_S1x1x128x256_9_1_0_0))⟩,
   ⟨Rect.unit ![9, 0] ![1, 256] inb_S16x1024_S1x256_9_0, readout (extractStridedSlice S1x128 ![9, 0] p slices_S16x3200_o9_0_S1x128) (extractStridedSlice S1x128 ![9, 512] p slices_S16x3200_o9_512_S1x128) (extractStridedSlice S1x256 ![9, 1024] p slices_S16x3200_o9_1024_S1x256) (extractStridedSlice S1x128 ![9, 0] a slices_S16x512_o9_0_S1x128) (View.ld S (Rect.unit ![9, 0, 0, 0] ![1, 1, 128, 256] inb_S16x4x128x256_S1x1x128x256_9_0_0_0))⟩,
   ⟨Rect.unit ![8, 768] ![1, 256] inb_S16x1024_S1x256_8_768, readout (extractStridedSlice S1x128 ![8, 384] p slices_S16x3200_o8_384_S1x128) (extractStridedSlice S1x128 ![8, 896] p slices_S16x3200_o8_896_S1x128) (extractStridedSlice S1x256 ![8, 1792] p slices_S16x3200_o8_1792_S1x256) (extractStridedSlice S1x128 ![8, 384] a slices_S16x512_o8_384_S1x128) (View.ld S (Rect.unit ![8, 3, 0, 0] ![1, 1, 128, 256] inb_S16x4x128x256_S1x1x128x256_8_3_0_0))⟩,
   ⟨Rect.unit ![8, 512] ![1, 256] inb_S16x1024_S1x256_8_512, readout (extractStridedSlice S1x128 ![8, 256] p slices_S16x3200_o8_256_S1x128) (extractStridedSlice S1x128 ![8, 768] p slices_S16x3200_o8_768_S1x128) (extractStridedSlice S1x256 ![8, 1536] p slices_S16x3200_o8_1536_S1x256) (extractStridedSlice S1x128 ![8, 256] a slices_S16x512_o8_256_S1x128) (View.ld S (Rect.unit ![8, 2, 0, 0] ![1, 1, 128, 256] inb_S16x4x128x256_S1x1x128x256_8_2_0_0))⟩,
   ⟨Rect.unit ![8, 256] ![1, 256] inb_S16x1024_S1x256_8_256, readout (extractStridedSlice S1x128 ![8, 128] p slices_S16x3200_o8_128_S1x128) (extractStridedSlice S1x128 ![8, 640] p slices_S16x3200_o8_640_S1x128) (extractStridedSlice S1x256 ![8, 1280] p slices_S16x3200_o8_1280_S1x256) (extractStridedSlice S1x128 ![8, 128] a slices_S16x512_o8_128_S1x128) (View.ld S (Rect.unit ![8, 1, 0, 0] ![1, 1, 128, 256] inb_S16x4x128x256_S1x1x128x256_8_1_0_0))⟩,
   ⟨Rect.unit ![8, 0] ![1, 256] inb_S16x1024_S1x256_8_0, readout (extractStridedSlice S1x128 ![8, 0] p slices_S16x3200_o8_0_S1x128) (extractStridedSlice S1x128 ![8, 512] p slices_S16x3200_o8_512_S1x128) (extractStridedSlice S1x256 ![8, 1024] p slices_S16x3200_o8_1024_S1x256) (extractStridedSlice S1x128 ![8, 0] a slices_S16x512_o8_0_S1x128) (View.ld S (Rect.unit ![8, 0, 0, 0] ![1, 1, 128, 256] inb_S16x4x128x256_S1x1x128x256_8_0_0_0))⟩,
   ⟨Rect.unit ![7, 768] ![1, 256] inb_S16x1024_S1x256_7_768, readout (extractStridedSlice S1x128 ![7, 384] p slices_S16x3200_o7_384_S1x128) (extractStridedSlice S1x128 ![7, 896] p slices_S16x3200_o7_896_S1x128) (extractStridedSlice S1x256 ![7, 1792] p slices_S16x3200_o7_1792_S1x256) (extractStridedSlice S1x128 ![7, 384] a slices_S16x512_o7_384_S1x128) (View.ld S (Rect.unit ![7, 3, 0, 0] ![1, 1, 128, 256] inb_S16x4x128x256_S1x1x128x256_7_3_0_0))⟩,
   ⟨Rect.unit ![7, 512] ![1, 256] inb_S16x1024_S1x256_7_512, readout (extractStridedSlice S1x128 ![7, 256] p slices_S16x3200_o7_256_S1x128) (extractStridedSlice S1x128 ![7, 768] p slices_S16x3200_o7_768_S1x128) (extractStridedSlice S1x256 ![7, 1536] p slices_S16x3200_o7_1536_S1x256) (extractStridedSlice S1x128 ![7, 256] a slices_S16x512_o7_256_S1x128) (View.ld S (Rect.unit ![7, 2, 0, 0] ![1, 1, 128, 256] inb_S16x4x128x256_S1x1x128x256_7_2_0_0))⟩,
   ⟨Rect.unit ![7, 256] ![1, 256] inb_S16x1024_S1x256_7_256, readout (extractStridedSlice S1x128 ![7, 128] p slices_S16x3200_o7_128_S1x128) (extractStridedSlice S1x128 ![7, 640] p slices_S16x3200_o7_640_S1x128) (extractStridedSlice S1x256 ![7, 1280] p slices_S16x3200_o7_1280_S1x256) (extractStridedSlice S1x128 ![7, 128] a slices_S16x512_o7_128_S1x128) (View.ld S (Rect.unit ![7, 1, 0, 0] ![1, 1, 128, 256] inb_S16x4x128x256_S1x1x128x256_7_1_0_0))⟩,
   ⟨Rect.unit ![7, 0] ![1, 256] inb_S16x1024_S1x256_7_0, readout (extractStridedSlice S1x128 ![7, 0] p slices_S16x3200_o7_0_S1x128) (extractStridedSlice S1x128 ![7, 512] p slices_S16x3200_o7_512_S1x128) (extractStridedSlice S1x256 ![7, 1024] p slices_S16x3200_o7_1024_S1x256) (extractStridedSlice S1x128 ![7, 0] a slices_S16x512_o7_0_S1x128) (View.ld S (Rect.unit ![7, 0, 0, 0] ![1, 1, 128, 256] inb_S16x4x128x256_S1x1x128x256_7_0_0_0))⟩,
   ⟨Rect.unit ![6, 768] ![1, 256] inb_S16x1024_S1x256_6_768, readout (extractStridedSlice S1x128 ![6, 384] p slices_S16x3200_o6_384_S1x128) (extractStridedSlice S1x128 ![6, 896] p slices_S16x3200_o6_896_S1x128) (extractStridedSlice S1x256 ![6, 1792] p slices_S16x3200_o6_1792_S1x256) (extractStridedSlice S1x128 ![6, 384] a slices_S16x512_o6_384_S1x128) (View.ld S (Rect.unit ![6, 3, 0, 0] ![1, 1, 128, 256] inb_S16x4x128x256_S1x1x128x256_6_3_0_0))⟩,
   ⟨Rect.unit ![6, 512] ![1, 256] inb_S16x1024_S1x256_6_512, readout (extractStridedSlice S1x128 ![6, 256] p slices_S16x3200_o6_256_S1x128) (extractStridedSlice S1x128 ![6, 768] p slices_S16x3200_o6_768_S1x128) (extractStridedSlice S1x256 ![6, 1536] p slices_S16x3200_o6_1536_S1x256) (extractStridedSlice S1x128 ![6, 256] a slices_S16x512_o6_256_S1x128) (View.ld S (Rect.unit ![6, 2, 0, 0] ![1, 1, 128, 256] inb_S16x4x128x256_S1x1x128x256_6_2_0_0))⟩,
   ⟨Rect.unit ![6, 256] ![1, 256] inb_S16x1024_S1x256_6_256, readout (extractStridedSlice S1x128 ![6, 128] p slices_S16x3200_o6_128_S1x128) (extractStridedSlice S1x128 ![6, 640] p slices_S16x3200_o6_640_S1x128) (extractStridedSlice S1x256 ![6, 1280] p slices_S16x3200_o6_1280_S1x256) (extractStridedSlice S1x128 ![6, 128] a slices_S16x512_o6_128_S1x128) (View.ld S (Rect.unit ![6, 1, 0, 0] ![1, 1, 128, 256] inb_S16x4x128x256_S1x1x128x256_6_1_0_0))⟩,
   ⟨Rect.unit ![6, 0] ![1, 256] inb_S16x1024_S1x256_6_0, readout (extractStridedSlice S1x128 ![6, 0] p slices_S16x3200_o6_0_S1x128) (extractStridedSlice S1x128 ![6, 512] p slices_S16x3200_o6_512_S1x128) (extractStridedSlice S1x256 ![6, 1024] p slices_S16x3200_o6_1024_S1x256) (extractStridedSlice S1x128 ![6, 0] a slices_S16x512_o6_0_S1x128) (View.ld S (Rect.unit ![6, 0, 0, 0] ![1, 1, 128, 256] inb_S16x4x128x256_S1x1x128x256_6_0_0_0))⟩,
   ⟨Rect.unit ![5, 768] ![1, 256] inb_S16x1024_S1x256_5_768, readout (extractStridedSlice S1x128 ![5, 384] p slices_S16x3200_o5_384_S1x128) (extractStridedSlice S1x128 ![5, 896] p slices_S16x3200_o5_896_S1x128) (extractStridedSlice S1x256 ![5, 1792] p slices_S16x3200_o5_1792_S1x256) (extractStridedSlice S1x128 ![5, 384] a slices_S16x512_o5_384_S1x128) (View.ld S (Rect.unit ![5, 3, 0, 0] ![1, 1, 128, 256] inb_S16x4x128x256_S1x1x128x256_5_3_0_0))⟩,
   ⟨Rect.unit ![5, 512] ![1, 256] inb_S16x1024_S1x256_5_512, readout (extractStridedSlice S1x128 ![5, 256] p slices_S16x3200_o5_256_S1x128) (extractStridedSlice S1x128 ![5, 768] p slices_S16x3200_o5_768_S1x128) (extractStridedSlice S1x256 ![5, 1536] p slices_S16x3200_o5_1536_S1x256) (extractStridedSlice S1x128 ![5, 256] a slices_S16x512_o5_256_S1x128) (View.ld S (Rect.unit ![5, 2, 0, 0] ![1, 1, 128, 256] inb_S16x4x128x256_S1x1x128x256_5_2_0_0))⟩,
   ⟨Rect.unit ![5, 256] ![1, 256] inb_S16x1024_S1x256_5_256, readout (extractStridedSlice S1x128 ![5, 128] p slices_S16x3200_o5_128_S1x128) (extractStridedSlice S1x128 ![5, 640] p slices_S16x3200_o5_640_S1x128) (extractStridedSlice S1x256 ![5, 1280] p slices_S16x3200_o5_1280_S1x256) (extractStridedSlice S1x128 ![5, 128] a slices_S16x512_o5_128_S1x128) (View.ld S (Rect.unit ![5, 1, 0, 0] ![1, 1, 128, 256] inb_S16x4x128x256_S1x1x128x256_5_1_0_0))⟩,
   ⟨Rect.unit ![5, 0] ![1, 256] inb_S16x1024_S1x256_5_0, readout (extractStridedSlice S1x128 ![5, 0] p slices_S16x3200_o5_0_S1x128) (extractStridedSlice S1x128 ![5, 512] p slices_S16x3200_o5_512_S1x128) (extractStridedSlice S1x256 ![5, 1024] p slices_S16x3200_o5_1024_S1x256) (extractStridedSlice S1x128 ![5, 0] a slices_S16x512_o5_0_S1x128) (View.ld S (Rect.unit ![5, 0, 0, 0] ![1, 1, 128, 256] inb_S16x4x128x256_S1x1x128x256_5_0_0_0))⟩,
   ⟨Rect.unit ![4, 768] ![1, 256] inb_S16x1024_S1x256_4_768, readout (extractStridedSlice S1x128 ![4, 384] p slices_S16x3200_o4_384_S1x128) (extractStridedSlice S1x128 ![4, 896] p slices_S16x3200_o4_896_S1x128) (extractStridedSlice S1x256 ![4, 1792] p slices_S16x3200_o4_1792_S1x256) (extractStridedSlice S1x128 ![4, 384] a slices_S16x512_o4_384_S1x128) (View.ld S (Rect.unit ![4, 3, 0, 0] ![1, 1, 128, 256] inb_S16x4x128x256_S1x1x128x256_4_3_0_0))⟩,
   ⟨Rect.unit ![4, 512] ![1, 256] inb_S16x1024_S1x256_4_512, readout (extractStridedSlice S1x128 ![4, 256] p slices_S16x3200_o4_256_S1x128) (extractStridedSlice S1x128 ![4, 768] p slices_S16x3200_o4_768_S1x128) (extractStridedSlice S1x256 ![4, 1536] p slices_S16x3200_o4_1536_S1x256) (extractStridedSlice S1x128 ![4, 256] a slices_S16x512_o4_256_S1x128) (View.ld S (Rect.unit ![4, 2, 0, 0] ![1, 1, 128, 256] inb_S16x4x128x256_S1x1x128x256_4_2_0_0))⟩,
   ⟨Rect.unit ![4, 256] ![1, 256] inb_S16x1024_S1x256_4_256, readout (extractStridedSlice S1x128 ![4, 128] p slices_S16x3200_o4_128_S1x128) (extractStridedSlice S1x128 ![4, 640] p slices_S16x3200_o4_640_S1x128) (extractStridedSlice S1x256 ![4, 1280] p slices_S16x3200_o4_1280_S1x256) (extractStridedSlice S1x128 ![4, 128] a slices_S16x512_o4_128_S1x128) (View.ld S (Rect.unit ![4, 1, 0, 0] ![1, 1, 128, 256] inb_S16x4x128x256_S1x1x128x256_4_1_0_0))⟩,
   ⟨Rect.unit ![4, 0] ![1, 256] inb_S16x1024_S1x256_4_0, readout (extractStridedSlice S1x128 ![4, 0] p slices_S16x3200_o4_0_S1x128) (extractStridedSlice S1x128 ![4, 512] p slices_S16x3200_o4_512_S1x128) (extractStridedSlice S1x256 ![4, 1024] p slices_S16x3200_o4_1024_S1x256) (extractStridedSlice S1x128 ![4, 0] a slices_S16x512_o4_0_S1x128) (View.ld S (Rect.unit ![4, 0, 0, 0] ![1, 1, 128, 256] inb_S16x4x128x256_S1x1x128x256_4_0_0_0))⟩,
   ⟨Rect.unit ![3, 768] ![1, 256] inb_S16x1024_S1x256_3_768, readout (extractStridedSlice S1x128 ![3, 384] p slices_S16x3200_o3_384_S1x128) (extractStridedSlice S1x128 ![3, 896] p slices_S16x3200_o3_896_S1x128) (extractStridedSlice S1x256 ![3, 1792] p slices_S16x3200_o3_1792_S1x256) (extractStridedSlice S1x128 ![3, 384] a slices_S16x512_o3_384_S1x128) (View.ld S (Rect.unit ![3, 3, 0, 0] ![1, 1, 128, 256] inb_S16x4x128x256_S1x1x128x256_3_3_0_0))⟩,
   ⟨Rect.unit ![3, 512] ![1, 256] inb_S16x1024_S1x256_3_512, readout (extractStridedSlice S1x128 ![3, 256] p slices_S16x3200_o3_256_S1x128) (extractStridedSlice S1x128 ![3, 768] p slices_S16x3200_o3_768_S1x128) (extractStridedSlice S1x256 ![3, 1536] p slices_S16x3200_o3_1536_S1x256) (extractStridedSlice S1x128 ![3, 256] a slices_S16x512_o3_256_S1x128) (View.ld S (Rect.unit ![3, 2, 0, 0] ![1, 1, 128, 256] inb_S16x4x128x256_S1x1x128x256_3_2_0_0))⟩,
   ⟨Rect.unit ![3, 256] ![1, 256] inb_S16x1024_S1x256_3_256, readout (extractStridedSlice S1x128 ![3, 128] p slices_S16x3200_o3_128_S1x128) (extractStridedSlice S1x128 ![3, 640] p slices_S16x3200_o3_640_S1x128) (extractStridedSlice S1x256 ![3, 1280] p slices_S16x3200_o3_1280_S1x256) (extractStridedSlice S1x128 ![3, 128] a slices_S16x512_o3_128_S1x128) (View.ld S (Rect.unit ![3, 1, 0, 0] ![1, 1, 128, 256] inb_S16x4x128x256_S1x1x128x256_3_1_0_0))⟩,
   ⟨Rect.unit ![3, 0] ![1, 256] inb_S16x1024_S1x256_3_0, readout (extractStridedSlice S1x128 ![3, 0] p slices_S16x3200_o3_0_S1x128) (extractStridedSlice S1x128 ![3, 512] p slices_S16x3200_o3_512_S1x128) (extractStridedSlice S1x256 ![3, 1024] p slices_S16x3200_o3_1024_S1x256) (extractStridedSlice S1x128 ![3, 0] a slices_S16x512_o3_0_S1x128) (View.ld S (Rect.unit ![3, 0, 0, 0] ![1, 1, 128, 256] inb_S16x4x128x256_S1x1x128x256_3_0_0_0))⟩,
   ⟨Rect.unit ![2, 768] ![1, 256] inb_S16x1024_S1x256_2_768, readout (extractStridedSlice S1x128 ![2, 384] p slices_S16x3200_o2_384_S1x128) (extractStridedSlice S1x128 ![2, 896] p slices_S16x3200_o2_896_S1x128) (extractStridedSlice S1x256 ![2, 1792] p slices_S16x3200_o2_1792_S1x256) (extractStridedSlice S1x128 ![2, 384] a slices_S16x512_o2_384_S1x128) (View.ld S (Rect.unit ![2, 3, 0, 0] ![1, 1, 128, 256] inb_S16x4x128x256_S1x1x128x256_2_3_0_0))⟩,
   ⟨Rect.unit ![2, 512] ![1, 256] inb_S16x1024_S1x256_2_512, readout (extractStridedSlice S1x128 ![2, 256] p slices_S16x3200_o2_256_S1x128) (extractStridedSlice S1x128 ![2, 768] p slices_S16x3200_o2_768_S1x128) (extractStridedSlice S1x256 ![2, 1536] p slices_S16x3200_o2_1536_S1x256) (extractStridedSlice S1x128 ![2, 256] a slices_S16x512_o2_256_S1x128) (View.ld S (Rect.unit ![2, 2, 0, 0] ![1, 1, 128, 256] inb_S16x4x128x256_S1x1x128x256_2_2_0_0))⟩,
   ⟨Rect.unit ![2, 256] ![1, 256] inb_S16x1024_S1x256_2_256, readout (extractStridedSlice S1x128 ![2, 128] p slices_S16x3200_o2_128_S1x128) (extractStridedSlice S1x128 ![2, 640] p slices_S16x3200_o2_640_S1x128) (extractStridedSlice S1x256 ![2, 1280] p slices_S16x3200_o2_1280_S1x256) (extractStridedSlice S1x128 ![2, 128] a slices_S16x512_o2_128_S1x128) (View.ld S (Rect.unit ![2, 1, 0, 0] ![1, 1, 128, 256] inb_S16x4x128x256_S1x1x128x256_2_1_0_0))⟩,
   ⟨Rect.unit ![2, 0] ![1, 256] inb_S16x1024_S1x256_2_0, readout (extractStridedSlice S1x128 ![2, 0] p slices_S16x3200_o2_0_S1x128) (extractStridedSlice S1x128 ![2, 512] p slices_S16x3200_o2_512_S1x128) (extractStridedSlice S1x256 ![2, 1024] p slices_S16x3200_o2_1024_S1x256) (extractStridedSlice S1x128 ![2, 0] a slices_S16x512_o2_0_S1x128) (View.ld S (Rect.unit ![2, 0, 0, 0] ![1, 1, 128, 256] inb_S16x4x128x256_S1x1x128x256_2_0_0_0))⟩,
   ⟨Rect.unit ![1, 768] ![1, 256] inb_S16x1024_S1x256_1_768, readout (extractStridedSlice S1x128 ![1, 384] p slices_S16x3200_o1_384_S1x128) (extractStridedSlice S1x128 ![1, 896] p slices_S16x3200_o1_896_S1x128) (extractStridedSlice S1x256 ![1, 1792] p slices_S16x3200_o1_1792_S1x256) (extractStridedSlice S1x128 ![1, 384] a slices_S16x512_o1_384_S1x128) (View.ld S (Rect.unit ![1, 3, 0, 0] ![1, 1, 128, 256] inb_S16x4x128x256_S1x1x128x256_1_3_0_0))⟩,
   ⟨Rect.unit ![1, 512] ![1, 256] inb_S16x1024_S1x256_1_512, readout (extractStridedSlice S1x128 ![1, 256] p slices_S16x3200_o1_256_S1x128) (extractStridedSlice S1x128 ![1, 768] p slices_S16x3200_o1_768_S1x128) (extractStridedSlice S1x256 ![1, 1536] p slices_S16x3200_o1_1536_S1x256) (extractStridedSlice S1x128 ![1, 256] a slices_S16x512_o1_256_S1x128) (View.ld S (Rect.unit ![1, 2, 0, 0] ![1, 1, 128, 256] inb_S16x4x128x256_S1x1x128x256_1_2_0_0))⟩,
   ⟨Rect.unit ![1, 256] ![1, 256] inb_S16x1024_S1x256_1_256, readout (extractStridedSlice S1x128 ![1, 128] p slices_S16x3200_o1_128_S1x128) (extractStridedSlice S1x128 ![1, 640] p slices_S16x3200_o1_640_S1x128) (extractStridedSlice S1x256 ![1, 1280] p slices_S16x3200_o1_1280_S1x256) (extractStridedSlice S1x128 ![1, 128] a slices_S16x512_o1_128_S1x128) (View.ld S (Rect.unit ![1, 1, 0, 0] ![1, 1, 128, 256] inb_S16x4x128x256_S1x1x128x256_1_1_0_0))⟩,
   ⟨Rect.unit ![1, 0] ![1, 256] inb_S16x1024_S1x256_1_0, readout (extractStridedSlice S1x128 ![1, 0] p slices_S16x3200_o1_0_S1x128) (extractStridedSlice S1x128 ![1, 512] p slices_S16x3200_o1_512_S1x128) (extractStridedSlice S1x256 ![1, 1024] p slices_S16x3200_o1_1024_S1x256) (extractStridedSlice S1x128 ![1, 0] a slices_S16x512_o1_0_S1x128) (View.ld S (Rect.unit ![1, 0, 0, 0] ![1, 1, 128, 256] inb_S16x4x128x256_S1x1x128x256_1_0_0_0))⟩,
   ⟨Rect.unit ![0, 768] ![1, 256] inb_S16x1024_S1x256_0_768, readout (extractStridedSlice S1x128 ![0, 384] p slices_S16x3200_o0_384_S1x128) (extractStridedSlice S1x128 ![0, 896] p slices_S16x3200_o0_896_S1x128) (extractStridedSlice S1x256 ![0, 1792] p slices_S16x3200_o0_1792_S1x256) (extractStridedSlice S1x128 ![0, 384] a slices_S16x512_o0_384_S1x128) (View.ld S (Rect.unit ![0, 3, 0, 0] ![1, 1, 128, 256] inb_S16x4x128x256_S1x1x128x256_0_3_0_0))⟩,
   ⟨Rect.unit ![0, 512] ![1, 256] inb_S16x1024_S1x256_0_512, readout (extractStridedSlice S1x128 ![0, 256] p slices_S16x3200_o0_256_S1x128) (extractStridedSlice S1x128 ![0, 768] p slices_S16x3200_o0_768_S1x128) (extractStridedSlice S1x256 ![0, 1536] p slices_S16x3200_o0_1536_S1x256) (extractStridedSlice S1x128 ![0, 256] a slices_S16x512_o0_256_S1x128) (View.ld S (Rect.unit ![0, 2, 0, 0] ![1, 1, 128, 256] inb_S16x4x128x256_S1x1x128x256_0_2_0_0))⟩,
   ⟨Rect.unit ![0, 256] ![1, 256] inb_S16x1024_S1x256_0_256, readout (extractStridedSlice S1x128 ![0, 128] p slices_S16x3200_o0_128_S1x128) (extractStridedSlice S1x128 ![0, 640] p slices_S16x3200_o0_640_S1x128) (extractStridedSlice S1x256 ![0, 1280] p slices_S16x3200_o0_1280_S1x256) (extractStridedSlice S1x128 ![0, 128] a slices_S16x512_o0_128_S1x128) (View.ld S (Rect.unit ![0, 1, 0, 0] ![1, 1, 128, 256] inb_S16x4x128x256_S1x1x128x256_0_1_0_0))⟩,
   ⟨Rect.unit ![0, 0] ![1, 256] inb_S16x1024_S1x256_0_0, readout (extractStridedSlice S1x128 ![0, 0] p slices_S16x3200_o0_0_S1x128) (extractStridedSlice S1x128 ![0, 512] p slices_S16x3200_o0_512_S1x128) (extractStridedSlice S1x256 ![0, 1024] p slices_S16x3200_o0_1024_S1x256) (extractStridedSlice S1x128 ![0, 0] a slices_S16x512_o0_0_S1x128) (View.ld S (Rect.unit ![0, 0, 0, 0] ![1, 1, 128, 256] inb_S16x4x128x256_S1x1x128x256_0_0_0_0))⟩]

/-- The four heads' normalised and gated readouts of one block, from the list of its readouts. -/
def gated (p : Vec Ideal S16x3200 .f32) (w : Vec Ideal S1x256 .f32) (L : List (View.Piece (Elt Ideal) S16x1024 .f32)) :
    List (View.Piece (Elt Ideal) S16x1024 .f32) :=
  [⟨Rect.unit ![0, 768] ![16, 256] inb_S16x1024_S16x256_0_768, finish w (extractStridedSlice S16x256 ![0, 2816] p slices_S16x3200_o0_2816_S16x256) (View.ld (View.canon L) (Rect.unit ![0, 768] ![16, 256] inb_S16x1024_S16x256_0_768))⟩,
   ⟨Rect.unit ![0, 512] ![16, 256] inb_S16x1024_S16x256_0_512, finish w (extractStridedSlice S16x256 ![0, 2560] p slices_S16x3200_o0_2560_S16x256) (View.ld (View.canon L) (Rect.unit ![0, 512] ![16, 256] inb_S16x1024_S16x256_0_512))⟩,
   ⟨Rect.unit ![0, 256] ![16, 256] inb_S16x1024_S16x256_0_256, finish w (extractStridedSlice S16x256 ![0, 2304] p slices_S16x3200_o0_2304_S16x256) (View.ld (View.canon L) (Rect.unit ![0, 256] ![16, 256] inb_S16x1024_S16x256_0_256))⟩,
   ⟨Rect.unit ![0, 0] ![16, 256] inb_S16x1024_S16x256_0_0, finish w (extractStridedSlice S16x256 ![0, 2048] p slices_S16x3200_o0_2048_S16x256) (View.ld (View.canon L) (Rect.unit ![0, 0] ![16, 256] inb_S16x1024_S16x256_0_0))⟩]

variable (m : (ℓ : Loc nD τ sig) → Buf (Elt Ideal) ℓ)

/-- The states one grid point stores are the sixty-four items. -/
theorem out_states (c : Dev nD) (t : Fin cfg0.N) :
    (outsAt0 m c t).2 = View.canon (states (iblk m c 0 t) (iblk m c 1 t) (k0_pay2 (iblk m c 0 t) (iblk m c 2 t) (iblk m c 3 t))) := by
  unfold outsAt0
  frame_out
  rfl

/-- The results one grid point stores are the four gated heads over the sixty-four readouts. -/
theorem out_gated (c : Dev nD) (t : Fin cfg0.N) :
    (outsAt0 m c t).1 = View.canon (gated (iblk m c 0 t) (iblk m c 4 t)
      (reads (iblk m c 0 t) (iblk m c 1 t) (k0_pay2 (iblk m c 0 t) (iblk m c 2 t) (iblk m c 3 t)))) := by
  unfold outsAt0
  frame_out
  simp only [View.readCov_eq_canon']
  rfl

end Cert.Layer.Gla
end
-- ==== Proof.Layer.GlaHeads.lean ====
module

public import proofs.«01_k».proof.Proof.Layer.GlaTiles

@[expose] public section

set_option maxRecDepth 16384

noncomputable section

namespace Cert.Layer.Gla

open Idealize.ShloMosaic Idealize.ShloMosaic.TcCoe Idealize.SL.Sem
open Idealize.ShloMosaic.Pipeline (Dat)
open Cert.GlaStepIdeal Cert.GlaStepIdeal.Gen
open Cert.GlaRefIdeal.Read

variable (m : (ℓ : Loc nD τ sig) → Buf (Elt Ideal) ℓ)

/-- The kernel's scale of the logarithm is one sixteenth. -/
theorem sixteenth : Ideal.ofBits .f32 0x3D800000#32 = (((1 : ℝ) / 16 : ℝ) : EReal) := by
  simp [Ideal.ofBits, Ideal.ieee, -EReal.coe_mul]; norm_num

/-- The reference's divisor of the logarithm is sixteen. -/
theorem sixteen : Ideal.ofBits .f32 0x41800000#32 = ((16 : ℝ) : EReal) := by
  simp [Ideal.ofBits, Ideal.ieee, -EReal.coe_mul]; norm_num

/-- The exponential at minus infinity is zero. -/
theorem exp_bot : Ideal.exp ⊥ = 0 := rfl
/-- The exponential at plus infinity is plus infinity. -/
theorem exp_top : Ideal.exp ⊤ = ⊤ := rfl
/-- The exponential of a real is the real exponential. -/
theorem exp_coe (r : ℝ) : Ideal.exp r = (Real.exp r : EReal) := rfl
/-- The logarithm at plus infinity is plus infinity. -/
theorem log_top : Ideal.log ⊤ = ⊤ := rfl
/-- The logarithm of one is zero. -/
theorem log_one : Ideal.log 1 = 0 := by
  rw [show (1 : EReal) = ((1 : ℝ) : EReal) by norm_cast]
  show (if (1 : ℝ) ≤ 0 then ⊥ else (Real.log 1 : EReal)) = 0
  norm_num
/-- The logarithm of a positive real is the real logarithm. -/
theorem log_coe {r : ℝ} (h : 0 < r) : Ideal.log r = (Real.log r : EReal) := if_neg (not_le.2 h)

/-- Division by sixteen is multiplication by one sixteenth. -/
theorem div_sixteen (x : EReal) : Ideal.div x ((16 : ℝ) : EReal) = x * (((1 : ℝ) / 16 : ℝ) : EReal) := by
  unfold Ideal.div
  rw [if_neg (by norm_cast), one_div, EReal.coe_inv]

/-- The two forms of the log-sigmoid over sixteen agree at every extended real. -/
theorem logsig (z : EReal) : (min z 0 - Ideal.log (1 + Ideal.exp (0 - max z (-z)))) * Ideal.ofBits .f32 0x3D800000#32
    = Ideal.div (-if -z ≠ -z then -z else max (-z) 0 + Ideal.log1p (Ideal.exp (-max (-z) (- -z)))) (Ideal.ofBits .f32 0x41800000#32) := by
  rw [sixteenth, sixteen, if_neg (by simp), neg_neg, max_comm (-z) z, zero_sub, div_sixteen]
  congr 1
  unfold Ideal.log1p
  induction z with
  | bot => simp [exp_bot, log_one]
  | top => simp [exp_bot, log_one]
  | coe r =>
    have hm : max (r : EReal) (-(r : EReal)) = ((max r (-r) : ℝ) : EReal) := by
      rw [← EReal.coe_neg]; exact (EReal.coe_strictMono.monotone.map_max).symm
    have h1 : (1 : EReal) = ((1 : ℝ) : EReal) := by norm_cast
    have hn : min (r : EReal) 0 = ((min r 0 : ℝ) : EReal) := (EReal.coe_strictMono.monotone.map_min).symm
    have hx : max (-(r : EReal)) 0 = ((max (-r) 0 : ℝ) : EReal) := by
      rw [← EReal.coe_neg]; exact (EReal.coe_strictMono.monotone.map_max).symm
    rw [hm, ← EReal.coe_neg, exp_coe, h1, ← EReal.coe_add, log_coe (by positivity), hn, hx, ← EReal.coe_sub, ← EReal.coe_add, ← EReal.coe_neg]
    congr 1
    rcases le_total r 0 with h | h <;> simp [h] <;> ring

/-- The staged gate weight is the argument's, padded with zero rows. -/
theorem V_v2 (c : Dev nD) : (V m c main_v2 : FVec Ideal S128x512 .bf16)
    = (truncf (F := Ideal) .bf16 (pad S128x512 ![0, 0] ![112, 0] ![0, 0] (shapeCast S16x512 (m ((c : Thread nD τ).loc main_arg2) : FVec Ideal S1x16x512 .f32) shapeCasts_S1x16x512_S16x512)
       (sitofp .f32 (constantI S_ 32 0#32)) pads_S16x512_S128x512_01120_000 h_S_) bitsLt_bf16_f32 : FVec Ideal S128x512 .bf16) := by
  unfold V
  simp only [List.flatten_cons, List.flatten_nil, List.append_nil, List.cons_append, List.nil_append]
  after_results
  try rfl

/-- The staged states are the argument's, without the leading axis. -/
theorem V_v3 (c : Dev nD) : (V m c main_v3 : FVec Ideal S128x4x128x256 .f32)
    = shapeCast S128x4x128x256 (m ((c : Thread nD τ).loc main_arg1) : FVec Ideal S1x128x4x128x256 .f32) shapeCasts_S1x128x4x128x256_S128x4x128x256 := by
  unfold V
  simp only [List.flatten_cons, List.flatten_nil, List.append_nil, List.cons_append, List.nil_append]
  after_results
  try rfl

/-- The padded weight row by row: the argument in its first sixteen rows, zero below. -/
theorem padded (W : FVec Ideal S1x16x512 .f32) (l : Fin 128) (n : Fin 512) :
    (truncf (F := Ideal) .bf16 (pad S128x512 ![0, 0] ![112, 0] ![0, 0] (shapeCast S16x512 W shapeCasts_S1x16x512_S16x512)
       (sitofp .f32 (constantI S_ 32 0#32)) pads_S16x512_S128x512_01120_000 h_S_) bitsLt_bf16_f32 : FVec Ideal S128x512 .bf16) (ix2 l n)
      = if h : l.val < 16 then W (ix3 0 ⟨l.val, h⟩ n) else (0 : EReal) := by
  pointwise
  split
  · rfl
  · simp [FloatOps.sitofp]

/-- A contraction against a weight that is zero from row sixteen is the contraction over the first sixteen. -/
theorem sum_pad (f : Fin 128 → EReal) (g : Fin 16 → EReal) :
    ∑ x, f x * (if h : x.val < 16 then g ⟨x.val, h⟩ else 0) = ∑ x : Fin 16, f ⟨x.val, by omega⟩ * g x := by
  rw [Fin.sum_univ_add (a := 16) (b := 112)]
  simp
  rfl

/-- A decay is finite, at every extended real. -/
theorem decay_fin (z : EReal) : Ideal.exp ((min z 0 - Ideal.log (1 + Ideal.exp (0 - max z (-z)))) * Ideal.ofBits .f32 0x3D800000#32) ≠ ⊤
    ∧ Ideal.exp ((min z 0 - Ideal.log (1 + Ideal.exp (0 - max z (-z)))) * Ideal.ofBits .f32 0x3D800000#32) ≠ ⊥ := by
  rw [sixteenth, zero_sub]
  induction z with
  | bot =>
    rw [show (min (⊥ : EReal) 0 - Ideal.log (1 + Ideal.exp (-max ⊥ (-⊥)))) = ⊥ by simp [exp_bot, log_one], EReal.bot_mul_coe_of_pos (by norm_num), exp_bot]
    simp
  | top =>
    rw [show (min (⊤ : EReal) 0 - Ideal.log (1 + Ideal.exp (-max ⊤ (-⊤)))) = ((0 : ℝ) : EReal) by simp [exp_bot, log_one], ← EReal.coe_mul, exp_coe]
    exact ⟨EReal.coe_ne_top _, EReal.coe_ne_bot _⟩
  | coe r =>
    have hm : max (r : EReal) (-(r : EReal)) = ((max r (-r) : ℝ) : EReal) := by
      rw [← EReal.coe_neg]; exact (EReal.coe_strictMono.monotone.map_max).symm
    have h1 : (1 : EReal) = ((1 : ℝ) : EReal) := by norm_cast
    have hn : min (r : EReal) 0 = ((min r 0 : ℝ) : EReal) := (EReal.coe_strictMono.monotone.map_min).symm
    rw [hm, ← EReal.coe_neg, exp_coe, h1, ← EReal.coe_add, log_coe (by positivity), hn, ← EReal.coe_sub, ← EReal.coe_mul, exp_coe]
    exact ⟨EReal.coe_ne_top _, EReal.coe_ne_bot _⟩

/-- A product of finite factors is finite. -/
theorem mul_fin {x y : EReal} (hx : x ≠ ⊤ ∧ x ≠ ⊥) (hy : y ≠ ⊤ ∧ y ≠ ⊥) : x * y ≠ ⊤ ∧ x * y ≠ ⊥ := by
  lift x to ℝ using hx
  lift y to ℝ using hy
  rw [← EReal.coe_mul]
  exact ⟨EReal.coe_ne_top _, EReal.coe_ne_bot _⟩

/-- The query's scale is finite. -/
theorem scale_fin : Ideal.ofBits .f32 0x3DB504F3#32 ≠ ⊤ ∧ Ideal.ofBits .f32 0x3DB504F3#32 ≠ ⊥ := by
  have h : Ideal.ofBits .f32 0x3DB504F3#32 = ((11863283 / 134217728 : ℝ) : EReal) := by
    simp [Ideal.ofBits, Ideal.ieee, -EReal.coe_mul]; norm_num
  rw [h]
  exact ⟨EReal.coe_ne_top _, EReal.coe_ne_bot _⟩

variable {k q e : FVec Ideal S1x128 .f32} {v : FVec Ideal S1x256 .f32} {s : Vec Ideal S1x1x128x256 .f32}

/-- An entry of a head's next state, where the rows are finite. -/
theorem next_at (hk : ∀ l, k (ix2 0 l) ≠ ⊤ ∧ k (ix2 0 l) ≠ ⊥) (hv : ∀ l, v (ix2 0 l) ≠ ⊤ ∧ v (ix2 0 l) ≠ ⊥)
    (he : ∀ l, e (ix2 0 l) ≠ ⊤ ∧ e (ix2 0 l) ≠ ⊥) (x : Fin 128) (y : Fin 256) :
    next k v e s (ix2 x y) = e (ix2 0 x) * s (ix4 0 0 x y) + k (ix2 0 x) * v (ix2 0 y) := by
  pointwise [next]
  rw [spread_at _ _ _ (he x).1 (he x).2, outer_at _ _ _ _ (hk x).1 (hk x).2 (hv y).1 (hv y).2]

/-- An entry of a head's stored state, where the rows are finite. -/
theorem stored_at (hk : ∀ l, k (ix2 0 l) ≠ ⊤ ∧ k (ix2 0 l) ≠ ⊥) (hv : ∀ l, v (ix2 0 l) ≠ ⊤ ∧ v (ix2 0 l) ≠ ⊥)
    (he : ∀ l, e (ix2 0 l) ≠ ⊤ ∧ e (ix2 0 l) ≠ ⊥) (x : Fin 128) (y : Fin 256) :
    stored k v e s (ix4 0 0 x y) = e (ix2 0 x) * s (ix4 0 0 x y) + k (ix2 0 x) * v (ix2 0 y) := by
  pointwise [stored]
  rw [next_at hk hv he]

/-- An entry of a head's readout, where the rows are finite. -/
theorem readout_at (hq : ∀ l, q (ix2 0 l) ≠ ⊤ ∧ q (ix2 0 l) ≠ ⊥) (hk : ∀ l, k (ix2 0 l) ≠ ⊤ ∧ k (ix2 0 l) ≠ ⊥) (hv : ∀ l, v (ix2 0 l) ≠ ⊤ ∧ v (ix2 0 l) ≠ ⊥)
    (he : ∀ l, e (ix2 0 l) ≠ ⊤ ∧ e (ix2 0 l) ≠ ⊥) (y : Fin 256) :
    readout q k v e s (ix2 0 y) = ∑ x : Fin 128, (e (ix2 0 x) * s (ix4 0 0 x y) + k (ix2 0 x) * v (ix2 0 y)) * (q (ix2 0 x) * Ideal.ofBits .f32 0x3DB504F3#32) := by
  pointwise [readout]
  refine Finset.sum_congr rfl fun x _ => ?_
  rw [next_at hk hv he, spread_at _ _ _ (mul_fin (hq x) scale_fin).1 (mul_fin (hq x) scale_fin).2]
  pointwise

variable {p : Vec Ideal S16x3200 .f32} {a : FVec Ideal S16x512 .f32} {S : Vec Ideal S16x4x128x256 .f32}

/-- An entry of a head's stored state in the block's own arrays. -/
theorem stored_item (hp : ∀ r (l : Fin 3200), l.val < 2048 → p (ix2 r l) ≠ ⊤ ∧ p (ix2 r l) ≠ ⊥) (ha : ∀ r l, a (ix2 r l) ≠ ⊤ ∧ a (ix2 r l) ≠ ⊥)
    {r : Fin 16} {h : Fin 4}
    (hk : ∀ l : Fin 128, k (ix2 0 l) = p (ix2 r ⟨512 + (128 * h.val + l.val), by omega⟩))
    (hv : ∀ l : Fin 256, v (ix2 0 l) = p (ix2 r ⟨1024 + (256 * h.val + l.val), by omega⟩))
    (he : ∀ l : Fin 128, e (ix2 0 l) = a (ix2 r ⟨128 * h.val + l.val, by omega⟩))
    (hs : ∀ x y, s (ix4 0 0 x y) = S (ix4 r h x y)) (x : Fin 128) (y : Fin 256) :
    stored k v e s (ix4 0 0 x y) = a (ix2 r ⟨128 * h.val + x.val, by omega⟩) * S (ix4 r h x y)
      + p (ix2 r ⟨512 + (128 * h.val + x.val), by omega⟩) * p (ix2 r ⟨1024 + (256 * h.val + y.val), by omega⟩) := by
  rw [stored_at (fun l => by rw [hk]; exact hp _ _ (by simp; omega)) (fun l => by rw [hv]; exact hp _ _ (by simp; omega)) (fun l => by rw [he]; exact ha _ _),
    hk, hv, he, hs]

/-- An entry of a head's readout in the block's own arrays. -/
theorem readout_item (hp : ∀ r (l : Fin 3200), l.val < 2048 → p (ix2 r l) ≠ ⊤ ∧ p (ix2 r l) ≠ ⊥) (ha : ∀ r l, a (ix2 r l) ≠ ⊤ ∧ a (ix2 r l) ≠ ⊥)
    {r : Fin 16} {h : Fin 4}
    (hq : ∀ l : Fin 128, q (ix2 0 l) = p (ix2 r ⟨128 * h.val + l.val, by omega⟩))
    (hk : ∀ l : Fin 128, k (ix2 0 l) = p (ix2 r ⟨512 + (128 * h.val + l.val), by omega⟩))
    (hv : ∀ l : Fin 256, v (ix2 0 l) = p (ix2 r ⟨1024 + (256 * h.val + l.val), by omega⟩))
    (he : ∀ l : Fin 128, e (ix2 0 l) = a (ix2 r ⟨128 * h.val + l.val, by omega⟩))
    (hs : ∀ x y, s (ix4 0 0 x y) = S (ix4 r h x y)) (y : Fin 256) :
    readout q k v e s (ix2 0 y) = ∑ x : Fin 128, (a (ix2 r ⟨128 * h.val + x.val, by omega⟩) * S (ix4 r h x y)
      + p (ix2 r ⟨512 + (128 * h.val + x.val), by omega⟩) * p (ix2 r ⟨1024 + (256 * h.val + y.val), by omega⟩))
        * (p (ix2 r ⟨128 * h.val + x.val, by omega⟩) * Ideal.ofBits .f32 0x3DB504F3#32) := by
  rw [readout_at (fun l => by rw [hq]; exact hp _ _ (by simp; omega)) (fun l => by rw [hk]; exact hp _ _ (by simp; omega)) (fun l => by rw [hv]; exact hp _ _ (by simp; omega)) (fun l => by rw [he]; exact ha _ _)]
  simp only [hq, hk, hv, he, hs]

set_option maxHeartbeats 4000000 in
/-- What a grid point stores as states, entry by entry. -/
theorem states_at (hp : ∀ r (l : Fin 3200), l.val < 2048 → p (ix2 r l) ≠ ⊤ ∧ p (ix2 r l) ≠ ⊥) (ha : ∀ r l, a (ix2 r l) ≠ ⊤ ∧ a (ix2 r l) ≠ ⊥)
    (r : Fin 16) (h : Fin 4) (x : Fin 128) (y : Fin 256) :
    View.canon (states p S a) (ix4 r h x y) = a (ix2 r ⟨128 * h.val + x.val, by omega⟩) * S (ix4 r h x y)
      + p (ix2 r ⟨512 + (128 * h.val + x.val), by omega⟩) * p (ix2 r ⟨1024 + (256 * h.val + y.val), by omega⟩) := by
  unfold states
  rename Fin 4 => g
  rename Fin 16 => b
  canon_tiles u h
  all_goals
    idx_vars u
    obtain rfl : u2 = x := Fin.ext h2.symm
    obtain rfl : u3 = y := Fin.ext h3.symm
    obtain rfl : u0 = 0 := Subsingleton.elim _ _
    obtain rfl : u1 = 0 := Subsingleton.elim _ _
    refine stored_item hp ha (fun l => ?_) (fun l => ?_) (fun l => ?_) (fun x y => ?_) _ _
    all_goals
      pointwise
      blk_ext

set_option maxHeartbeats 4000000 in
/-- What a grid point keeps as readouts, entry by entry. -/
theorem reads_at (hp : ∀ r (l : Fin 3200), l.val < 2048 → p (ix2 r l) ≠ ⊤ ∧ p (ix2 r l) ≠ ⊥) (ha : ∀ r l, a (ix2 r l) ≠ ⊤ ∧ a (ix2 r l) ≠ ⊥)
    (r : Fin 16) (h : Fin 4) (y : Fin 256) :
    View.canon (reads p S a) (ix2 r ⟨256 * h.val + y.val, by omega⟩) = ∑ x : Fin 128, (a (ix2 r ⟨128 * h.val + x.val, by omega⟩) * S (ix4 r h x y)
      + p (ix2 r ⟨512 + (128 * h.val + x.val), by omega⟩) * p (ix2 r ⟨1024 + (256 * h.val + y.val), by omega⟩))
        * (p (ix2 r ⟨128 * h.val + x.val, by omega⟩) * Ideal.ofBits .f32 0x3DB504F3#32) := by
  unfold reads
  rename Fin 4 => g
  rename Fin 16 => b
  canon_tiles u h
  all_goals
    idx_vars u
    have hg := g.isLt
    obtain rfl : u1 = y := by apply Fin.ext; omega
    obtain rfl : u0 = 0 := Subsingleton.elim _ _
    refine readout_item hp ha (fun l => ?_) (fun l => ?_) (fun l => ?_) (fun l => ?_) (fun x y => ?_) _
    all_goals
      pointwise
      blk_ext

end Cert.Layer.Gla
-- ==== Proof.Layer.GlaValue.lean ====
module

public import proofs.«01_k».proof.Proof.Layer.GlaHeads

@[expose] public section

set_option maxRecDepth 16384

noncomputable section

namespace Cert.Layer.Gla

open Idealize.ShloMosaic Idealize.ShloMosaic.TcCoe Idealize.SL.Sem
open Idealize.ShloMosaic.Pipeline (Dat)
open Cert.GlaStepIdeal Cert.GlaStepIdeal.Gen
open Cert.GlaRefIdeal.Read

variable (m : (ℓ : Loc nD τ sig) → Buf (Elt Ideal) ℓ)

variable {p : Vec Ideal S16x3200 .f32} {w : Vec Ideal S128x512 .bf16} {b : Vec Ideal S1x512 .f32}
  {P : FVec Ideal S128x3200 .f32} {W : FVec Ideal S1x16x512 .f32} {B : FVec Ideal S1x512 .f32} {r : Fin 16} {R : Fin 128}

/-- A decay is the reference's, where the block's rows and weights are the arguments'. -/
theorem decay_row (hp : ∀ l, p (ix2 r l) = P (ix2 R l)) (hw : ∀ l n, w (ix2 l n) = if h : l.val < 16 then W (ix3 0 ⟨l.val, h⟩ n) else (0 : EReal))
    (hb : ∀ n, b (ix2 0 n) = B (ix2 0 n)) (n : Fin 512) :
    k0_pay2 p w b (ix2 r n) = Ideal.exp (val_main_v13 (F := Ideal) P W B (ix2 R n)) := by
  pointwise [k0_pay2, val_main_v13, val_main_v12, val_main_cst, val_main_v11, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v10, val_main_v9, val_main_v8, val_main_v7, val_main_v6, val_main_v5, val_main_v4]
  simp only [hp, hw, hb]
  rw [sum_pad (fun x => P (ix2 R ⟨3072 + x.val, by omega⟩)) (fun x => W (ix3 0 x n))]
  exact congrArg _ (logsig _)

/-- Every decay of a block is finite. -/
theorem decay_ne (r : Fin 16) (n : Fin 512) : k0_pay2 p w b (ix2 r n) ≠ ⊤ ∧ k0_pay2 p w b (ix2 r n) ≠ ⊥ := by
  pointwise [k0_pay2]
  exact decay_fin _

/-- An entry of the reference's states. -/
theorem v30_at (S : FVec Ideal S1x128x4x128x256 .f32) (h : Fin 4) (x : Fin 128) (y : Fin 256) :
    val_main_v30 (F := Ideal) P S W B (ix4 R h x y) = Ideal.exp (val_main_v13 (F := Ideal) P W B (ix2 R ⟨128 * h.val + x.val, by omega⟩)) * S (ix5 0 R h x y)
      + P (ix2 R ⟨512 + (128 * h.val + x.val), by omega⟩) * P (ix2 R ⟨1024 + (256 * h.val + y.val), by omega⟩) := by
  pointwise [val_main_v30, val_main_v29, val_main_v28, val_main_v27, val_main_v26, val_main_v25, val_main_v24, val_main_v23, val_main_v22, val_main_v21, val_main_v20, val_main_v19, val_main_v18, val_main_v17, val_main_v16, val_main_v2, val_main_v1]
  simp only [mul_comm h.val]

/-- An entry of the reference's readouts. -/
theorem v31_at (S : FVec Ideal S1x128x4x128x256 .f32) (h : Fin 4) (y : Fin 256) :
    val_main_v31 (F := Ideal) P S W B (ix3 R h y) = ∑ x : Fin 128,
      (Ideal.exp (val_main_v13 (F := Ideal) P W B (ix2 R ⟨128 * h.val + x.val, by omega⟩)) * S (ix5 0 R h x y)
        + P (ix2 R ⟨512 + (128 * h.val + x.val), by omega⟩) * P (ix2 R ⟨1024 + (256 * h.val + y.val), by omega⟩))
      * (P (ix2 R ⟨128 * h.val + x.val, by omega⟩) * Ideal.ofBits .f32 0x3DB504F3#32) := by
  pointwise [val_main_v31, val_main_v19, val_main_v18, val_main_v17, val_main_v16, val_main_v2, val_main_v1, val_main_v15, val_main_v14, val_main_cst_0, val_main_v0]
  refine Finset.sum_congr rfl fun x _ => ?_
  rw [v30_at, mul_comm]
  simp only [mul_comm h.val]

/-- A gated head's entry is the reference's, where its readouts are. -/
theorem finish_row {w : Vec Ideal S1x256 .f32} {g y : FVec Ideal S16x256 .f32} {S : FVec Ideal S1x128x4x128x256 .f32} {N : FVec Ideal S1x256 .f32} {h : Fin 4}
    (hy : ∀ v, y (ix2 r v) = val_main_v31 (F := Ideal) P S W B (ix3 R h v)) (hw : ∀ v, w (ix2 0 v) = N (ix2 0 v))
    (hg : ∀ v : Fin 256, g (ix2 r v) = P (ix2 R ⟨2048 + (256 * h.val + v.val), by omega⟩)) (v : Fin 256) :
    finish w g y (ix2 r v) = val_main_v48 (F := Ideal) P S W B N (ix2 R ⟨256 * h.val + v.val, by omega⟩) := by
  pointwise [finish, val_main_v48, val_main_v47, val_main_call1_v5, val_main_call1_v4, val_main_call1_v3, val_main_call1_v2, val_main_call1_v1, val_main_call1_v0, val_main_call1_cst, val_main_call1_cst_0, val_main_v3, val_main_v46, val_main_v45, val_main_v44, val_main_v43, val_main_v42, val_main_v41, val_main_v40, val_main_v39, val_main_v38, val_main_v37, val_main_v36, val_main_v35, val_main_v34, val_main_v33, val_main_v32, val_main_cst_1, val_main_cst_2, val_main_cst_3]
  simp only [hy, hw, hg, zero_sub]

/-- The block every window works on at a grid point. -/
theorem idx : ∀ t : Fin cfg0.N, win0_0.index t = ![t.val, 0] ∧ win0_1.index t = ![t.val, 0, 0, 0] ∧ win0_2.index t = ![0, 0]
    ∧ win0_3.index t = ![0, 0] ∧ win0_4.index t = ![0, 0] ∧ win0_5.index t = ![t.val, 0] ∧ win0_6.index t = ![t.val, 0, 0, 0] :=
  (by decide +kernel : ∀ t : Fin grid0.N, _)

/-- A row of the block of projections is the argument's row. -/
theorem p_blk (c : Dev nD) (t : Fin cfg0.N) (r : Fin 16) (l : Fin 3200) :
    (iblk m c 0 t : Vec Ideal S16x3200 .f32) (ix2 r l)
      = (m ((c : Thread nD τ).loc main_arg0) : FVec Ideal S128x3200 .f32)
          (ix2 ⟨16 * t.val + r.val, by have := t.isLt; have h : cfg0.N = 8 := N_0; omega⟩ l) := by
  blk_point [iblk, V, idx t]

/-- The states without their leading axis, entry by entry. -/
theorem states_cast (X : FVec Ideal S1x128x4x128x256 .f32) (r : Fin 128) (h : Fin 4) (x : Fin 128) (y : Fin 256) :
    val_main_v22 (F := Ideal) X (ix4 r h x y) = X (ix5 0 r h x y) := by
  pointwise [val_main_v22]

/-- The staged states, entry by entry. -/
theorem V_s (c : Dev nD) (r : Fin 128) (h : Fin 4) (x : Fin 128) (y : Fin 256) :
    (V m c main_v3 : FVec Ideal S128x4x128x256 .f32) (ix4 r h x y)
      = (m ((c : Thread nD τ).loc main_arg1) : FVec Ideal S1x128x4x128x256 .f32) (ix5 0 r h x y) := by
  rw [V_v3]
  exact states_cast _ r h x y

/-- An entry of the block of states is the argument's. -/
theorem s_blk (c : Dev nD) (t : Fin cfg0.N) (r : Fin 16) (h : Fin 4) (x : Fin 128) (y : Fin 256) :
    (iblk m c 1 t : Vec Ideal S16x4x128x256 .f32) (ix4 r h x y)
      = (m ((c : Thread nD τ).loc main_arg1) : FVec Ideal S1x128x4x128x256 .f32)
          (ix5 0 ⟨16 * t.val + r.val, by have := t.isLt; have h : cfg0.N = 8 := N_0; omega⟩ h x y) := by
  refine Eq.trans ?_ (V_s m c _ h x y)
  blk_point [iblk, idx t]

/-- The staged gate weight, entry by entry. -/
theorem V_w (c : Dev nD) (l : Fin 128) (n : Fin 512) :
    (V m c main_v2 : FVec Ideal S128x512 .bf16) (ix2 l n)
      = if h : l.val < 16 then (m ((c : Thread nD τ).loc main_arg2) : FVec Ideal S1x16x512 .f32) (ix3 0 ⟨l.val, h⟩ n) else (0 : EReal) := by
  rw [V_v2]
  exact padded _ l n

/-- The block of the gate weight is the whole padded argument. -/
theorem w_blk (c : Dev nD) (t : Fin cfg0.N) (l : Fin 128) (n : Fin 512) :
    (iblk m c 2 t : Vec Ideal S128x512 .bf16) (ix2 l n)
      = if h : l.val < 16 then (m ((c : Thread nD τ).loc main_arg2) : FVec Ideal S1x16x512 .f32) (ix3 0 ⟨l.val, h⟩ n) else (0 : EReal) := by
  refine Eq.trans ?_ (V_w m c l n)
  blk_point [iblk, idx t]

/-- The staged gate bias is the argument's. -/
theorem V_v5 (c : Dev nD) : (V m c main_v5 : FVec Ideal S1x512 .f32)
    = shapeCast S1x512 (shapeCast S512 (m ((c : Thread nD τ).loc main_arg3) : FVec Ideal S1x512 .f32) shapeCasts_S1x512_S512) shapeCasts_S512_S1x512 := by
  unfold V
  simp only [List.flatten_cons, List.flatten_nil, List.append_nil, List.cons_append, List.nil_append]
  after_results
  try rfl

/-- The staged norm weight is the argument's. -/
theorem V_v7 (c : Dev nD) : (V m c main_v7 : FVec Ideal S1x256 .f32)
    = shapeCast S1x256 (shapeCast S256 (m ((c : Thread nD τ).loc main_arg4) : FVec Ideal S1x256 .f32) shapeCasts_S1x256_S256) shapeCasts_S256_S1x256 := by
  unfold V
  simp only [List.flatten_cons, List.flatten_nil, List.append_nil, List.cons_append, List.nil_append]
  after_results
  try rfl

/-- The block of the gate bias is the argument. -/
theorem b_blk (c : Dev nD) (t : Fin cfg0.N) (n : Fin 512) :
    (iblk m c 3 t : Vec Ideal S1x512 .f32) (ix2 0 n) = (m ((c : Thread nD τ).loc main_arg3) : FVec Ideal S1x512 .f32) (ix2 0 n) := by
  have h : (V m c main_v5 : FVec Ideal S1x512 .f32) (ix2 0 n) = (m ((c : Thread nD τ).loc main_arg3) : FVec Ideal S1x512 .f32) (ix2 0 n) := by
    rw [V_v5]; pointwise
  refine Eq.trans ?_ h
  blk_point [iblk, idx t]

/-- The block of the norm weight is the argument. -/
theorem n_blk (c : Dev nD) (t : Fin cfg0.N) (n : Fin 256) :
    (iblk m c 4 t : Vec Ideal S1x256 .f32) (ix2 0 n) = (m ((c : Thread nD τ).loc main_arg4) : FVec Ideal S1x256 .f32) (ix2 0 n) := by
  have h : (V m c main_v7 : FVec Ideal S1x256 .f32) (ix2 0 n) = (m ((c : Thread nD τ).loc main_arg4) : FVec Ideal S1x256 .f32) (ix2 0 n) := by
    rw [V_v7]; pointwise
  refine Eq.trans ?_ h
  blk_point [iblk, idx t]

/-- The queries, keys and values of the projections are finite. -/
def Finite (P : FVec Ideal S128x3200 .f32) : Prop := ∀ (R : Fin 128) (l : Fin 3200), l.val < 2048 → P (ix2 R l) ≠ ⊤ ∧ P (ix2 R l) ≠ ⊥

/-- The states the kernel writes are the reference's. -/
theorem final6 (c : Dev nD) (hf : Finite (m ((c : Thread nD τ).loc main_arg0))) : (dats m 0 c).arrAt 6 (cfgs 0).N
    = val_main_v30 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6, out_states]
  idx_vars y
  have hN : cfg0.grid.N = 8 := N_0
  have ht : t.val < 8 := hN ▸ t.isLt
  rw [states_at (fun r l hl => by rw [p_blk]; exact hf _ l hl) (fun r l => decay_ne r l)]
  rw [decay_row (p_blk m c t y0) (w_blk m c t) (b_blk m c t), p_blk, p_blk, s_blk]
  refine Eq.trans (v30_at ..).symm (congrArg (val_main_v30 (F := Ideal) _ _ _ _) ?_)
  blk_ext [idx t]

/-- The normalised and gated readouts the kernel writes are the reference's. -/
theorem final5 (c : Dev nD) (hf : Finite (m ((c : Thread nD τ).loc main_arg0))) : (dats m 0 c).arrAt 5 (cfgs 0).N
    = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5, out_gated]
  idx_vars y
  have hN : cfg0.grid.N = 8 := N_0
  have ht : t.val < 8 := hN ▸ t.isLt
  have key : ∀ (r : Fin 16) (h : Fin 4) (y : Fin 256),
      View.canon (reads (iblk m c 0 t) (iblk m c 1 t) (k0_pay2 (iblk m c 0 t) (iblk m c 2 t) (iblk m c 3 t))) (ix2 r ⟨256 * h.val + y.val, by omega⟩)
        = val_main_v31 (F := Ideal) (m ((c : Thread nD τ).loc main_arg0)) (m ((c : Thread nD τ).loc main_arg1)) (m ((c : Thread nD τ).loc main_arg2)) (m ((c : Thread nD τ).loc main_arg3)) (ix3 ⟨16 * t.val + r.val, by omega⟩ h y) := by
    intro r h y
    rw [reads_at (fun r l hl => by rw [p_blk]; exact hf _ l hl) (fun r l => decay_ne r l)]
    refine Eq.trans ?_ (v31_at ..).symm
    refine Finset.sum_congr rfl fun x _ => ?_
    rw [decay_row (p_blk m c t r) (w_blk m c t) (b_blk m c t), p_blk, p_blk, p_blk, s_blk]
  unfold gated
  canon_tiles x h
  · idx_vars x
    obtain rfl : x0 = y0 := Fin.ext h0.symm
    refine Eq.trans (finish_row (R := ⟨16 * t.val + x0.val, by omega⟩) (h := 3) (fun v => ?_) (n_blk m c t) (fun v => ?_) x1) (congrArg (val_main_v48 (F := Ideal) _ _ _ _ _) ?_)
    · refine Eq.trans ?_ (key x0 3 v)
      pointwise
      blk_ext
    · refine Eq.trans ?_ (p_blk m c t x0 _)
      pointwise
      blk_ext
    · blk_ext [idx t]
  · idx_vars x
    obtain rfl : x0 = y0 := Fin.ext h0.symm
    refine Eq.trans (finish_row (R := ⟨16 * t.val + x0.val, by omega⟩) (h := 2) (fun v => ?_) (n_blk m c t) (fun v => ?_) x1) (congrArg (val_main_v48 (F := Ideal) _ _ _ _ _) ?_)
    · refine Eq.trans ?_ (key x0 2 v)
      pointwise
      blk_ext
    · refine Eq.trans ?_ (p_blk m c t x0 _)
      pointwise
      blk_ext
    · blk_ext [idx t]
  · idx_vars x
    obtain rfl : x0 = y0 := Fin.ext h0.symm
    refine Eq.trans (finish_row (R := ⟨16 * t.val + x0.val, by omega⟩) (h := 1) (fun v => ?_) (n_blk m c t) (fun v => ?_) x1) (congrArg (val_main_v48 (F := Ideal) _ _ _ _ _) ?_)
    · refine Eq.trans ?_ (key x0 1 v)
      pointwise
      blk_ext
    · refine Eq.trans ?_ (p_blk m c t x0 _)
      pointwise
      blk_ext
    · blk_ext [idx t]
  · idx_vars x
    obtain rfl : x0 = y0 := Fin.ext h0.symm
    refine Eq.trans (finish_row (R := ⟨16 * t.val + x0.val, by omega⟩) (h := 0) (fun v => ?_) (n_blk m c t) (fun v => ?_) x1) (congrArg (val_main_v48 (F := Ideal) _ _ _ _ _) ?_)
    · refine Eq.trans ?_ (key x0 0 v)
      pointwise
      blk_ext
    · refine Eq.trans ?_ (p_blk m c t x0 _)
      pointwise
      blk_ext
    · blk_ext [idx t]

end Cert.Layer.Gla
-- ==== Proof.Layer.ProjValue.lean ====
module

public import proofs.«01_k».proof.Proof.Gen.ProjIdeal.Frame
public import proofs.«01_k».proof.Proof.Gen.ProjRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.Layer.Proj

open Idealize.ShloMosaic Idealize.ShloMosaic.TcCoe Idealize.SL.Sem
open Idealize.ShloMosaic.Pipeline (Dat)
open Cert.ProjIdeal Cert.ProjIdeal.Gen

variable (m : (ℓ : Loc nD τ sig) → Buf (Elt Ideal) ℓ)

/-- Block indices. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, _)

/-- The staged activations are the argument's, flattened over batch and time. -/
theorem V_x (c : Dev nD) (i : Fin 16384) (k : Fin 1024) :
    (V m c main_v0 : FVec Ideal S16384x1024 .f32) (ix2 i k)
      = (m ((c : Thread nD τ).loc main_arg0) : FVec Ideal S8x2048x1024 .f32) (ix3 ⟨i.val / 2048, by omega⟩ ⟨i.val % 2048, by omega⟩ k) := by
  unfold V V0
  simp only [List.flatten_cons, List.flatten_nil, List.append_nil, List.cons_append, List.nil_append]
  after_results
  pointwise
/-- The staged weight is the argument's, transposed. -/
theorem V_w (c : Dev nD) (n : Fin 9360) (k : Fin 1024) :
    (V m c main_v3 : FVec Ideal S9360x1024 .bf16) (ix2 n k)
      = (m ((c : Thread nD τ).loc main_arg1) : FVec Ideal S1x1024x9360 .f32) (ix3 0 k n) := by
  unfold V V0
  simp only [List.flatten_cons, List.flatten_nil, List.append_nil, List.cons_append, List.nil_append]
  after_results
  pointwise

/-- A row of the activations' block is the argument's row. -/
theorem x_blk (c : Dev nD) (t : Fin cfg0.N) (r : Fin 256) (k : Fin 1024) :
    (iblk m c 0 t : FVec Ideal S256x1024 .f32) (ix2 r k)
      = (m ((c : Thread nD τ).loc main_arg0) : FVec Ideal S8x2048x1024 .f32)
          (ix3 ⟨(256 * t.val + r.val) / 2048, by have := t.isLt; have h : cfg0.N = 64 := N_0; omega⟩
            ⟨(256 * t.val + r.val) % 2048, by omega⟩ k) := by
  refine Eq.trans ?_ (V_x m c ⟨256 * t.val + r.val, by have := t.isLt; have h : cfg0.N = 64 := N_0; omega⟩ k)
  blk_point [iblk, idx t]
/-- The weight's block is the whole weight. -/
theorem w_blk (c : Dev nD) (t : Fin cfg0.N) (n : Fin 9360) (k : Fin 1024) :
    (iblk m c 1 t : FVec Ideal S9360x1024 .bf16) (ix2 n k)
      = (m ((c : Thread nD τ).loc main_arg1) : FVec Ideal S1x1024x9360 .f32) (ix3 0 k n) := by
  refine Eq.trans ?_ (V_w m c n k)
  blk_point [iblk, idx t]

/-- The block product at a row and a column is the reference's product there. -/
theorem pay1_apply (c : Dev nD) (t : Fin cfg0.N) (r : Fin 256) (n : Fin 9360) :
    k0_pay1 (F := Ideal) (iblk m c 0 t) (iblk m c 1 t) (ix2 r n)
      = Cert.ProjRefIdeal.Read.val_main_v2 (F := Ideal) (m ((c : Thread nD τ).loc main_arg0)) (m ((c : Thread nD τ).loc main_arg1))
          (ix2 ⟨256 * t.val + r.val, by have := t.isLt; have h : cfg0.N = 64 := N_0; omega⟩ n) := by
  pointwise [k0_pay1, Cert.ProjRefIdeal.Read.val_main_v2,Cert.ProjRefIdeal.Read.val_main_v1,Cert.ProjRefIdeal.Read.val_main_v0]
  refine Finset.sum_congr rfl fun k _ => ?_
  exact Ideal.mul_congr (x_blk m c t r k) (w_blk m c t n k)

/-- The first result is the reference's first column range. -/
theorem final2 (c : Dev nD) : (dats m 0 c).arrAt 2 (cfgs 0).N
    = Cert.ProjRefIdeal.Read.val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  pointwise [k0_pay2, Cert.ProjRefIdeal.Read.val_main_v3]
  refine (pay1_apply m c t _ _).trans (congrArg _ ?_)
  blk_ext [idx t]

/-- The second result is the reference's second column range. -/
theorem final3 (c : Dev nD) : (dats m 0 c).arrAt 3 (cfgs 0).N
    = Cert.ProjRefIdeal.Read.val_main_v4 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  frame_out
  idx_vars y
  pointwise [k0_pay3, Cert.ProjRefIdeal.Read.val_main_v4]
  refine (pay1_apply m c t _ _).trans (congrArg _ ?_)
  blk_ext [idx t]

/-- The third result is the reference's third column range. -/
theorem final4 (c : Dev nD) : (dats m 0 c).arrAt 4 (cfgs 0).N
    = Cert.ProjRefIdeal.Read.val_main_v6 (F := Ideal) (m ((c : Thread nD τ).loc main_arg0)) (m ((c : Thread nD τ).loc main_arg1)) := by
  refine (dats m 0 c).arrAt_eq_of_covers 4 _ (by decide +kernel) fun t _ y => ?_
  blk_simp
  rw [after0_4]
  frame_out
  idx_vars y
  pointwise [k0_pay4, Cert.ProjRefIdeal.Read.val_main_v6, Cert.ProjRefIdeal.Read.val_main_v5]
  refine (pay1_apply m c t _ _).trans (congrArg _ ?_)
  blk_ext [idx t]

/-- The lines after the call leave the last step's rows of the second column range, which are the reference's. -/
theorem tail (c : Dev nD) : Pipeline.afterTail₀ cfgs (dats m) 0 (V0 m) [hostOps1] c main_v7
    = Cert.ProjRefIdeal.Read.val_main_v9 (F := Ideal) (m ((c : Thread nD τ).loc main_arg0)) (m ((c : Thread nD τ).loc main_arg1)) := by
  have h3 : Pipeline.withArrays (cfgs 0).spec c (V0 m c) (fun w => (dats m 0 c).arrAt w (cfgs 0).N) (Proc.devRef .tc main_v4_1)
      = Cert.ProjRefIdeal.Read.val_main_v4 (F := Ideal) (m ((c : Thread nD τ).loc main_arg0)) (m ((c : Thread nD τ).loc main_arg1)) :=
    (Pipeline.withArrays_arr spec0 launch0.win.arr_inj c (V0 m c) _ 3).trans (final3 m c)
  unfold Pipeline.afterTail₀
  simp only [List.flatten_cons, List.flatten_nil, List.append_nil, List.cons_append, List.nil_append]
  after_results
  rw [h3]
  funext y
  idx_vars y
  pointwise [Cert.ProjRefIdeal.Read.val_main_v9, Cert.ProjRefIdeal.Read.val_main_v8, Cert.ProjRefIdeal.Read.val_main_v7, Cert.ProjRefIdeal.Read.val_main_v4]

/-- A run of the program ends with the reference's four results, the arguments as they were. -/
theorem run (ρ : Dev nD → PrngReg) : θ_run defs (onTc (τ := τ) (main (F := Ideal))) ⟨m, fun _ => 0, ρ⟩ fun r => ∀ c : Dev nD,
      r.2.mem ((c : Thread nD τ).loc main_v4_0) = Cert.ProjRefIdeal.Read.val_main_v3 (F := Ideal) (m ((c : Thread nD τ).loc main_arg0)) (m ((c : Thread nD τ).loc main_arg1))
      ∧ r.2.mem ((c : Thread nD τ).loc main_v4_1) = Cert.ProjRefIdeal.Read.val_main_v4 (F := Ideal) (m ((c : Thread nD τ).loc main_arg0)) (m ((c : Thread nD τ).loc main_arg1))
      ∧ r.2.mem ((c : Thread nD τ).loc main_v4_2) = Cert.ProjRefIdeal.Read.val_main_v6 (F := Ideal) (m ((c : Thread nD τ).loc main_arg0)) (m ((c : Thread nD τ).loc main_arg1))
      ∧ r.2.mem ((c : Thread nD τ).loc main_v7) = Cert.ProjRefIdeal.Read.val_main_v9 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).1 2).trans (final2 m c), ((h c).1 3).trans (final3 m c), ((h c).1 4).trans (final4 m c),
      ((h c).2 main_v7 (Pipeline.mem_restRefs_of main_v7 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Layer.Proj
end
-- ==== Proof.Layer.MergeValue.lean ====
module

public import proofs.«01_k».proof.Proof.Gen.MergeIdeal.Value
public import proofs.«01_k».proof.Proof.Gen.MergeRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.Layer.Merge

open Idealize.ShloMosaic Idealize.ShloMosaic.TcCoe Idealize.SL.Sem
open Idealize.ShloMosaic.Pipeline (Dat)
open Cert.MergeIdeal Cert.MergeIdeal.Gen

variable (m : (ℓ : Loc nD τ sig) → Buf (Elt Ideal) ℓ)

/-- The block every window works on at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

/-- The two gated up-projections of 256 rows, added. -/
def gated (a b : FVec Ideal S256x1024 .bf16) (g : FVec Ideal S256x2048 .bf16) (wa wb : FVec Ideal S1024x1024 .bf16) :
    FVec Ideal S256x1024 .f32 :=
  k0_pay15 (k0_pay4 a wa) (k0_pay8 b wb) g

/-- What the body stores for 256 rows of its block. -/
def tile (a b : FVec Ideal S256x1024 .bf16) (g : FVec Ideal S256x2048 .bf16) (x : FVec Ideal S256x1024 .f32)
    (wa wb wo : FVec Ideal S1024x1024 .bf16) (lg lb : FVec Ideal S1x1024 .f32) : FVec Ideal S256x1024 .f32 :=
  k0_pay27 (k0_pay20 (gated a b g wa wb) wo) x lg lb

/-- The body's four stores are the tiles of the four row groups. -/
theorem out_tiles (x0 x1 : Vec Ideal S1024x1024 .bf16) (x2 : Vec Ideal S1024x2048 .bf16) (x3 : Vec Ideal S1024x1024 .f32)
    (x4 x5 x6 : Vec Ideal S1024x1024 .bf16) (x7 x8 : Vec Ideal S1x1024 .f32) :
    out0_9 x0 x1 x2 x3 x4 x5 x6 x7 x8 = View.canon
      [⟨r0_4, tile (View.ld x0 r0_4) (View.ld x1 r0_4) (View.ld x2 r0_8) (View.ld x3 r0_4) (View.ld x4 r0_1) (View.ld x5 r0_1) (View.ld x6 r0_1) (View.ld x7 r0_9) (View.ld x8 r0_9)⟩,
       ⟨r0_3, tile (View.ld x0 r0_3) (View.ld x1 r0_3) (View.ld x2 r0_7) (View.ld x3 r0_3) (View.ld x4 r0_1) (View.ld x5 r0_1) (View.ld x6 r0_1) (View.ld x7 r0_9) (View.ld x8 r0_9)⟩,
       ⟨r0_2, tile (View.ld x0 r0_2) (View.ld x1 r0_2) (View.ld x2 r0_6) (View.ld x3 r0_2) (View.ld x4 r0_1) (View.ld x5 r0_1) (View.ld x6 r0_1) (View.ld x7 r0_9) (View.ld x8 r0_9)⟩,
       ⟨r0_0, tile (View.ld x0 r0_0) (View.ld x1 r0_0) (View.ld x2 r0_5) (View.ld x3 r0_0) (View.ld x4 r0_1) (View.ld x5 r0_1) (View.ld x6 r0_1) (View.ld x7 r0_9) (View.ld x8 r0_9)⟩] := rfl

section Rows
open Cert.MergeRefIdeal.Read

variable {a b : FVec Ideal S256x1024 .bf16} {g : FVec Ideal S256x2048 .bf16} {x : FVec Ideal S256x1024 .f32}
  {wa wb wo : FVec Ideal S1024x1024 .bf16} {lg lb : FVec Ideal S1x1024 .f32}
  {A B : FVec Ideal S16384x1024 .bf16} {G : FVec Ideal S16384x2048 .bf16} {X : FVec Ideal S8x2048x1024 .f32}
  {WA WB WO : FVec Ideal S1x1024x1024 .f32} {LG LB : FVec Ideal S1x1024 .f32} {r : Fin 256} {R : Fin 16384}

/-- A row of the gated sum is the reference's row, where the rows of the operands and the weights agree. -/
theorem gated_row (ha : ∀ l, a (ix2 r l) = A (ix2 R l)) (hb : ∀ l, b (ix2 r l) = B (ix2 R l)) (hg : ∀ l, g (ix2 r l) = G (ix2 R l))
    (hwa : ∀ l n, wa (ix2 l n) = WA (ix3 0 l n)) (hwb : ∀ l n, wb (ix2 l n) = WB (ix3 0 l n)) (k : Fin 1024) :
    gated a b g wa wb (ix2 r k) = val_main_v24 (F := Ideal) A B G WA WB (ix2 R k) := by
  pointwise [gated, k0_pay15, k0_pay4, k0_pay8, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_cst, val_main_cst_0, val_main_cst_1, val_main_cst_2]
  simp only [ha, hb, hg, hwa, hwb, zero_sub]

/-- The row before its layer norm is the reference's. -/
theorem z_row (hs : ∀ k, gated a b g wa wb (ix2 r k) = val_main_v24 (F := Ideal) A B G WA WB (ix2 R k))
    (hx : ∀ l, x (ix2 r l) = X (ix3 ⟨R.val / 2048, by omega⟩ ⟨R.val % 2048, by omega⟩ l)) (hwo : ∀ l n, wo (ix2 l n) = WO (ix3 0 l n)) (k : Fin 1024) :
    Ideal.ofBits .f32 0x3F9837F0#32 * x (ix2 r k) + k0_pay20 (gated a b g wa wb) wo (ix2 r k) = val_main_v29 (F := Ideal) A B G X WA WB WO (ix2 R k) := by
  pointwise [k0_pay20, val_main_v29, val_main_v28, val_main_v27, val_main_v26, val_main_v25, val_main_cst_3, val_main_v0]
  simp only [hs, hx, hwo]

/-- A row of a tile is the reference's row, where the rows of the operands and the weights agree. -/
theorem tile_row (ha : ∀ l, a (ix2 r l) = A (ix2 R l)) (hb : ∀ l, b (ix2 r l) = B (ix2 R l)) (hg : ∀ l, g (ix2 r l) = G (ix2 R l))
    (hx : ∀ l, x (ix2 r l) = X (ix3 ⟨R.val / 2048, by omega⟩ ⟨R.val % 2048, by omega⟩ l))
    (hwa : ∀ l n, wa (ix2 l n) = WA (ix3 0 l n)) (hwb : ∀ l n, wb (ix2 l n) = WB (ix3 0 l n)) (hwo : ∀ l n, wo (ix2 l n) = WO (ix3 0 l n))
    (hlg : ∀ l, lg (ix2 0 l) = LG (ix2 0 l)) (hlb : ∀ l, lb (ix2 0 l) = LB (ix2 0 l)) (k : Fin 1024) :
    tile a b g x wa wb wo lg lb (ix2 r k) = val_main_v55 (F := Ideal) A B G X WA WB WO LG LB (ix2 R k) := by
  pointwise [tile, k0_pay27, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_cst_4, val_main_cst_5, val_main_cst_6, val_main_cst_7, val_main_cst_8]
  simp only [z_row (gated_row ha hb hg hwa hwb) hx hwo, hlg, hlb]

end Rows

/-- The staged residual rows are the argument's, flattened over batch and time. -/
theorem V_x (c : Dev nD) (i : Fin 16384) (k : Fin 1024) :
    (V m c main_v0 : FVec Ideal S16384x1024 .f32) (ix2 i k)
      = (m ((c : Thread nD τ).loc main_arg3) : FVec Ideal S8x2048x1024 .f32) (ix3 ⟨i.val / 2048, by omega⟩ ⟨i.val % 2048, by omega⟩ k) := by
  entry_read
  pointwise

/-- The staged weight `wa` is the argument's. -/
theorem V_wa (c : Dev nD) (l n : Fin 1024) :
    (V m c main_v2 : FVec Ideal S1024x1024 .bf16) (ix2 l n)
      = (m ((c : Thread nD τ).loc main_arg4) : FVec Ideal S1x1024x1024 .f32) (ix3 0 l n) := by
  entry_read
  pointwise

/-- The block of the weight `wa` is the whole argument. -/
theorem wa_blk (c : Dev nD) (t : Fin cfg0.N) (l n : Fin 1024) :
    View.ld (iblk m c 4 t : Vec Ideal S1024x1024 .bf16) r0_1 (ix2 l n)
      = (m ((c : Thread nD τ).loc main_arg4) : FVec Ideal S1x1024x1024 .f32) (ix3 0 l n) := by
  refine Eq.trans ?_ (V_wa m c l n)
  pointwise
  blk_point [iblk, idx t]

/-- The staged weight `wb` is the argument's. -/
theorem V_wb (c : Dev nD) (l n : Fin 1024) :
    (V m c main_v4 : FVec Ideal S1024x1024 .bf16) (ix2 l n)
      = (m ((c : Thread nD τ).loc main_arg5) : FVec Ideal S1x1024x1024 .f32) (ix3 0 l n) := by
  entry_read
  pointwise

/-- The block of the weight `wb` is the whole argument. -/
theorem wb_blk (c : Dev nD) (t : Fin cfg0.N) (l n : Fin 1024) :
    View.ld (iblk m c 5 t : Vec Ideal S1024x1024 .bf16) r0_1 (ix2 l n)
      = (m ((c : Thread nD τ).loc main_arg5) : FVec Ideal S1x1024x1024 .f32) (ix3 0 l n) := by
  refine Eq.trans ?_ (V_wb m c l n)
  pointwise
  blk_point [iblk, idx t]

/-- The staged weight `wo` is the argument's. -/
theorem V_wo (c : Dev nD) (l n : Fin 1024) :
    (V m c main_v6 : FVec Ideal S1024x1024 .bf16) (ix2 l n)
      = (m ((c : Thread nD τ).loc main_arg6) : FVec Ideal S1x1024x1024 .f32) (ix3 0 l n) := by
  entry_read
  pointwise

/-- The block of the weight `wo` is the whole argument. -/
theorem wo_blk (c : Dev nD) (t : Fin cfg0.N) (l n : Fin 1024) :
    View.ld (iblk m c 6 t : Vec Ideal S1024x1024 .bf16) r0_1 (ix2 l n)
      = (m ((c : Thread nD τ).loc main_arg6) : FVec Ideal S1x1024x1024 .f32) (ix3 0 l n) := by
  refine Eq.trans ?_ (V_wo m c l n)
  pointwise
  blk_point [iblk, idx t]

/-- The staged row `lg` is the argument's. -/
theorem V_lg (c : Dev nD) (l : Fin 1024) :
    (V m c main_v8 : FVec Ideal S1x1024 .f32) (ix2 0 l)
      = (m ((c : Thread nD τ).loc main_arg7) : FVec Ideal S1x1024 .f32) (ix2 0 l) := by
  entry_read
  pointwise

/-- The block of the row `lg` is the whole argument. -/
theorem lg_blk (c : Dev nD) (t : Fin cfg0.N) (l : Fin 1024) :
    View.ld (iblk m c 7 t : Vec Ideal S1x1024 .f32) r0_9 (ix2 0 l)
      = (m ((c : Thread nD τ).loc main_arg7) : FVec Ideal S1x1024 .f32) (ix2 0 l) := by
  refine Eq.trans ?_ (V_lg m c l)
  pointwise
  blk_point [iblk, idx t]

/-- The staged row `lb` is the argument's. -/
theorem V_lb (c : Dev nD) (l : Fin 1024) :
    (V m c main_v10 : FVec Ideal S1x1024 .f32) (ix2 0 l)
      = (m ((c : Thread nD τ).loc main_arg8) : FVec Ideal S1x1024 .f32) (ix2 0 l) := by
  entry_read
  pointwise

/-- The block of the row `lb` is the whole argument. -/
theorem lb_blk (c : Dev nD) (t : Fin cfg0.N) (l : Fin 1024) :
    View.ld (iblk m c 8 t : Vec Ideal S1x1024 .f32) r0_9 (ix2 0 l)
      = (m ((c : Thread nD τ).loc main_arg8) : FVec Ideal S1x1024 .f32) (ix2 0 l) := by
  refine Eq.trans ?_ (V_lb m c l)
  pointwise
  blk_point [iblk, idx t]

/-- A row of the block of the residual is the argument's row. -/
theorem x_blk (c : Dev nD) (t : Fin cfg0.N) (r : Fin 1024) (l : Fin 1024) :
    (iblk m c 3 t : Vec Ideal S1024x1024 .f32) (ix2 r l)
      = (m ((c : Thread nD τ).loc main_arg3) : FVec Ideal S8x2048x1024 .f32)
          (ix3 ⟨(1024 * t.val + r.val) / 2048, by have := t.isLt; have h : cfg0.N = 16 := N_0; omega⟩ ⟨(1024 * t.val + r.val) % 2048, by omega⟩ l) := by
  refine Eq.trans ?_ (V_x m c ⟨1024 * t.val + r.val, by have := t.isLt; have h : cfg0.N = 16 := N_0; omega⟩ l)
  blk_point [iblk, idx t]

theorem final (c : Dev nD) : (dats m 0 c).arrAt 9 (cfgs 0).N
    = Cert.MergeRefIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t _ y => ?_
  blk_simp
  rw [after0_9, out_tiles]
  idx_vars y
  have hN : cfg0.grid.N = 16 := N_0
  have ht : t.val < 16 := hN ▸ t.isLt
  canon_tiles x h
  all_goals
    idx_vars x
    refine Eq.trans (tile_row (R := ⟨1024 * t.val + y0.val, by have := y0.isLt; omega⟩) ?_ ?_ ?_ ?_ (wa_blk m c t) (wb_blk m c t) (wo_blk m c t) (lg_blk m c t) (lb_blk m c t) _) (congrArg _ ?_)
    · intro l; pointwise; blk_point [iblk, idx t]
    · intro l; pointwise; blk_point [iblk, idx t]
    · intro l; pointwise; blk_point [iblk, idx t]
    · intro l; refine Eq.trans ?_ (x_blk m c t y0 l); pointwise; blk_ext
    · blk_ext [idx t]

end Cert.Layer.Merge
end
-- ==== Proof.Layer.ProjSampleValue.lean ====
module

public import proofs.«01_k».proof.Proof.Gen.ProjSampleIdeal.Value
public import proofs.«01_k».proof.Proof.Gen.ProjSampleRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.Layer.ProjSample

open Idealize.ShloMosaic Idealize.ShloMosaic.TcCoe Idealize.SL.Sem
open Idealize.ShloMosaic.Pipeline (Dat)
open Cert.ProjSampleIdeal Cert.ProjSampleIdeal.Gen

variable (m : (ℓ : Loc nD τ sig) → Buf (Elt Ideal) ℓ)

/-- Block indices. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The staged activations are the argument's, one row per sequence. -/
theorem V_x (c : Dev nD) (i : Fin 128) (k : Fin 1024) :
    (V m c main_v0 : FVec Ideal S128x1024 .f32) (ix2 i k)
      = (m ((c : Thread nD τ).loc main_arg0) : FVec Ideal S128x1x1024 .f32) (ix3 i 0 k) := by
  entry_read
  pointwise
/-- The staged weight is the argument's, transposed. -/
theorem V_w (c : Dev nD) (n : Fin 9360) (k : Fin 1024) :
    (V m c main_v3 : FVec Ideal S9360x1024 .bf16) (ix2 n k)
      = (m ((c : Thread nD τ).loc main_arg1) : FVec Ideal S1x1024x9360 .f32) (ix3 0 k n) := by
  entry_read
  pointwise

/-- A row of the activations' block is the argument's row. -/
theorem x_blk (c : Dev nD) (t : Fin cfg0.N) (r : Fin 128) (k : Fin 1024) :
    (iblk m c 0 t : FVec Ideal S128x1024 .f32) (ix2 r k)
      = (m ((c : Thread nD τ).loc main_arg0) : FVec Ideal S128x1x1024 .f32)
          (ix3 r 0 k) := by
  refine Eq.trans ?_ (V_x m c r k)
  blk_point [iblk, idx t]
/-- The weight's block is the whole weight. -/
theorem w_blk (c : Dev nD) (t : Fin cfg0.N) (n : Fin 9360) (k : Fin 1024) :
    (iblk m c 1 t : FVec Ideal S9360x1024 .bf16) (ix2 n k)
      = (m ((c : Thread nD τ).loc main_arg1) : FVec Ideal S1x1024x9360 .f32) (ix3 0 k n) := by
  refine Eq.trans ?_ (V_w m c n k)
  blk_point [iblk, idx t]

/-- The block product at a row and a column is the reference's product there. -/
theorem pay1_apply (c : Dev nD) (t : Fin cfg0.N) (r : Fin 128) (n : Fin 9360) :
    k0_pay1 (F := Ideal) (iblk m c 0 t) (iblk m c 1 t) (ix2 r n)
      = Cert.ProjSampleRefIdeal.Read.val_main_v2 (F := Ideal) (m ((c : Thread nD τ).loc main_arg0)) (m ((c : Thread nD τ).loc main_arg1))
          (ix2 r n) := by
  pointwise [k0_pay1, Cert.ProjSampleRefIdeal.Read.val_main_v2,Cert.ProjSampleRefIdeal.Read.val_main_v1,Cert.ProjSampleRefIdeal.Read.val_main_v0]
  refine Finset.sum_congr rfl fun k _ => ?_
  exact Ideal.mul_congr (x_blk m c t r k) (w_blk m c t n k)

/-- The first result is the reference's first column range. -/
theorem final2 (c : Dev nD) : (dats m 0 c).arrAt 2 (cfgs 0).N
    = Cert.ProjSampleRefIdeal.Read.val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  pointwise [k0_pay2, Cert.ProjSampleRefIdeal.Read.val_main_v3]
  refine (pay1_apply m c t _ _).trans (congrArg _ ?_)
  blk_ext [idx t]

/-- The second result is the reference's second column range. -/
theorem final3 (c : Dev nD) : (dats m 0 c).arrAt 3 (cfgs 0).N
    = Cert.ProjSampleRefIdeal.Read.val_main_v4 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  frame_out
  idx_vars y
  pointwise [k0_pay3, Cert.ProjSampleRefIdeal.Read.val_main_v4]
  refine (pay1_apply m c t _ _).trans (congrArg _ ?_)
  blk_ext [idx t]

/-- The third result is the reference's third column range. -/
theorem final4 (c : Dev nD) : (dats m 0 c).arrAt 4 (cfgs 0).N
    = Cert.ProjSampleRefIdeal.Read.val_main_v6 (F := Ideal) (m ((c : Thread nD τ).loc main_arg0)) (m ((c : Thread nD τ).loc main_arg1)) := by
  refine (dats m 0 c).arrAt_eq_of_covers 4 _ (by decide +kernel) fun t _ y => ?_
  blk_simp
  rw [after0_4]
  frame_out
  idx_vars y
  pointwise [k0_pay4, Cert.ProjSampleRefIdeal.Read.val_main_v6, Cert.ProjSampleRefIdeal.Read.val_main_v5]
  refine (pay1_apply m c t _ _).trans (congrArg _ ?_)
  blk_ext [idx t]

end Cert.Layer.ProjSample
end
-- ==== Proof.Layer.MergeSampleValue.lean ====
module

public import proofs.«01_k».proof.Proof.Gen.MergeSampleIdeal.Value
public import proofs.«01_k».proof.Proof.Gen.MergeSampleRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.Layer.MergeSample

open Idealize.ShloMosaic Idealize.ShloMosaic.TcCoe Idealize.SL.Sem
open Idealize.ShloMosaic.Pipeline (Dat)
open Cert.MergeSampleIdeal Cert.MergeSampleIdeal.Gen

variable (m : (ℓ : Loc nD τ sig) → Buf (Elt Ideal) ℓ)

/-- The block every window works on at a grid point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

/-- What the body stores for its block of 128 rows. -/
def tile (a b : FVec Ideal S128x1024 .f32) (g : FVec Ideal S128x2048 .bf16) (x : FVec Ideal S128x1024 .f32)
    (wa wb wo : FVec Ideal S1024x1024 .bf16) (lg lb : FVec Ideal S1x1024 .f32) : FVec Ideal S128x1024 .f32 :=
  k0_pay1 (k0_pay2 a wa b wb g wo) x lg lb

/-- The body's store is the tile of the block's rows. -/
theorem out_tiles (x0 x1 : Vec Ideal S128x1024 .f32) (x2 : Vec Ideal S128x2048 .bf16) (x3 : Vec Ideal S128x1024 .f32)
    (x4 x5 x6 : Vec Ideal S1024x1024 .bf16) (x7 x8 : Vec Ideal S1x1024 .f32) :
    out0_9 x0 x1 x2 x3 x4 x5 x6 x7 x8 = View.canon
      [⟨r0_0, tile (View.ld x0 r0_0) (View.ld x1 r0_0) (View.ld x2 r0_2) (View.ld x3 r0_0) (View.ld x4 r0_1) (View.ld x5 r0_1) (View.ld x6 r0_1) (View.ld x7 r0_3) (View.ld x8 r0_3)⟩] := rfl

section Rows
open Cert.MergeSampleRefIdeal.Read

variable {a b : FVec Ideal S128x1024 .f32} {g : FVec Ideal S128x2048 .bf16} {x : FVec Ideal S128x1024 .f32}
  {wa wb wo : FVec Ideal S1024x1024 .bf16} {lg lb : FVec Ideal S1x1024 .f32}
  {A B : FVec Ideal S128x1024 .f32} {G : FVec Ideal S128x2048 .bf16} {X : FVec Ideal S128x1x1024 .f32}
  {WA WB WO : FVec Ideal S1x1024x1024 .f32} {LG LB : FVec Ideal S1x1024 .f32} {r : Fin 128} {R : Fin 128}

/-- The row before its layer norm is the reference's, where the rows of the operands and the weights agree. -/
theorem z_row
    (ha : ∀ l, a (ix2 r l) = A (ix2 R l)) (hb : ∀ l, b (ix2 r l) = B (ix2 R l)) (hg : ∀ l, g (ix2 r l) = G (ix2 R l))
    (hwa : ∀ l n, wa (ix2 l n) = WA (ix3 0 l n)) (hwb : ∀ l n, wb (ix2 l n) = WB (ix3 0 l n))
    (hx : ∀ l, x (ix2 r l) = X (ix3 R 0 l)) (hwo : ∀ l n, wo (ix2 l n) = WO (ix3 0 l n)) (k : Fin 1024) :
    Ideal.ofBits .f32 0x3F9837F0#32 * x (ix2 r k) + k0_pay2 a wa b wb g wo (ix2 r k) = val_main_v27 (F := Ideal) A B G X WA WB WO (ix2 R k) := by
  pointwise [k0_pay2, val_main_v27, val_main_v26, val_main_v25, val_main_v24, val_main_v23, val_main_cst_3, val_main_v0, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_cst, val_main_cst_0, val_main_cst_1, val_main_cst_2]
  simp only [ha, hb, hg, hx, hwa, hwb, hwo, zero_sub]

/-- A row of a tile is the reference's row, where the rows of the operands and the weights agree. -/
theorem tile_row (ha : ∀ l, a (ix2 r l) = A (ix2 R l)) (hb : ∀ l, b (ix2 r l) = B (ix2 R l)) (hg : ∀ l, g (ix2 r l) = G (ix2 R l))
    (hx : ∀ l, x (ix2 r l) = X (ix3 R 0 l))
    (hwa : ∀ l n, wa (ix2 l n) = WA (ix3 0 l n)) (hwb : ∀ l n, wb (ix2 l n) = WB (ix3 0 l n)) (hwo : ∀ l n, wo (ix2 l n) = WO (ix3 0 l n))
    (hlg : ∀ l, lg (ix2 0 l) = LG (ix2 0 l)) (hlb : ∀ l, lb (ix2 0 l) = LB (ix2 0 l)) (k : Fin 1024) :
    tile a b g x wa wb wo lg lb (ix2 r k) = val_main_v53 (F := Ideal) A B G X WA WB WO LG LB (ix2 R k) := by
  pointwise [tile, k0_pay1, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_cst_4, val_main_cst_5, val_main_cst_6, val_main_cst_7, val_main_cst_8]
  simp only [z_row ha hb hg hwa hwb hx hwo, hlg, hlb]

end Rows

/-- The staged residual rows are the argument's, one row per sequence. -/
theorem V_x (c : Dev nD) (i : Fin 128) (k : Fin 1024) :
    (V m c main_v0 : FVec Ideal S128x1024 .f32) (ix2 i k)
      = (m ((c : Thread nD τ).loc main_arg3) : FVec Ideal S128x1x1024 .f32) (ix3 i 0 k) := by
  entry_read
  pointwise

/-- The staged weight `wa` is the argument's. -/
theorem V_wa (c : Dev nD) (l n : Fin 1024) :
    (V m c main_v2 : FVec Ideal S1024x1024 .bf16) (ix2 l n)
      = (m ((c : Thread nD τ).loc main_arg4) : FVec Ideal S1x1024x1024 .f32) (ix3 0 l n) := by
  entry_read
  pointwise

/-- The block of the weight `wa` is the whole argument. -/
theorem wa_blk (c : Dev nD) (t : Fin cfg0.N) (l n : Fin 1024) :
    View.ld (iblk m c 4 t : Vec Ideal S1024x1024 .bf16) r0_1 (ix2 l n)
      = (m ((c : Thread nD τ).loc main_arg4) : FVec Ideal S1x1024x1024 .f32) (ix3 0 l n) := by
  refine Eq.trans ?_ (V_wa m c l n)
  pointwise
  blk_point [iblk, idx t]

/-- The staged weight `wb` is the argument's. -/
theorem V_wb (c : Dev nD) (l n : Fin 1024) :
    (V m c main_v4 : FVec Ideal S1024x1024 .bf16) (ix2 l n)
      = (m ((c : Thread nD τ).loc main_arg5) : FVec Ideal S1x1024x1024 .f32) (ix3 0 l n) := by
  entry_read
  pointwise

/-- The block of the weight `wb` is the whole argument. -/
theorem wb_blk (c : Dev nD) (t : Fin cfg0.N) (l n : Fin 1024) :
    View.ld (iblk m c 5 t : Vec Ideal S1024x1024 .bf16) r0_1 (ix2 l n)
      = (m ((c : Thread nD τ).loc main_arg5) : FVec Ideal S1x1024x1024 .f32) (ix3 0 l n) := by
  refine Eq.trans ?_ (V_wb m c l n)
  pointwise
  blk_point [iblk, idx t]

/-- The staged weight `wo` is the argument's. -/
theorem V_wo (c : Dev nD) (l n : Fin 1024) :
    (V m c main_v6 : FVec Ideal S1024x1024 .bf16) (ix2 l n)
      = (m ((c : Thread nD τ).loc main_arg6) : FVec Ideal S1x1024x1024 .f32) (ix3 0 l n) := by
  entry_read
  pointwise

/-- The block of the weight `wo` is the whole argument. -/
theorem wo_blk (c : Dev nD) (t : Fin cfg0.N) (l n : Fin 1024) :
    View.ld (iblk m c 6 t : Vec Ideal S1024x1024 .bf16) r0_1 (ix2 l n)
      = (m ((c : Thread nD τ).loc main_arg6) : FVec Ideal S1x1024x1024 .f32) (ix3 0 l n) := by
  refine Eq.trans ?_ (V_wo m c l n)
  pointwise
  blk_point [iblk, idx t]

/-- The staged row `lg` is the argument's. -/
theorem V_lg (c : Dev nD) (l : Fin 1024) :
    (V m c main_v8 : FVec Ideal S1x1024 .f32) (ix2 0 l)
      = (m ((c : Thread nD τ).loc main_arg7) : FVec Ideal S1x1024 .f32) (ix2 0 l) := by
  entry_read
  pointwise

/-- The block of the row `lg` is the whole argument. -/
theorem lg_blk (c : Dev nD) (t : Fin cfg0.N) (l : Fin 1024) :
    View.ld (iblk m c 7 t : Vec Ideal S1x1024 .f32) r0_3 (ix2 0 l)
      = (m ((c : Thread nD τ).loc main_arg7) : FVec Ideal S1x1024 .f32) (ix2 0 l) := by
  refine Eq.trans ?_ (V_lg m c l)
  pointwise
  blk_point [iblk, idx t]

/-- The staged row `lb` is the argument's. -/
theorem V_lb (c : Dev nD) (l : Fin 1024) :
    (V m c main_v10 : FVec Ideal S1x1024 .f32) (ix2 0 l)
      = (m ((c : Thread nD τ).loc main_arg8) : FVec Ideal S1x1024 .f32) (ix2 0 l) := by
  entry_read
  pointwise

/-- The block of the row `lb` is the whole argument. -/
theorem lb_blk (c : Dev nD) (t : Fin cfg0.N) (l : Fin 1024) :
    View.ld (iblk m c 8 t : Vec Ideal S1x1024 .f32) r0_3 (ix2 0 l)
      = (m ((c : Thread nD τ).loc main_arg8) : FVec Ideal S1x1024 .f32) (ix2 0 l) := by
  refine Eq.trans ?_ (V_lb m c l)
  pointwise
  blk_point [iblk, idx t]

/-- A row of the block of the residual is the argument's row. -/
theorem x_blk (c : Dev nD) (t : Fin cfg0.N) (r : Fin 128) (l : Fin 1024) :
    (iblk m c 3 t : Vec Ideal S128x1024 .f32) (ix2 r l)
      = (m ((c : Thread nD τ).loc main_arg3) : FVec Ideal S128x1x1024 .f32) (ix3 r 0 l) := by
  refine Eq.trans ?_ (V_x m c r l)
  blk_point [iblk, idx t]

/-- The result is the reference's. -/
theorem final (c : Dev nD) : (dats m 0 c).arrAt 9 (cfgs 0).N
    = Cert.MergeSampleRefIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t _ y => ?_
  blk_simp
  rw [after0_9, out_tiles]
  idx_vars y
  canon_tiles x h
  all_goals
    idx_vars x
    refine Eq.trans (tile_row (R := y0) ?_ ?_ ?_ ?_ (wa_blk m c t) (wb_blk m c t) (wo_blk m c t) (lg_blk m c t) (lb_blk m c t) _) (congrArg _ ?_)
    · intro l; pointwise; blk_point [iblk, idx t]
    · intro l; pointwise; blk_point [iblk, idx t]
    · intro l; pointwise; blk_point [iblk, idx t]
    · intro l; refine Eq.trans ?_ (x_blk m c t y0 l); pointwise; blk_ext
    · blk_ext [idx t]

end Cert.Layer.MergeSample
end
-- ==== Proof.Layer.MixRun.lean ====
/- The run of the whole body of the mixing kernel (program MixIdeal) at any point. -/
module

public import proofs.«01_k».proof.Proof.Gen.MixIdeal.Frame
public import Idealize.ShloMosaic.Lib.Claim

@[expose] public section

set_option maxRecDepth 16384

noncomputable section

namespace Cert.Layer.Mix

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
/-- The whole body at any point, on any whole buffers: it runs to the end whichever of its branches are taken, leaves the inputs as they were and everything else at something. -/
theorem run_body (c : Dev nD) (i : grid0.Coords) (arg2 : Memref sig .tc .vmem S4x64x3200 .f32) (harg2 : arg2.IsWhole) (arg3 : Memref sig .tc .vmem S4x64x4224 .f32) (harg3 : arg3.IsWhole) (arg4 : Memref sig .tc .vmem S128x512 .bf16) (harg4 : arg4.IsWhole) (arg5 : Memref sig .tc .vmem S1x512 .f32) (harg5 : arg5.IsWhole) (arg6 : Memref sig .tc .vmem S1x256 .f32) (harg6 : arg6.IsWhole) (arg7 : Memref sig .tc .vmem S1x4224 .f32) (harg7 : arg7.IsWhole) (arg8 : Memref sig .tc .vmem S1x1024 .f32) (harg8 : arg8.IsWhole) (arg9 : Memref sig .tc .vmem S128x1024 .bf16) (harg9 : arg9.IsWhole) (arg10 : Memref sig .tc .vmem S1x1024 .f32) (harg10 : arg10.IsWhole) (arg11 : Memref sig .tc .vmem S128x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S4x64x1024 .bf16) (harg17 : arg17.IsWhole) (arg18 : Memref sig .tc .vmem S4x64x1024 .bf16) (harg18 : arg18.IsWhole) (arg19 : Memref sig .tc .vmem S4x4x128x256 .f32) (harg19 : arg19.IsWhole) (arg20 : Memref sig .tc .vmem S4x8x128x128 .f32) (harg20 : arg20.IsWhole) (arg21 : Memref sig .tc .vmem S4x4x128x256 .f32) (harg21 : arg21.IsWhole) (arg22 : Memref sig .tc .vmem S16x64x256 .f32) (harg22 : arg22.IsWhole) (arg23 : Memref sig .tc .vmem S16x64x64 .f32) (harg23 : arg23.IsWhole) (arg24 : Memref sig .tc .vmem S4x8x128x128 .f32) (harg24 : arg24.IsWhole) (arg25 : Memref sig .tc .vmem S4x8x4224 .f32) (harg25 : arg25.IsWhole)
    (x0 : Vec F S4x64x3200 .f32) (x1 : Vec F S4x64x4224 .f32) (x2 : Vec F S128x512 .bf16) (x3 : Vec F S1x512 .f32) (x4 : Vec F S1x256 .f32) (x5 : Vec F S1x4224 .f32) (x6 : Vec F S1x1024 .f32) (x7 : Vec F S128x1024 .bf16) (x8 : Vec F S1x1024 .f32) (x9 : Vec F S128x1024 .bf16) (x10 : Vec F S1x1024 .f32) (x11 : Vec F S1x1024 .f32) (x12 : Vec F S1x1024 .f32) (x13 : Vec F S1x1024 .f32) (x14 : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
      ⊢ wp frame (wpE (defs₀ (F := F)) Variants.none c none) E (cc0_mix_chunk i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  unfold cc0_mix_chunk
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
  sl_exec_parts
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  isplitl [H14]
  · iexists _; isplitr; · ipureintro; exact harg16.read_unread _
    iexact H14
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  iexists _, _; isplitr; swap; · iexact HS4
  ipureintro; rfl

end Cert.Layer.Mix

end
-- ==== Proof.Layer.MixFrame.lean ====
/- The frame of the mixing kernel (program MixIdeal): the body at every point, the run, and the frame claim. -/
module

public import proofs.«01_k».proof.Proof.Layer.MixRun
public import Idealize.ShloMosaic.Lib.Claim

@[expose] public section

set_option maxRecDepth 16384

noncomputable section

namespace Cert.Layer.Mix

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays end as they began, from a run that leaves every array it does not name alone. -/
theorem frame_of (rdat : (c : Dev nD) → Pipeline.RDat τ (Elt F) Unit ℕ (UR sig nD τ) ℕ (cfgs 0) c)
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-- No input window is ever idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem liveAt0_14 : ∀ t : Fin cfg0.N, cfg0.idle 14 (grid0.coords t) = false := fun _ => rfl

/-- The staging buffer of each window at a point. -/
abbrev ms0_0 (t : Fin cfg0.N) : Memref sig .tc .vmem S4x64x3200 .f32 := win0_0.stage (cfg0.slots t 0)
abbrev ms0_1 (t : Fin cfg0.N) : Memref sig .tc .vmem S4x64x4224 .f32 := win0_1.stage (cfg0.slots t 1)
abbrev ms0_2 (t : Fin cfg0.N) : Memref sig .tc .vmem S128x512 .bf16 := win0_2.stage (cfg0.slots t 2)
abbrev ms0_3 (t : Fin cfg0.N) : Memref sig .tc .vmem S1x512 .f32 := win0_3.stage (cfg0.slots t 3)
abbrev ms0_4 (t : Fin cfg0.N) : Memref sig .tc .vmem S1x256 .f32 := win0_4.stage (cfg0.slots t 4)
abbrev ms0_5 (t : Fin cfg0.N) : Memref sig .tc .vmem S1x4224 .f32 := win0_5.stage (cfg0.slots t 5)
abbrev ms0_6 (t : Fin cfg0.N) : Memref sig .tc .vmem S1x1024 .f32 := win0_6.stage (cfg0.slots t 6)
abbrev ms0_7 (t : Fin cfg0.N) : Memref sig .tc .vmem S128x1024 .bf16 := win0_7.stage (cfg0.slots t 7)
abbrev ms0_8 (t : Fin cfg0.N) : Memref sig .tc .vmem S1x1024 .f32 := win0_8.stage (cfg0.slots t 8)
abbrev ms0_9 (t : Fin cfg0.N) : Memref sig .tc .vmem S128x1024 .bf16 := win0_9.stage (cfg0.slots t 9)
abbrev ms0_10 (t : Fin cfg0.N) : Memref sig .tc .vmem S1x1024 .f32 := win0_10.stage (cfg0.slots t 10)
abbrev ms0_11 (t : Fin cfg0.N) : Memref sig .tc .vmem S1x1024 .f32 := win0_11.stage (cfg0.slots t 11)
abbrev ms0_12 (t : Fin cfg0.N) : Memref sig .tc .vmem S1x1024 .f32 := win0_12.stage (cfg0.slots t 12)
abbrev ms0_13 (t : Fin cfg0.N) : Memref sig .tc .vmem S1x1024 .f32 := win0_13.stage (cfg0.slots t 13)
abbrev ms0_14 (t : Fin cfg0.N) : Memref sig .tc .vmem S1x1024 .f32 := win0_14.stage (cfg0.slots t 14)
abbrev ms0_15 (t : Fin cfg0.N) : Memref sig .tc .vmem S4x64x1024 .bf16 := win0_15.stage (cfg0.slots t 15)
abbrev ms0_16 (t : Fin cfg0.N) : Memref sig .tc .vmem S4x64x1024 .bf16 := win0_16.stage (cfg0.slots t 16)
abbrev ms0_17 (t : Fin cfg0.N) : Memref sig .tc .vmem S4x4x128x256 .f32 := win0_17.stage (cfg0.slots t 17)
abbrev ms0_18 (t : Fin cfg0.N) : Memref sig .tc .vmem S4x8x128x128 .f32 := win0_18.stage (cfg0.slots t 18)

/-- The scratch buffers, whole. -/
abbrev scM0_0 : Memref sig .tc .vmem S4x4x128x256 .f32 := Memref.whole cc0_scratch0
abbrev scM0_1 : Memref sig .tc .vmem S16x64x256 .f32 := Memref.whole cc0_scratch1
abbrev scM0_2 : Memref sig .tc .vmem S16x64x64 .f32 := Memref.whole cc0_scratch2
abbrev scM0_3 : Memref sig .tc .vmem S4x8x128x128 .f32 := Memref.whole cc0_scratch3
abbrev scM0_4 : Memref sig .tc .vmem S4x8x4224 .f32 := Memref.whole cc0_scratch4

/-- The invariant: every scratch buffer at anything, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- The windows whose contents are not named: the four outputs. -/
def forgets0 : Fin 19 → Bool := fun w => decide (15 ≤ w.val)

/-- The data of the pipeline: the arrays as the region finds them and the inputs' blocks; the outputs are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨n + 19, h⟩ => absurd (show n + 19 < 19 from h) (by omega)
  Φ _ := Pipeline.ΦA spec0 c
  q _ := fullShare
  owed _ := 0

/-- The arrays of the data are those the region finds. -/
theorem A_eq (c : Dev nD) (w : Fin cfg0.W) : (dats m 0 c).A w = V m c (Pipeline.arrRef spec0 w) := by
  dsimp only [dats]

/-- What the body leaves in each input's window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]

/-- What each input's buffer holds when the body starts: its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d))

/-- What the body returns at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d))

set_option maxHeartbeats 19200000 in
/-- The body at any point, from what it is given to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (run_body c (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, H17, H18, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The kernel function at a point's buffers. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The whole run: every array that is no output is left alone, and every counter ends at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hin := fun _ => Idealize.SL.BI.Entails.refl _) (hout := fun _ => Idealize.SL.BI.Entails.refl _)

/-- The run without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (fun c => (dats m 0 c).toRForget forgets0) (run_main m ρ)

/-- The frame claim: the run ends, leaves the arguments as they were, and leaves every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.Layer.Mix

end
-- ==== Proof.Layer.RwkvBitsRunA.lean ====
/- The whole-body run of the RWKV decode kernel (program RwkvStep) at the first head. -/
module

public import proofs.«01_k».proof.Proof.Layer.RwkvBitsBase

@[expose] public section

set_option maxRecDepth 16384

noncomputable section

namespace Cert.Layer.RwkvBits

open Cert.RwkvStep Cert.RwkvStep.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3176000 in
/-- The whole body at the first head, on any whole buffers: the slabs it stores into the state output and into the carried scratch, with the proof that it runs to the end and leaves those slabs there, the inputs as they were and everything else at something. -/
noncomputable def kernelRun0_A (c : Dev nD) (i : grid0.Coords) (arg1 : Memref sig .tc .vmem S128x4224 .f32) (harg1 : arg1.IsWhole) (arg2 : Memref sig .tc .vmem S128x4224 .f32) (harg2 : arg2.IsWhole) (arg3 : Memref sig .tc .vmem S1x64x64x128 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S128x1024 .f32) (harg14 : arg14.IsWhole) (arg15 : Memref sig .tc .vmem S1x64x64x128 .f32) (harg15 : arg15.IsWhole) (arg16 : Memref sig .tc .vmem S6x1024x128 .f32) (harg16 : arg16.IsWhole) (arg17 : Memref sig .tc .vmem S4x128x1024 .f32) (harg17 : arg17.IsWhole) (arg18 : Memref sig .tc .vmem S1024x128 .f32) (harg18 : arg18.IsWhole) (hc0 : cond0_0 i) (hc1 : ¬cond0_1 i)
    (x0 : Vec F S128x4224 .f32) (x1 : Vec F S128x4224 .f32) (x2 : Vec F S1x64x64x128 .f32) (x3 : Vec F S1x4224 .f32) (x4 : Vec F S1x1024 .f32) (x5 : Vec F S128x1024 .bf16) (x6 : Vec F S1x1024 .f32) (x7 : Vec F S128x1024 .bf16) (x8 : Vec F S1x1024 .f32) (x9 : Vec F S1x1024 .f32) (x10 : Vec F S1x1024 .f32) (x11 : Vec F S1x1024 .f32) (x12 : Vec F S1x1024 .f32) :
    { LS0 : List (View.Piece (Elt F) S6x1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ f, arg16.view.loc (c : Thread nD τ) ↦[arg16.view.set]{fullShare} arg16.view.writes (Elt F) f LS0) ∗ (∃ d, owns (c : Thread nD τ) arg17 fullShare d) ∗ (∃ d, owns (c : Thread nD τ) arg18 fullShare d)) -∗ K ⟨⟩))
          ⊢ wp frame (wpE (defs₀ (F := F)) Variants.none c none) E (cc0_rwkv_decode i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0_rwkv_decode_eq_skeleton]; unfold cc0_rwkv_decode_skel
    simp only [k0_part32_eq_skeleton, k0_part18_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _, _; isplitr; swap; · iexact H13
      ipureintro; rfl
    isplitl [H14]
    · iexists _, _; isplitr; swap; · iexact H14
      ipureintro; rfl
    isplitl [HS0]; · iexists _; iexact HS0
    isplitl [HS1]
    · iexists _, _; isplitr; swap; · iexact HS1
      ipureintro; rfl
    iexists _, _; isplitr; swap; · iexact HS2
    ipureintro; rfl

end Cert.Layer.RwkvBits

end
-- ==== Proof.Layer.RwkvBitsRunB.lean ====
/- The whole-body run of the RWKV decode kernel (program RwkvStep) at a middle head. -/
module

public import proofs.«01_k».proof.Proof.Layer.RwkvBitsRunA

@[expose] public section

set_option maxRecDepth 16384

noncomputable section

namespace Cert.Layer.RwkvBits

open Cert.RwkvStep Cert.RwkvStep.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1972000 in
/-- The whole body at a head that is neither first nor last: the slabs it stores into the state output, over a carried scratch it only reads. -/
noncomputable def kernelRun0_B (c : Dev nD) (i : grid0.Coords) (arg1 : Memref sig .tc .vmem S128x4224 .f32) (harg1 : arg1.IsWhole) (arg2 : Memref sig .tc .vmem S128x4224 .f32) (harg2 : arg2.IsWhole) (arg3 : Memref sig .tc .vmem S1x64x64x128 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S128x1024 .f32) (harg14 : arg14.IsWhole) (arg15 : Memref sig .tc .vmem S1x64x64x128 .f32) (harg15 : arg15.IsWhole) (arg16 : Memref sig .tc .vmem S6x1024x128 .f32) (harg16 : arg16.IsWhole) (arg17 : Memref sig .tc .vmem S4x128x1024 .f32) (harg17 : arg17.IsWhole) (arg18 : Memref sig .tc .vmem S1024x128 .f32) (harg18 : arg18.IsWhole) (hc0 : ¬cond0_0 i) (hc1 : ¬cond0_1 i)
    (x0 : Vec F S128x4224 .f32) (x1 : Vec F S128x4224 .f32) (x2 : Vec F S1x64x64x128 .f32) (x3 : Vec F S1x4224 .f32) (x4 : Vec F S1x1024 .f32) (x5 : Vec F S128x1024 .bf16) (x6 : Vec F S1x1024 .f32) (x7 : Vec F S128x1024 .bf16) (x8 : Vec F S1x1024 .f32) (x9 : Vec F S1x1024 .f32) (x10 : Vec F S1x1024 .f32) (x11 : Vec F S1x1024 .f32) (x12 : Vec F S1x1024 .f32) (xs0 : Vec F S6x1024x128 .f32) :
    { LS0 : List (View.Piece (Elt F) S6x1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ owns (c : Thread nD τ) arg16 fullShare xs0 ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ owns (c : Thread nD τ) arg16 fullShare xs0 ∗ (∃ d, owns (c : Thread nD τ) arg17 fullShare d) ∗ (∃ d, owns (c : Thread nD τ) arg18 fullShare d)) -∗ K ⟨⟩))
          ⊢ wp frame (wpE (defs₀ (F := F)) Variants.none c none) E (cc0_rwkv_decode i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], fun E K => ?run⟩
  case run =>
    simp only [cc0_rwkv_decode_eq_skeleton]; unfold cc0_rwkv_decode_skel
    simp only [k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg16.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _, _; isplitr; swap; · iexact H13
      ipureintro; rfl
    isplitl [H14]
    · iexists _, _; isplitr; swap; · iexact H14
      ipureintro; rfl
    isplitl [HS0]
    · iexists _; isplitr; · ipureintro; exact harg16.read_unread _
      iexact HS0
    isplitl [HS1]
    · iexists _, _; isplitr; swap; · iexact HS1
      ipureintro; rfl
    iexists _, _; isplitr; swap; · iexact HS2
    ipureintro; rfl

end Cert.Layer.RwkvBits

end
-- ==== Proof.Layer.RwkvBitsRunC.lean ====
/- The whole-body run of the RWKV decode kernel (program RwkvStep) at the last head. -/
module

public import proofs.«01_k».proof.Proof.Layer.RwkvBitsRunB

@[expose] public section

set_option maxRecDepth 16384

noncomputable section

namespace Cert.Layer.RwkvBits

open Cert.RwkvStep Cert.RwkvStep.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2416000 in
/-- The whole body at the last head: the slabs it stores into the state output, over a carried scratch it only reads. -/
noncomputable def kernelRun0_C (c : Dev nD) (i : grid0.Coords) (arg1 : Memref sig .tc .vmem S128x4224 .f32) (harg1 : arg1.IsWhole) (arg2 : Memref sig .tc .vmem S128x4224 .f32) (harg2 : arg2.IsWhole) (arg3 : Memref sig .tc .vmem S1x64x64x128 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S128x1024 .f32) (harg14 : arg14.IsWhole) (arg15 : Memref sig .tc .vmem S1x64x64x128 .f32) (harg15 : arg15.IsWhole) (arg16 : Memref sig .tc .vmem S6x1024x128 .f32) (harg16 : arg16.IsWhole) (arg17 : Memref sig .tc .vmem S4x128x1024 .f32) (harg17 : arg17.IsWhole) (arg18 : Memref sig .tc .vmem S1024x128 .f32) (harg18 : arg18.IsWhole) (hc0 : ¬cond0_0 i) (hc1 : cond0_1 i)
    (x0 : Vec F S128x4224 .f32) (x1 : Vec F S128x4224 .f32) (x2 : Vec F S1x64x64x128 .f32) (x3 : Vec F S1x4224 .f32) (x4 : Vec F S1x1024 .f32) (x5 : Vec F S128x1024 .bf16) (x6 : Vec F S1x1024 .f32) (x7 : Vec F S128x1024 .bf16) (x8 : Vec F S1x1024 .f32) (x9 : Vec F S1x1024 .f32) (x10 : Vec F S1x1024 .f32) (x11 : Vec F S1x1024 .f32) (x12 : Vec F S1x1024 .f32) (xs0 : Vec F S6x1024x128 .f32) :
    { LS0 : List (View.Piece (Elt F) S6x1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ owns (c : Thread nD τ) arg16 fullShare xs0 ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ owns (c : Thread nD τ) arg16 fullShare xs0 ∗ (∃ d, owns (c : Thread nD τ) arg17 fullShare d) ∗ (∃ d, owns (c : Thread nD τ) arg18 fullShare d)) -∗ K ⟨⟩))
          ⊢ wp frame (wpE (defs₀ (F := F)) Variants.none c none) E (cc0_rwkv_decode i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], fun E K => ?run⟩
  case run =>
    simp only [cc0_rwkv_decode_eq_skeleton]; unfold cc0_rwkv_decode_skel
    simp only [k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg16.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _, _; isplitr; swap; · iexact H13
      ipureintro; rfl
    isplitl [H14]
    · iexists _, _; isplitr; swap; · iexact H14
      ipureintro; rfl
    isplitl [HS0]
    · iexists _; isplitr; · ipureintro; exact harg16.read_unread _
      iexact HS0
    isplitl [HS1]
    · iexists _, _; isplitr; swap; · iexact HS1
      ipureintro; rfl
    iexists _, _; isplitr; swap; · iexact HS2
    ipureintro; rfl

end Cert.Layer.RwkvBits

end
-- ==== Proof.Layer.RwkvBase.lean ====
/- What the runs of the RWKV decode kernel (program RwkvStepIdeal) are stated over: when its two branches are taken, its buffers, and the frame from a run that leaves the inputs alone. -/
module

public import proofs.«01_k».proof.Proof.Gen.RwkvStepIdeal.Frame
public import proofs.«01_k».proof.Proof.Gen.RwkvStepIdeal.Skeleton

@[expose] public section

set_option maxRecDepth 16384

noncomputable section

namespace Cert.Layer.Rwkv

open Cert.RwkvStepIdeal Cert.RwkvStepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays end as they began, from a run that leaves every input array alone. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

/-- The body's first branch is taken: the point is the first head. -/
abbrev cond0_0 (i : grid0.Coords) : Prop := (Scalar.cmpi .ne (Scalar.extui (Scalar.cmpi .eq (BitVec.ofNat 32 (i 0).val) 0#32)) 0#32) = 1#1
/-- The first branch is taken at the first point only. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The body's last branch is taken: the point is the last head. -/
abbrev cond0_1 (i : grid0.Coords) : Prop := k0_cond2 i = 1#1
/-- The last branch is taken at the last point only. -/
theorem hcond0_1 : ∀ t : Fin cfg0.N, cond0_1 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ t.val % 16 = 15)

/-- No input window is ever idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl

/-- The staging buffer of each window at a point, and that it is whole. -/
abbrev ms0_0 (t : Fin cfg0.N) : Memref sig .tc .vmem S128x4224 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x4224 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x64x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4224 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S128x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x64x64x128 .f32 := win0_14.stage (cfg0.slots t 14)
abbrev hs0_14 (t : Fin cfg0.N) : (ms0_14 t).IsWhole := hstage0_14 ((cfg0.slots t 14).cast nbuf0_14)
/-- The three scratch buffers, whole. -/
abbrev scM0_0 : Memref sig .tc .vmem S6x1024x128 .f32 := Memref.whole cc0_scratch0
abbrev scM0_1 : Memref sig .tc .vmem S4x128x1024 .f32 := Memref.whole cc0_scratch1
abbrev scM0_2 : Memref sig .tc .vmem S1024x128 .f32 := Memref.whole cc0_scratch2
/-- The carried scratch as a view. -/
abbrev VS0_0 : View sig .tc .vmem S6x1024x128 .f32 := scM0_0.view

/-- The invariant at launch: every scratch buffer at anything, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

theorem liveAt0_14 : ∀ t : Fin cfg0.N, cfg0.idle 14 (grid0.coords t) = false := fun _ => rfl
abbrev VO0_14 : View sig .tc .vmem S1x64x64x128 .f32 := (Memref.whole cc0_stg14_0 : Memref sig .tc .vmem S1x64x64x128 .f32).view

end Cert.Layer.Rwkv

end
-- ==== Proof.Layer.RwkvRunA.lean ====
/- The whole-body run of the RWKV decode kernel (program RwkvStepIdeal) at the first head. -/
module

public import proofs.«01_k».proof.Proof.Layer.RwkvBase

@[expose] public section

set_option maxRecDepth 16384

noncomputable section

namespace Cert.Layer.Rwkv

open Cert.RwkvStepIdeal Cert.RwkvStepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The whole body at the first head, on any whole buffers: the slabs it stores into the state output and into the carried scratch, with the proof that it runs to the end and leaves those slabs there, the inputs as they were and everything else at something. -/
noncomputable def kernelRun0_A (c : Dev nD) (i : grid0.Coords) (arg1 : Memref sig .tc .vmem S128x4224 .f32) (harg1 : arg1.IsWhole) (arg2 : Memref sig .tc .vmem S128x4224 .f32) (harg2 : arg2.IsWhole) (arg3 : Memref sig .tc .vmem S1x64x64x128 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S128x1024 .f32) (harg14 : arg14.IsWhole) (arg15 : Memref sig .tc .vmem S1x64x64x128 .f32) (harg15 : arg15.IsWhole) (arg16 : Memref sig .tc .vmem S6x1024x128 .f32) (harg16 : arg16.IsWhole) (arg17 : Memref sig .tc .vmem S4x128x1024 .f32) (harg17 : arg17.IsWhole) (arg18 : Memref sig .tc .vmem S1024x128 .f32) (harg18 : arg18.IsWhole) (hc0 : cond0_0 i) (hc1 : ¬cond0_1 i)
    (x0 : Vec F S128x4224 .f32) (x1 : Vec F S128x4224 .f32) (x2 : Vec F S1x64x64x128 .f32) (x3 : Vec F S1x4224 .f32) (x4 : Vec F S1x1024 .f32) (x5 : Vec F S128x1024 .bf16) (x6 : Vec F S1x1024 .f32) (x7 : Vec F S128x1024 .bf16) (x8 : Vec F S1x1024 .f32) (x9 : Vec F S1x1024 .f32) (x10 : Vec F S1x1024 .f32) (x11 : Vec F S1x1024 .f32) (x12 : Vec F S1x1024 .f32) :
    Σ' (L14 : List (View.Piece (Elt F) S1x64x64x128 .f32)), { LS0 : List (View.Piece (Elt F) S6x1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f LS0) ∗ (∃ d, owns (c : Thread nD τ) arg17 fullShare d) ∗ (∃ d, owns (c : Thread nD τ) arg18 fullShare d)) -∗ K ⟨⟩))
          ⊢ wp frame (wpE (defs₀ (F := F)) Variants.none c none) E (cc0_rwkv_decode i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    simp only [cc0_rwkv_decode_eq_skeleton]; unfold cc0_rwkv_decode_skel
    simp only [k0_part32_eq_skeleton, k0_part18_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _, _; isplitr; swap; · iexact H13
      ipureintro; rfl
    isplitl [H14]; · iexists _; iexact H14
    isplitl [HS0]; · iexists _; iexact HS0
    isplitl [HS1]
    · iexists _, _; isplitr; swap; · iexact HS1
      ipureintro; rfl
    iexists _, _; isplitr; swap; · iexact HS2
    ipureintro; rfl

end Cert.Layer.Rwkv

end
-- ==== Proof.Layer.RwkvRunB.lean ====
/- The whole-body run of the RWKV decode kernel (program RwkvStepIdeal) at a middle head. -/
module

public import proofs.«01_k».proof.Proof.Layer.RwkvRunA

@[expose] public section

set_option maxRecDepth 16384

noncomputable section

namespace Cert.Layer.Rwkv

open Cert.RwkvStepIdeal Cert.RwkvStepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The whole body at a head that is neither first nor last: the slabs it stores into the state output, over a carried scratch it only reads. -/
noncomputable def kernelRun0_B (c : Dev nD) (i : grid0.Coords) (arg1 : Memref sig .tc .vmem S128x4224 .f32) (harg1 : arg1.IsWhole) (arg2 : Memref sig .tc .vmem S128x4224 .f32) (harg2 : arg2.IsWhole) (arg3 : Memref sig .tc .vmem S1x64x64x128 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S128x1024 .f32) (harg14 : arg14.IsWhole) (arg15 : Memref sig .tc .vmem S1x64x64x128 .f32) (harg15 : arg15.IsWhole) (arg16 : Memref sig .tc .vmem S6x1024x128 .f32) (harg16 : arg16.IsWhole) (arg17 : Memref sig .tc .vmem S4x128x1024 .f32) (harg17 : arg17.IsWhole) (arg18 : Memref sig .tc .vmem S1024x128 .f32) (harg18 : arg18.IsWhole) (hc0 : ¬cond0_0 i) (hc1 : ¬cond0_1 i)
    (x0 : Vec F S128x4224 .f32) (x1 : Vec F S128x4224 .f32) (x2 : Vec F S1x64x64x128 .f32) (x3 : Vec F S1x4224 .f32) (x4 : Vec F S1x1024 .f32) (x5 : Vec F S128x1024 .bf16) (x6 : Vec F S1x1024 .f32) (x7 : Vec F S128x1024 .bf16) (x8 : Vec F S1x1024 .f32) (x9 : Vec F S1x1024 .f32) (x10 : Vec F S1x1024 .f32) (x11 : Vec F S1x1024 .f32) (x12 : Vec F S1x1024 .f32) (xs0 : Vec F S6x1024x128 .f32) :
    Σ' (L14 : List (View.Piece (Elt F) S1x64x64x128 .f32)), { LS0 : List (View.Piece (Elt F) S6x1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ owns (c : Thread nD τ) arg16 fullShare xs0 ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ f, arg15.view.loc (c : Thread nD τ) ↦[arg15.view.set]{fullShare} arg15.view.writes (Elt F) f L14) ∗ owns (c : Thread nD τ) arg16 fullShare xs0 ∗ (∃ d, owns (c : Thread nD τ) arg17 fullShare d) ∗ (∃ d, owns (c : Thread nD τ) arg18 fullShare d)) -∗ K ⟨⟩))
          ⊢ wp frame (wpE (defs₀ (F := F)) Variants.none c none) E (cc0_rwkv_decode i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, [], fun E K => ?run⟩
  case run =>
    simp only [cc0_rwkv_decode_eq_skeleton]; unfold cc0_rwkv_decode_skel
    simp only [k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg16.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _, _; isplitr; swap; · iexact H13
      ipureintro; rfl
    isplitl [H14]; · iexists _; iexact H14
    isplitl [HS0]
    · iexists _; isplitr; · ipureintro; exact harg16.read_unread _
      iexact HS0
    isplitl [HS1]
    · iexists _, _; isplitr; swap; · iexact HS1
      ipureintro; rfl
    iexists _, _; isplitr; swap; · iexact HS2
    ipureintro; rfl

end Cert.Layer.Rwkv

end
-- ==== Proof.Layer.RwkvRunC.lean ====
/- The whole-body run of the RWKV decode kernel (program RwkvStepIdeal) at the last head. -/
module

public import proofs.«01_k».proof.Proof.Layer.RwkvRunB

@[expose] public section

set_option maxRecDepth 16384

noncomputable section

namespace Cert.Layer.Rwkv

open Cert.RwkvStepIdeal Cert.RwkvStepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The whole body at the last head: the slabs it stores into the state output, over a carried scratch it only reads. -/
noncomputable def kernelRun0_C (c : Dev nD) (i : grid0.Coords) (arg1 : Memref sig .tc .vmem S128x4224 .f32) (harg1 : arg1.IsWhole) (arg2 : Memref sig .tc .vmem S128x4224 .f32) (harg2 : arg2.IsWhole) (arg3 : Memref sig .tc .vmem S1x64x64x128 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S128x1024 .f32) (harg14 : arg14.IsWhole) (arg15 : Memref sig .tc .vmem S1x64x64x128 .f32) (harg15 : arg15.IsWhole) (arg16 : Memref sig .tc .vmem S6x1024x128 .f32) (harg16 : arg16.IsWhole) (arg17 : Memref sig .tc .vmem S4x128x1024 .f32) (harg17 : arg17.IsWhole) (arg18 : Memref sig .tc .vmem S1024x128 .f32) (harg18 : arg18.IsWhole) (hc0 : ¬cond0_0 i) (hc1 : cond0_1 i)
    (x0 : Vec F S128x4224 .f32) (x1 : Vec F S128x4224 .f32) (x2 : Vec F S1x64x64x128 .f32) (x3 : Vec F S1x4224 .f32) (x4 : Vec F S1x1024 .f32) (x5 : Vec F S128x1024 .bf16) (x6 : Vec F S1x1024 .f32) (x7 : Vec F S128x1024 .bf16) (x8 : Vec F S1x1024 .f32) (x9 : Vec F S1x1024 .f32) (x10 : Vec F S1x1024 .f32) (x11 : Vec F S1x1024 .f32) (x12 : Vec F S1x1024 .f32) (xs0 : Vec F S6x1024x128 .f32) :
    Σ' (L14 : List (View.Piece (Elt F) S1x64x64x128 .f32)), { LS0 : List (View.Piece (Elt F) S6x1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ owns (c : Thread nD τ) arg16 fullShare xs0 ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ f, arg15.view.loc (c : Thread nD τ) ↦[arg15.view.set]{fullShare} arg15.view.writes (Elt F) f L14) ∗ owns (c : Thread nD τ) arg16 fullShare xs0 ∗ (∃ d, owns (c : Thread nD τ) arg17 fullShare d) ∗ (∃ d, owns (c : Thread nD τ) arg18 fullShare d)) -∗ K ⟨⟩))
          ⊢ wp frame (wpE (defs₀ (F := F)) Variants.none c none) E (cc0_rwkv_decode i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, [], fun E K => ?run⟩
  case run =>
    simp only [cc0_rwkv_decode_eq_skeleton]; unfold cc0_rwkv_decode_skel
    simp only [k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg16.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _, _; isplitr; swap; · iexact H13
      ipureintro; rfl
    isplitl [H14]; · iexists _; iexact H14
    isplitl [HS0]
    · iexists _; isplitr; · ipureintro; exact harg16.read_unread _
      iexact HS0
    isplitl [HS1]
    · iexists _, _; isplitr; swap; · iexact HS1
      ipureintro; rfl
    iexists _, _; isplitr; swap; · iexact HS2
    ipureintro; rfl

end Cert.Layer.Rwkv

end
-- ==== Proof.Layer.RwkvFrame.lean ====
/- The frame of the RWKV decode kernel (program RwkvStepIdeal): what its buffers hold point by point, the body at every point, the run, and the frame claim. -/
module

public import proofs.«01_k».proof.Proof.Layer.RwkvRunC
public import Idealize.ShloMosaic.Lib.Claim

@[expose] public section

set_option maxRecDepth 16384

noncomputable section

namespace Cert.Layer.Rwkv

open Cert.RwkvStepIdeal Cert.RwkvStepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the first head the slabs stored into the carried scratch cover it. -/
theorem scover0_A_0 (c : Dev nD) (i : grid0.Coords) (arg1 : Memref sig .tc .vmem S128x4224 .f32) (harg1 : arg1.IsWhole) (arg2 : Memref sig .tc .vmem S128x4224 .f32) (harg2 : arg2.IsWhole) (arg3 : Memref sig .tc .vmem S1x64x64x128 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S128x1024 .f32) (harg14 : arg14.IsWhole) (arg15 : Memref sig .tc .vmem S1x64x64x128 .f32) (harg15 : arg15.IsWhole) (arg16 : Memref sig .tc .vmem S6x1024x128 .f32) (harg16 : arg16.IsWhole) (arg17 : Memref sig .tc .vmem S4x128x1024 .f32) (harg17 : arg17.IsWhole) (arg18 : Memref sig .tc .vmem S1024x128 .f32) (harg18 : arg18.IsWhole) (hc0 : cond0_0 i) (hc1 : ¬cond0_1 i)
    (x0 : Vec F S128x4224 .f32) (x1 : Vec F S128x4224 .f32) (x2 : Vec F S1x64x64x128 .f32) (x3 : Vec F S1x4224 .f32) (x4 : Vec F S1x1024 .f32) (x5 : Vec F S128x1024 .bf16) (x6 : Vec F S1x1024 .f32) (x7 : Vec F S128x1024 .bf16) (x8 : Vec F S1x1024 .f32) (x9 : Vec F S1x1024 .f32) (x10 : Vec F S1x1024 .f32) (x11 : Vec F S1x1024 .f32) (x12 : Vec F S1x1024 .f32) (y : S6x1024x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12).2.1 S1x128x128.size (by sl_kernel_rfl) y

/-- What the first head leaves in the carried scratch. -/
def sout0_A_0 (c : Dev nD) (i : grid0.Coords) (arg1 : Memref sig .tc .vmem S128x4224 .f32) (harg1 : arg1.IsWhole) (arg2 : Memref sig .tc .vmem S128x4224 .f32) (harg2 : arg2.IsWhole) (arg3 : Memref sig .tc .vmem S1x64x64x128 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S128x1024 .f32) (harg14 : arg14.IsWhole) (arg15 : Memref sig .tc .vmem S1x64x64x128 .f32) (harg15 : arg15.IsWhole) (arg16 : Memref sig .tc .vmem S6x1024x128 .f32) (harg16 : arg16.IsWhole) (arg17 : Memref sig .tc .vmem S4x128x1024 .f32) (harg17 : arg17.IsWhole) (arg18 : Memref sig .tc .vmem S1024x128 .f32) (harg18 : arg18.IsWhole) (hc0 : cond0_0 i) (hc1 : ¬cond0_1 i)
    (x0 : Vec F S128x4224 .f32) (x1 : Vec F S128x4224 .f32) (x2 : Vec F S1x64x64x128 .f32) (x3 : Vec F S1x4224 .f32) (x4 : Vec F S1x1024 .f32) (x5 : Vec F S128x1024 .bf16) (x6 : Vec F S1x1024 .f32) (x7 : Vec F S128x1024 .bf16) (x8 : Vec F S1x1024 .f32) (x9 : Vec F S1x1024 .f32) (x10 : Vec F S1x1024 .f32) (x11 : Vec F S1x1024 .f32) (x12 : Vec F S1x1024 .f32) : Vec F S6x1024x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12).2.1)

/-- A middle head leaves the carried scratch as it was. -/
def sout0_B_0 (c : Dev nD) (i : grid0.Coords) (arg1 : Memref sig .tc .vmem S128x4224 .f32) (harg1 : arg1.IsWhole) (arg2 : Memref sig .tc .vmem S128x4224 .f32) (harg2 : arg2.IsWhole) (arg3 : Memref sig .tc .vmem S1x64x64x128 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S128x1024 .f32) (harg14 : arg14.IsWhole) (arg15 : Memref sig .tc .vmem S1x64x64x128 .f32) (harg15 : arg15.IsWhole) (arg16 : Memref sig .tc .vmem S6x1024x128 .f32) (harg16 : arg16.IsWhole) (arg17 : Memref sig .tc .vmem S4x128x1024 .f32) (harg17 : arg17.IsWhole) (arg18 : Memref sig .tc .vmem S1024x128 .f32) (harg18 : arg18.IsWhole) (hc0 : ¬cond0_0 i) (hc1 : ¬cond0_1 i)
    (x0 : Vec F S128x4224 .f32) (x1 : Vec F S128x4224 .f32) (x2 : Vec F S1x64x64x128 .f32) (x3 : Vec F S1x4224 .f32) (x4 : Vec F S1x1024 .f32) (x5 : Vec F S128x1024 .bf16) (x6 : Vec F S1x1024 .f32) (x7 : Vec F S128x1024 .bf16) (x8 : Vec F S1x1024 .f32) (x9 : Vec F S1x1024 .f32) (x10 : Vec F S1x1024 .f32) (x11 : Vec F S1x1024 .f32) (x12 : Vec F S1x1024 .f32) (xs0 : Vec F S6x1024x128 .f32) : Vec F S6x1024x128 .f32 := xs0

/-- The last head leaves the carried scratch as it was. -/
def sout0_C_0 (c : Dev nD) (i : grid0.Coords) (arg1 : Memref sig .tc .vmem S128x4224 .f32) (harg1 : arg1.IsWhole) (arg2 : Memref sig .tc .vmem S128x4224 .f32) (harg2 : arg2.IsWhole) (arg3 : Memref sig .tc .vmem S1x64x64x128 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S128x1024 .f32) (harg14 : arg14.IsWhole) (arg15 : Memref sig .tc .vmem S1x64x64x128 .f32) (harg15 : arg15.IsWhole) (arg16 : Memref sig .tc .vmem S6x1024x128 .f32) (harg16 : arg16.IsWhole) (arg17 : Memref sig .tc .vmem S4x128x1024 .f32) (harg17 : arg17.IsWhole) (arg18 : Memref sig .tc .vmem S1024x128 .f32) (harg18 : arg18.IsWhole) (hc0 : ¬cond0_0 i) (hc1 : cond0_1 i)
    (x0 : Vec F S128x4224 .f32) (x1 : Vec F S128x4224 .f32) (x2 : Vec F S1x64x64x128 .f32) (x3 : Vec F S1x4224 .f32) (x4 : Vec F S1x1024 .f32) (x5 : Vec F S128x1024 .bf16) (x6 : Vec F S1x1024 .f32) (x7 : Vec F S128x1024 .bf16) (x8 : Vec F S1x1024 .f32) (x9 : Vec F S1x1024 .f32) (x10 : Vec F S1x1024 .f32) (x11 : Vec F S1x1024 .f32) (x12 : Vec F S1x1024 .f32) (xs0 : Vec F S6x1024x128 .f32) : Vec F S6x1024x128 .f32 := xs0

theorem cover0_A_14 (c : Dev nD) (i : grid0.Coords) (arg1 : Memref sig .tc .vmem S128x4224 .f32) (harg1 : arg1.IsWhole) (arg2 : Memref sig .tc .vmem S128x4224 .f32) (harg2 : arg2.IsWhole) (arg3 : Memref sig .tc .vmem S1x64x64x128 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S128x1024 .f32) (harg14 : arg14.IsWhole) (arg15 : Memref sig .tc .vmem S1x64x64x128 .f32) (harg15 : arg15.IsWhole) (arg16 : Memref sig .tc .vmem S6x1024x128 .f32) (harg16 : arg16.IsWhole) (arg17 : Memref sig .tc .vmem S4x128x1024 .f32) (harg17 : arg17.IsWhole) (arg18 : Memref sig .tc .vmem S1024x128 .f32) (harg18 : arg18.IsWhole) (hc0 : cond0_0 i) (hc1 : ¬cond0_1 i)
    (x0 : Vec F S128x4224 .f32) (x1 : Vec F S128x4224 .f32) (x2 : Vec F S1x64x64x128 .f32) (x3 : Vec F S1x4224 .f32) (x4 : Vec F S1x1024 .f32) (x5 : Vec F S128x1024 .bf16) (x6 : Vec F S1x1024 .f32) (x7 : Vec F S128x1024 .bf16) (x8 : Vec F S1x1024 .f32) (x9 : Vec F S1x1024 .f32) (x10 : Vec F S1x1024 .f32) (x11 : Vec F S1x1024 .f32) (x12 : Vec F S1x1024 .f32) (y : S1x64x64x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12).1 S1x1x64x128.size (by sl_kernel_rfl) y

def out0_A_14 (c : Dev nD) (i : grid0.Coords) (arg1 : Memref sig .tc .vmem S128x4224 .f32) (harg1 : arg1.IsWhole) (arg2 : Memref sig .tc .vmem S128x4224 .f32) (harg2 : arg2.IsWhole) (arg3 : Memref sig .tc .vmem S1x64x64x128 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S128x1024 .f32) (harg14 : arg14.IsWhole) (arg15 : Memref sig .tc .vmem S1x64x64x128 .f32) (harg15 : arg15.IsWhole) (arg16 : Memref sig .tc .vmem S6x1024x128 .f32) (harg16 : arg16.IsWhole) (arg17 : Memref sig .tc .vmem S4x128x1024 .f32) (harg17 : arg17.IsWhole) (arg18 : Memref sig .tc .vmem S1024x128 .f32) (harg18 : arg18.IsWhole) (hc0 : cond0_0 i) (hc1 : ¬cond0_1 i)
    (x0 : Vec F S128x4224 .f32) (x1 : Vec F S128x4224 .f32) (x2 : Vec F S1x64x64x128 .f32) (x3 : Vec F S1x4224 .f32) (x4 : Vec F S1x1024 .f32) (x5 : Vec F S128x1024 .bf16) (x6 : Vec F S1x1024 .f32) (x7 : Vec F S128x1024 .bf16) (x8 : Vec F S1x1024 .f32) (x9 : Vec F S1x1024 .f32) (x10 : Vec F S1x1024 .f32) (x11 : Vec F S1x1024 .f32) (x12 : Vec F S1x1024 .f32) : Vec F S1x64x64x128 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12).1)

theorem cover0_B_14 (c : Dev nD) (i : grid0.Coords) (arg1 : Memref sig .tc .vmem S128x4224 .f32) (harg1 : arg1.IsWhole) (arg2 : Memref sig .tc .vmem S128x4224 .f32) (harg2 : arg2.IsWhole) (arg3 : Memref sig .tc .vmem S1x64x64x128 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S128x1024 .f32) (harg14 : arg14.IsWhole) (arg15 : Memref sig .tc .vmem S1x64x64x128 .f32) (harg15 : arg15.IsWhole) (arg16 : Memref sig .tc .vmem S6x1024x128 .f32) (harg16 : arg16.IsWhole) (arg17 : Memref sig .tc .vmem S4x128x1024 .f32) (harg17 : arg17.IsWhole) (arg18 : Memref sig .tc .vmem S1024x128 .f32) (harg18 : arg18.IsWhole) (hc0 : ¬cond0_0 i) (hc1 : ¬cond0_1 i)
    (x0 : Vec F S128x4224 .f32) (x1 : Vec F S128x4224 .f32) (x2 : Vec F S1x64x64x128 .f32) (x3 : Vec F S1x4224 .f32) (x4 : Vec F S1x1024 .f32) (x5 : Vec F S128x1024 .bf16) (x6 : Vec F S1x1024 .f32) (x7 : Vec F S128x1024 .bf16) (x8 : Vec F S1x1024 .f32) (x9 : Vec F S1x1024 .f32) (x10 : Vec F S1x1024 .f32) (x11 : Vec F S1x1024 .f32) (x12 : Vec F S1x1024 .f32) (xs0 : Vec F S6x1024x128 .f32) (y : S1x64x64x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0).1 S1x1x64x128.size (by sl_kernel_rfl) y

def out0_B_14 (c : Dev nD) (i : grid0.Coords) (arg1 : Memref sig .tc .vmem S128x4224 .f32) (harg1 : arg1.IsWhole) (arg2 : Memref sig .tc .vmem S128x4224 .f32) (harg2 : arg2.IsWhole) (arg3 : Memref sig .tc .vmem S1x64x64x128 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S128x1024 .f32) (harg14 : arg14.IsWhole) (arg15 : Memref sig .tc .vmem S1x64x64x128 .f32) (harg15 : arg15.IsWhole) (arg16 : Memref sig .tc .vmem S6x1024x128 .f32) (harg16 : arg16.IsWhole) (arg17 : Memref sig .tc .vmem S4x128x1024 .f32) (harg17 : arg17.IsWhole) (arg18 : Memref sig .tc .vmem S1024x128 .f32) (harg18 : arg18.IsWhole) (hc0 : ¬cond0_0 i) (hc1 : ¬cond0_1 i)
    (x0 : Vec F S128x4224 .f32) (x1 : Vec F S128x4224 .f32) (x2 : Vec F S1x64x64x128 .f32) (x3 : Vec F S1x4224 .f32) (x4 : Vec F S1x1024 .f32) (x5 : Vec F S128x1024 .bf16) (x6 : Vec F S1x1024 .f32) (x7 : Vec F S128x1024 .bf16) (x8 : Vec F S1x1024 .f32) (x9 : Vec F S1x1024 .f32) (x10 : Vec F S1x1024 .f32) (x11 : Vec F S1x1024 .f32) (x12 : Vec F S1x1024 .f32) (xs0 : Vec F S6x1024x128 .f32) : Vec F S1x64x64x128 .f32 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0).1)

theorem cover0_C_14 (c : Dev nD) (i : grid0.Coords) (arg1 : Memref sig .tc .vmem S128x4224 .f32) (harg1 : arg1.IsWhole) (arg2 : Memref sig .tc .vmem S128x4224 .f32) (harg2 : arg2.IsWhole) (arg3 : Memref sig .tc .vmem S1x64x64x128 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S128x1024 .f32) (harg14 : arg14.IsWhole) (arg15 : Memref sig .tc .vmem S1x64x64x128 .f32) (harg15 : arg15.IsWhole) (arg16 : Memref sig .tc .vmem S6x1024x128 .f32) (harg16 : arg16.IsWhole) (arg17 : Memref sig .tc .vmem S4x128x1024 .f32) (harg17 : arg17.IsWhole) (arg18 : Memref sig .tc .vmem S1024x128 .f32) (harg18 : arg18.IsWhole) (hc0 : ¬cond0_0 i) (hc1 : cond0_1 i)
    (x0 : Vec F S128x4224 .f32) (x1 : Vec F S128x4224 .f32) (x2 : Vec F S1x64x64x128 .f32) (x3 : Vec F S1x4224 .f32) (x4 : Vec F S1x1024 .f32) (x5 : Vec F S128x1024 .bf16) (x6 : Vec F S1x1024 .f32) (x7 : Vec F S128x1024 .bf16) (x8 : Vec F S1x1024 .f32) (x9 : Vec F S1x1024 .f32) (x10 : Vec F S1x1024 .f32) (x11 : Vec F S1x1024 .f32) (x12 : Vec F S1x1024 .f32) (xs0 : Vec F S6x1024x128 .f32) (y : S1x64x64x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0).1 S1x1x64x128.size (by sl_kernel_rfl) y

def out0_C_14 (c : Dev nD) (i : grid0.Coords) (arg1 : Memref sig .tc .vmem S128x4224 .f32) (harg1 : arg1.IsWhole) (arg2 : Memref sig .tc .vmem S128x4224 .f32) (harg2 : arg2.IsWhole) (arg3 : Memref sig .tc .vmem S1x64x64x128 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S128x1024 .f32) (harg14 : arg14.IsWhole) (arg15 : Memref sig .tc .vmem S1x64x64x128 .f32) (harg15 : arg15.IsWhole) (arg16 : Memref sig .tc .vmem S6x1024x128 .f32) (harg16 : arg16.IsWhole) (arg17 : Memref sig .tc .vmem S4x128x1024 .f32) (harg17 : arg17.IsWhole) (arg18 : Memref sig .tc .vmem S1024x128 .f32) (harg18 : arg18.IsWhole) (hc0 : ¬cond0_0 i) (hc1 : cond0_1 i)
    (x0 : Vec F S128x4224 .f32) (x1 : Vec F S128x4224 .f32) (x2 : Vec F S1x64x64x128 .f32) (x3 : Vec F S1x4224 .f32) (x4 : Vec F S1x1024 .f32) (x5 : Vec F S128x1024 .bf16) (x6 : Vec F S1x1024 .f32) (x7 : Vec F S128x1024 .bf16) (x8 : Vec F S1x1024 .f32) (x9 : Vec F S1x1024 .f32) (x10 : Vec F S1x1024 .f32) (x11 : Vec F S1x1024 .f32) (x12 : Vec F S1x1024 .f32) (xs0 : Vec F S6x1024x128 .f32) : Vec F S1x64x64x128 .f32 :=
  VO0_14.read (Elt F) (VO0_14.writes (Elt F) VO0_14.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0).1)

/-- What the state output and the carried scratch hold after the body at each point, point by point. -/
def outsAt0 (c : Dev nD) : (n : ℕ) → n < cfg0.N → Vec F S1x64x64x128 .f32 × Vec F S6x1024x128 .f32
  | 0, hn => (out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩))
  | n + 1, hn =>
    if h0 : (n + 1) % 16 = 0 then
      if h1 : (n + 1) % 16 = 15 then
        False.elim (by have hN : n + 1 < 16 := lt_of_lt_of_eq hn (show cfg0.N = 16 from N_0); omega)
      else
        (out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩))
    else
      if h1 : (n + 1) % 16 = 15 then
        (out0_C_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2)
      else
        (out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2)

/-- The same at the first head. -/
theorem outsAt0_A (c : Dev nD) (t : Fin cfg0.N) (h0 : t.val % 16 = 0) (h1 : ¬t.val % 16 = 15) :
    outsAt0 m c t.val t.isLt = (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  obtain ⟨n, hn⟩ := t
  cases n with
  | zero => exact rfl
  | succ n => exact (dif_pos h0).trans ((dif_neg h1).trans rfl)

/-- The same at a middle head. -/
theorem outsAt0_B (c : Dev nD) (t : Fin cfg0.N) (h0 : ¬t.val % 16 = 0) (h1 : ¬t.val % 16 = 15) :
    outsAt0 m c t.val t.isLt = (out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- The same at the last head. -/
theorem outsAt0_C (c : Dev nD) (t : Fin cfg0.N) (h0 : ¬t.val % 16 = 0) (h1 : t.val % 16 = 15) :
    outsAt0 m c t.val t.isLt = (out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before each point: from the second on the carried scratch is at what the point before left, every other scratch at anything. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)).2 ∗ (∃ d, owns (c : Thread nD τ) scM0_1 fullShare d) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After a point the carried scratch is at that point's contents. -/
theorem PhiS_succ (c : Dev nD) (n : ℕ) (hn : n < cfg0.N) :
    PhiS m c (n + 1) hn = iprop(iprop(owns (c : Thread nD τ) scM0_0 fullShare ((outsAt0 m c n hn)).2 ∗ (∃ d, owns (c : Thread nD τ) scM0_1 fullShare d) ∗ (∃ d, owns (c : Thread nD τ) scM0_2 fullShare d)) ∗ (∃ r, prngReg c r)) := rfl

/-- Before a later point the carried scratch is at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))).2 ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-- The window whose contents are not named: the attention output. -/
def forgets0 : Fin 15 → Bool := fun w => w.val == 13

/-- The data of the pipeline: the arrays as the region finds them, the inputs' blocks, and the state output at what the body leaves; the attention output is not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
    | ⟨14, _⟩ => (outsAt0 m c t.val t.isLt).1
  Φ t := PhiS m c t.val (Nat.le_of_lt_succ t.isLt)
  q _ := fullShare
  owed _ := 0

/-- The arrays of the data are those the region finds. -/
theorem A_eq (c : Dev nD) (w : Fin cfg0.W) : (dats m 0 c).A w = V m c (Pipeline.arrRef spec0 w) := by
  dsimp only [dats]

/-- The invariant of the data at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in each window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_14 (c : Dev nD) (t : Fin cfg0.N) : (dats m 0 c).after 14 t = (outsAt0 m c t.val t.isLt).1 := by dsimp only [dats]

/-- What each input's buffer holds when the body starts: its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare d)
    ∗ (∃ d, owns (c : Thread nD τ) (ms0_14 t) fullShare ((dats m 0 c).before 14 t d)))

/-- What the body returns at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (∃ d, owns (c : Thread nD τ) (ms0_13 t) fullShare d)
    ∗ (dats m 0 c).leavesExact 14 t)

set_option maxHeartbeats 19200000 in
/-- The body at any point, from what it is given to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      by_cases hz : t.val = 0
      · rw [PhiS_castSucc m c t, PhiS_zero m c _ _ hz, PhiA0_eq]
        rw [show (dats m 0 c).leavesExact 14 t = owns (c : Thread nD τ) (ms0_14 t) fullShare ((dats m 0 c).after 14 t) from by
          unfold Dat.leavesExact; rw [liveAt0_14 t], after0_14]
        rw [outsAt0_A m c t h0 h1]
        unfold out0_A_14 sout0_A_0; dsimp only
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((kernelRun0_A c (grid0.coords t) _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexists _; iexact H13
        isplitl [H14]; · iexists _; iexact H14
        isplitl [HS0]; · iexact HS0
        isplitl [HS1]; · iexact HS1
        isplitl [HS2]; · iexact HS2
        iintro ⟨H0, H1, H2, H3, H4, H5, H6, H7, H8, H9, H10, H11, H12, H13, ⟨%e14, H14⟩, ⟨%es0, HS0⟩, HS1, HS2⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _)
            isplitl [HS1]
            · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _)
      · exfalso; have hN : t.val < 16 := lt_of_lt_of_eq t.isLt (show cfg0.N = 16 from N_0); omega
  · by_cases h1 : t.val % 16 = 15
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      by_cases hz : t.val = 0
      · exfalso; have hN : t.val < 16 := lt_of_lt_of_eq t.isLt (show cfg0.N = 16 from N_0); omega
      · rw [PhiS_castSucc m c t, PhiS_pos m c _ _ hz]
        rw [show (dats m 0 c).leavesExact 14 t = owns (c : Thread nD τ) (ms0_14 t) fullShare ((dats m 0 c).after 14 t) from by
          unfold Dat.leavesExact; rw [liveAt0_14 t], after0_14]
        rw [outsAt0_C m c t h0 h1]
        unfold out0_C_14 sout0_C_0; dsimp only
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((kernelRun0_C c (grid0.coords t) _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexists _; iexact H13
        isplitl [H14]; · iexists _; iexact H14
        isplitl [HS0]; · iexact HS0
        isplitl [HS1]; · iexact HS1
        isplitl [HS2]; · iexact HS2
        iintro ⟨H0, H1, H2, H3, H4, H5, H6, H7, H8, H9, H10, H11, H12, H13, ⟨%e14, H14⟩, HS0, HS1, HS2⟩
        isplitl [HS0 HS1 HS2 Hg]
        · isplitl [HS0 HS1 HS2]
          · isplitl [HS0]
            · iexact HS0
            isplitl [HS1]
            · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        unfold owns; iexists _; isplitr
        swap; · iexact H14
        ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      by_cases hz : t.val = 0
      · exfalso; have hN : t.val < 16 := lt_of_lt_of_eq t.isLt (show cfg0.N = 16 from N_0); omega
      · rw [PhiS_castSucc m c t, PhiS_pos m c _ _ hz]
        rw [show (dats m 0 c).leavesExact 14 t = owns (c : Thread nD τ) (ms0_14 t) fullShare ((dats m 0 c).after 14 t) from by
          unfold Dat.leavesExact; rw [liveAt0_14 t], after0_14]
        rw [outsAt0_B m c t h0 h1]
        unfold out0_B_14 sout0_B_0; dsimp only
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((kernelRun0_B c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexists _; iexact H13
        isplitl [H14]; · iexists _; iexact H14
        isplitl [HS0]; · iexact HS0
        isplitl [HS1]; · iexact HS1
        isplitl [HS2]; · iexact HS2
        iintro ⟨H0, H1, H2, H3, H4, H5, H6, H7, H8, H9, H10, H11, H12, H13, ⟨%e14, H14⟩, HS0, HS1, HS2⟩
        isplitl [HS0 HS1 HS2 Hg]
        · isplitl [HS0 HS1 HS2]
          · isplitl [HS0]
            · iexact HS0
            isplitl [HS1]
            · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        unfold owns; iexists _; isplitr
        swap; · iexact H14
        ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _)

/-- The kernel function at a point's buffers. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- The invariant at launch gives the one before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch one back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

set_option backward.isDefEq.respectTransparency.types false in
/-- The whole run: every input array is left alone, the state array ends at the data's contents, and every counter ends at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (fun c => (dats m 0 c).toRForget forgets0) (A_eq m) (run_main m ρ)

/-- The frame claim: the run ends, leaves the arguments as they were, and leaves every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.Layer.Rwkv

end
-- ==== Proof.Layer.RwkvTiles.lean ====
module

public import proofs.«01_k».proof.Proof.Layer.RwkvFrame
public import Idealize.ShloMosaic.Lib.Pipeline.ValueKit
public import Idealize.ShloMosaic.Lib.Pointwise
public import Idealize.ShloMosaic.Lib.Claim

@[expose] public section

set_option maxRecDepth 16384

noncomputable section

namespace Cert.Layer.Rwkv

open Idealize.ShloMosaic Idealize.ShloMosaic.TcCoe Idealize.SL.Sem
open Idealize.ShloMosaic.Pipeline (Dat)
open Cert.RwkvStepIdeal Cert.RwkvStepIdeal.Gen

/-- One value row of a head's state after the step: `w` the decays, `nk` the negated keys, `be` the keys' rates, `k` the keys, `x` the row's value, `s` the row. -/
def upd (w nk be k : FVec Ideal S64x128 .f32) (x : FVec Ideal S1x128 .f32) (s : Vec Ideal S1x1x64x128 .f32) : FVec Ideal S64x128 .f32 :=
  addf (addf (mulf (shapeCast S64x128 s shapeCasts_S1x1x64x128_S64x128) w)
      (mulf (broadcastTo S64x128 (shapeCast S1x128 (multiReduction .add [0] S128 (mulf (shapeCast S64x128 s shapeCasts_S1x1x64x128_S64x128) nk)
        0x00000000#32 reduces_S64x128_S128 (.inl rfl) rfl) shapeCasts_S128_S1x128) broadcasts_S1x128_S64x128) be))
    (mulf (broadcastTo S64x128 x broadcasts_S1x128_S64x128) k)

/-- The stored row. -/
def stored (w nk be k : FVec Ideal S64x128 .f32) (x : FVec Ideal S1x128 .f32) (s : Vec Ideal S1x1x64x128 .f32) : FVec Ideal S1x1x64x128 .f32 :=
  shapeCast S1x1x64x128 (upd w nk be k x s) shapeCasts_S64x128_S1x1x64x128

/-- The sixty-four stored rows of one head: `x` the values, `S` the head's state. -/
def tiles (x w nk be k : FVec Ideal S64x128 .f32) (S : Vec Ideal S1x64x64x128 .f32) : List (View.Piece (Elt Ideal) S1x64x64x128 .f32) :=
  [⟨Rect.unit ![0, 63, 0, 0] ![1, 1, 64, 128] inb_S1x64x64x128_S1x1x64x128_0_63_0_0, stored w nk be k (extractStridedSlice S1x128 ![63, 0] x slices_S64x128_o63_0_S1x128) (View.ld S (Rect.unit ![0, 63, 0, 0] ![1, 1, 64, 128] inb_S1x64x64x128_S1x1x64x128_0_63_0_0))⟩,
   ⟨Rect.unit ![0, 62, 0, 0] ![1, 1, 64, 128] inb_S1x64x64x128_S1x1x64x128_0_62_0_0, stored w nk be k (extractStridedSlice S1x128 ![62, 0] x slices_S64x128_o62_0_S1x128) (View.ld S (Rect.unit ![0, 62, 0, 0] ![1, 1, 64, 128] inb_S1x64x64x128_S1x1x64x128_0_62_0_0))⟩,
   ⟨Rect.unit ![0, 61, 0, 0] ![1, 1, 64, 128] inb_S1x64x64x128_S1x1x64x128_0_61_0_0, stored w nk be k (extractStridedSlice S1x128 ![61, 0] x slices_S64x128_o61_0_S1x128) (View.ld S (Rect.unit ![0, 61, 0, 0] ![1, 1, 64, 128] inb_S1x64x64x128_S1x1x64x128_0_61_0_0))⟩,
   ⟨Rect.unit ![0, 60, 0, 0] ![1, 1, 64, 128] inb_S1x64x64x128_S1x1x64x128_0_60_0_0, stored w nk be k (extractStridedSlice S1x128 ![60, 0] x slices_S64x128_o60_0_S1x128) (View.ld S (Rect.unit ![0, 60, 0, 0] ![1, 1, 64, 128] inb_S1x64x64x128_S1x1x64x128_0_60_0_0))⟩,
   ⟨Rect.unit ![0, 59, 0, 0] ![1, 1, 64, 128] inb_S1x64x64x128_S1x1x64x128_0_59_0_0, stored w nk be k (extractStridedSlice S1x128 ![59, 0] x slices_S64x128_o59_0_S1x128) (View.ld S (Rect.unit ![0, 59, 0, 0] ![1, 1, 64, 128] inb_S1x64x64x128_S1x1x64x128_0_59_0_0))⟩,
   ⟨Rect.unit ![0, 58, 0, 0] ![1, 1, 64, 128] inb_S1x64x64x128_S1x1x64x128_0_58_0_0, stored w nk be k (extractStridedSlice S1x128 ![58, 0] x slices_S64x128_o58_0_S1x128) (View.ld S (Rect.unit ![0, 58, 0, 0] ![1, 1, 64, 128] inb_S1x64x64x128_S1x1x64x128_0_58_0_0))⟩,
   ⟨Rect.unit ![0, 57, 0, 0] ![1, 1, 64, 128] inb_S1x64x64x128_S1x1x64x128_0_57_0_0, stored w nk be k (extractStridedSlice S1x128 ![57, 0] x slices_S64x128_o57_0_S1x128) (View.ld S (Rect.unit ![0, 57, 0, 0] ![1, 1, 64, 128] inb_S1x64x64x128_S1x1x64x128_0_57_0_0))⟩,
   ⟨Rect.unit ![0, 56, 0, 0] ![1, 1, 64, 128] inb_S1x64x64x128_S1x1x64x128_0_56_0_0, stored w nk be k (extractStridedSlice S1x128 ![56, 0] x slices_S64x128_o56_0_S1x128) (View.ld S (Rect.unit ![0, 56, 0, 0] ![1, 1, 64, 128] inb_S1x64x64x128_S1x1x64x128_0_56_0_0))⟩,
   ⟨Rect.unit ![0, 55, 0, 0] ![1, 1, 64, 128] inb_S1x64x64x128_S1x1x64x128_0_55_0_0, stored w nk be k (extractStridedSlice S1x128 ![55, 0] x slices_S64x128_o55_0_S1x128) (View.ld S (Rect.unit ![0, 55, 0, 0] ![1, 1, 64, 128] inb_S1x64x64x128_S1x1x64x128_0_55_0_0))⟩,
   ⟨Rect.unit ![0, 54, 0, 0] ![1, 1, 64, 128] inb_S1x64x64x128_S1x1x64x128_0_54_0_0, stored w nk be k (extractStridedSlice S1x128 ![54, 0] x slices_S64x128_o54_0_S1x128) (View.ld S (Rect.unit ![0, 54, 0, 0] ![1, 1, 64, 128] inb_S1x64x64x128_S1x1x64x128_0_54_0_0))⟩,
   ⟨Rect.unit ![0, 53, 0, 0] ![1, 1, 64, 128] inb_S1x64x64x128_S1x1x64x128_0_53_0_0, stored w nk be k (extractStridedSlice S1x128 ![53, 0] x slices_S64x128_o53_0_S1x128) (View.ld S (Rect.unit ![0, 53, 0, 0] ![1, 1, 64, 128] inb_S1x64x64x128_S1x1x64x128_0_53_0_0))⟩,
   ⟨Rect.unit ![0, 52, 0, 0] ![1, 1, 64, 128] inb_S1x64x64x128_S1x1x64x128_0_52_0_0, stored w nk be k (extractStridedSlice S1x128 ![52, 0] x slices_S64x128_o52_0_S1x128) (View.ld S (Rect.unit ![0, 52, 0, 0] ![1, 1, 64, 128] inb_S1x64x64x128_S1x1x64x128_0_52_0_0))⟩,
   ⟨Rect.unit ![0, 51, 0, 0] ![1, 1, 64, 128] inb_S1x64x64x128_S1x1x64x128_0_51_0_0, stored w nk be k (extractStridedSlice S1x128 ![51, 0] x slices_S64x128_o51_0_S1x128) (View.ld S (Rect.unit ![0, 51, 0, 0] ![1, 1, 64, 128] inb_S1x64x64x128_S1x1x64x128_0_51_0_0))⟩,
   ⟨Rect.unit ![0, 50, 0, 0] ![1, 1, 64, 128] inb_S1x64x64x128_S1x1x64x128_0_50_0_0, stored w nk be k (extractStridedSlice S1x128 ![50, 0] x slices_S64x128_o50_0_S1x128) (View.ld S (Rect.unit ![0, 50, 0, 0] ![1, 1, 64, 128] inb_S1x64x64x128_S1x1x64x128_0_50_0_0))⟩,
   ⟨Rect.unit ![0, 49, 0, 0] ![1, 1, 64, 128] inb_S1x64x64x128_S1x1x64x128_0_49_0_0, stored w nk be k (extractStridedSlice S1x128 ![49, 0] x slices_S64x128_o49_0_S1x128) (View.ld S (Rect.unit ![0, 49, 0, 0] ![1, 1, 64, 128] inb_S1x64x64x128_S1x1x64x128_0_49_0_0))⟩,
   ⟨Rect.unit ![0, 48, 0, 0] ![1, 1, 64, 128] inb_S1x64x64x128_S1x1x64x128_0_48_0_0, stored w nk be k (extractStridedSlice S1x128 ![48, 0] x slices_S64x128_o48_0_S1x128) (View.ld S (Rect.unit ![0, 48, 0, 0] ![1, 1, 64, 128] inb_S1x64x64x128_S1x1x64x128_0_48_0_0))⟩,
   ⟨Rect.unit ![0, 47, 0, 0] ![1, 1, 64, 128] inb_S1x64x64x128_S1x1x64x128_0_47_0_0, stored w nk be k (extractStridedSlice S1x128 ![47, 0] x slices_S64x128_o47_0_S1x128) (View.ld S (Rect.unit ![0, 47, 0, 0] ![1, 1, 64, 128] inb_S1x64x64x128_S1x1x64x128_0_47_0_0))⟩,
   ⟨Rect.unit ![0, 46, 0, 0] ![1, 1, 64, 128] inb_S1x64x64x128_S1x1x64x128_0_46_0_0, stored w nk be k (extractStridedSlice S1x128 ![46, 0] x slices_S64x128_o46_0_S1x128) (View.ld S (Rect.unit ![0, 46, 0, 0] ![1, 1, 64, 128] inb_S1x64x64x128_S1x1x64x128_0_46_0_0))⟩,
   ⟨Rect.unit ![0, 45, 0, 0] ![1, 1, 64, 128] inb_S1x64x64x128_S1x1x64x128_0_45_0_0, stored w nk be k (extractStridedSlice S1x128 ![45, 0] x slices_S64x128_o45_0_S1x128) (View.ld S (Rect.unit ![0, 45, 0, 0] ![1, 1, 64, 128] inb_S1x64x64x128_S1x1x64x128_0_45_0_0))⟩,
   ⟨Rect.unit ![0, 44, 0, 0] ![1, 1, 64, 128] inb_S1x64x64x128_S1x1x64x128_0_44_0_0, stored w nk be k (extractStridedSlice S1x128 ![44, 0] x slices_S64x128_o44_0_S1x128) (View.ld S (Rect.unit ![0, 44, 0, 0] ![1, 1, 64, 128] inb_S1x64x64x128_S1x1x64x128_0_44_0_0))⟩,
   ⟨Rect.unit ![0, 43, 0, 0] ![1, 1, 64, 128] inb_S1x64x64x128_S1x1x64x128_0_43_0_0, stored w nk be k (extractStridedSlice S1x128 ![43, 0] x slices_S64x128_o43_0_S1x128) (View.ld S (Rect.unit ![0, 43, 0, 0] ![1, 1, 64, 128] inb_S1x64x64x128_S1x1x64x128_0_43_0_0))⟩,
   ⟨Rect.unit ![0, 42, 0, 0] ![1, 1, 64, 128] inb_S1x64x64x128_S1x1x64x128_0_42_0_0, stored w nk be k (extractStridedSlice S1x128 ![42, 0] x slices_S64x128_o42_0_S1x128) (View.ld S (Rect.unit ![0, 42, 0, 0] ![1, 1, 64, 128] inb_S1x64x64x128_S1x1x64x128_0_42_0_0))⟩,
   ⟨Rect.unit ![0, 41, 0, 0] ![1, 1, 64, 128] inb_S1x64x64x128_S1x1x64x128_0_41_0_0, stored w nk be k (extractStridedSlice S1x128 ![41, 0] x slices_S64x128_o41_0_S1x128) (View.ld S (Rect.unit ![0, 41, 0, 0] ![1, 1, 64, 128] inb_S1x64x64x128_S1x1x64x128_0_41_0_0))⟩,
   ⟨Rect.unit ![0, 40, 0, 0] ![1, 1, 64, 128] inb_S1x64x64x128_S1x1x64x128_0_40_0_0, stored w nk be k (extractStridedSlice S1x128 ![40, 0] x slices_S64x128_o40_0_S1x128) (View.ld S (Rect.unit ![0, 40, 0, 0] ![1, 1, 64, 128] inb_S1x64x64x128_S1x1x64x128_0_40_0_0))⟩,
   ⟨Rect.unit ![0, 39, 0, 0] ![1, 1, 64, 128] inb_S1x64x64x128_S1x1x64x128_0_39_0_0, stored w nk be k (extractStridedSlice S1x128 ![39, 0] x slices_S64x128_o39_0_S1x128) (View.ld S (Rect.unit ![0, 39, 0, 0] ![1, 1, 64, 128] inb_S1x64x64x128_S1x1x64x128_0_39_0_0))⟩,
   ⟨Rect.unit ![0, 38, 0, 0] ![1, 1, 64, 128] inb_S1x64x64x128_S1x1x64x128_0_38_0_0, stored w nk be k (extractStridedSlice S1x128 ![38, 0] x slices_S64x128_o38_0_S1x128) (View.ld S (Rect.unit ![0, 38, 0, 0] ![1, 1, 64, 128] inb_S1x64x64x128_S1x1x64x128_0_38_0_0))⟩,
   ⟨Rect.unit ![0, 37, 0, 0] ![1, 1, 64, 128] inb_S1x64x64x128_S1x1x64x128_0_37_0_0, stored w nk be k (extractStridedSlice S1x128 ![37, 0] x slices_S64x128_o37_0_S1x128) (View.ld S (Rect.unit ![0, 37, 0, 0] ![1, 1, 64, 128] inb_S1x64x64x128_S1x1x64x128_0_37_0_0))⟩,
   ⟨Rect.unit ![0, 36, 0, 0] ![1, 1, 64, 128] inb_S1x64x64x128_S1x1x64x128_0_36_0_0, stored w nk be k (extractStridedSlice S1x128 ![36, 0] x slices_S64x128_o36_0_S1x128) (View.ld S (Rect.unit ![0, 36, 0, 0] ![1, 1, 64, 128] inb_S1x64x64x128_S1x1x64x128_0_36_0_0))⟩,
   ⟨Rect.unit ![0, 35, 0, 0] ![1, 1, 64, 128] inb_S1x64x64x128_S1x1x64x128_0_35_0_0, stored w nk be k (extractStridedSlice S1x128 ![35, 0] x slices_S64x128_o35_0_S1x128) (View.ld S (Rect.unit ![0, 35, 0, 0] ![1, 1, 64, 128] inb_S1x64x64x128_S1x1x64x128_0_35_0_0))⟩,
   ⟨Rect.unit ![0, 34, 0, 0] ![1, 1, 64, 128] inb_S1x64x64x128_S1x1x64x128_0_34_0_0, stored w nk be k (extractStridedSlice S1x128 ![34, 0] x slices_S64x128_o34_0_S1x128) (View.ld S (Rect.unit ![0, 34, 0, 0] ![1, 1, 64, 128] inb_S1x64x64x128_S1x1x64x128_0_34_0_0))⟩,
   ⟨Rect.unit ![0, 33, 0, 0] ![1, 1, 64, 128] inb_S1x64x64x128_S1x1x64x128_0_33_0_0, stored w nk be k (extractStridedSlice S1x128 ![33, 0] x slices_S64x128_o33_0_S1x128) (View.ld S (Rect.unit ![0, 33, 0, 0] ![1, 1, 64, 128] inb_S1x64x64x128_S1x1x64x128_0_33_0_0))⟩,
   ⟨Rect.unit ![0, 32, 0, 0] ![1, 1, 64, 128] inb_S1x64x64x128_S1x1x64x128_0_32_0_0, stored w nk be k (extractStridedSlice S1x128 ![32, 0] x slices_S64x128_o32_0_S1x128) (View.ld S (Rect.unit ![0, 32, 0, 0] ![1, 1, 64, 128] inb_S1x64x64x128_S1x1x64x128_0_32_0_0))⟩,
   ⟨Rect.unit ![0, 31, 0, 0] ![1, 1, 64, 128] inb_S1x64x64x128_S1x1x64x128_0_31_0_0, stored w nk be k (extractStridedSlice S1x128 ![31, 0] x slices_S64x128_o31_0_S1x128) (View.ld S (Rect.unit ![0, 31, 0, 0] ![1, 1, 64, 128] inb_S1x64x64x128_S1x1x64x128_0_31_0_0))⟩,
   ⟨Rect.unit ![0, 30, 0, 0] ![1, 1, 64, 128] inb_S1x64x64x128_S1x1x64x128_0_30_0_0, stored w nk be k (extractStridedSlice S1x128 ![30, 0] x slices_S64x128_o30_0_S1x128) (View.ld S (Rect.unit ![0, 30, 0, 0] ![1, 1, 64, 128] inb_S1x64x64x128_S1x1x64x128_0_30_0_0))⟩,
   ⟨Rect.unit ![0, 29, 0, 0] ![1, 1, 64, 128] inb_S1x64x64x128_S1x1x64x128_0_29_0_0, stored w nk be k (extractStridedSlice S1x128 ![29, 0] x slices_S64x128_o29_0_S1x128) (View.ld S (Rect.unit ![0, 29, 0, 0] ![1, 1, 64, 128] inb_S1x64x64x128_S1x1x64x128_0_29_0_0))⟩,
   ⟨Rect.unit ![0, 28, 0, 0] ![1, 1, 64, 128] inb_S1x64x64x128_S1x1x64x128_0_28_0_0, stored w nk be k (extractStridedSlice S1x128 ![28, 0] x slices_S64x128_o28_0_S1x128) (View.ld S (Rect.unit ![0, 28, 0, 0] ![1, 1, 64, 128] inb_S1x64x64x128_S1x1x64x128_0_28_0_0))⟩,
   ⟨Rect.unit ![0, 27, 0, 0] ![1, 1, 64, 128] inb_S1x64x64x128_S1x1x64x128_0_27_0_0, stored w nk be k (extractStridedSlice S1x128 ![27, 0] x slices_S64x128_o27_0_S1x128) (View.ld S (Rect.unit ![0, 27, 0, 0] ![1, 1, 64, 128] inb_S1x64x64x128_S1x1x64x128_0_27_0_0))⟩,
   ⟨Rect.unit ![0, 26, 0, 0] ![1, 1, 64, 128] inb_S1x64x64x128_S1x1x64x128_0_26_0_0, stored w nk be k (extractStridedSlice S1x128 ![26, 0] x slices_S64x128_o26_0_S1x128) (View.ld S (Rect.unit ![0, 26, 0, 0] ![1, 1, 64, 128] inb_S1x64x64x128_S1x1x64x128_0_26_0_0))⟩,
   ⟨Rect.unit ![0, 25, 0, 0] ![1, 1, 64, 128] inb_S1x64x64x128_S1x1x64x128_0_25_0_0, stored w nk be k (extractStridedSlice S1x128 ![25, 0] x slices_S64x128_o25_0_S1x128) (View.ld S (Rect.unit ![0, 25, 0, 0] ![1, 1, 64, 128] inb_S1x64x64x128_S1x1x64x128_0_25_0_0))⟩,
   ⟨Rect.unit ![0, 24, 0, 0] ![1, 1, 64, 128] inb_S1x64x64x128_S1x1x64x128_0_24_0_0, stored w nk be k (extractStridedSlice S1x128 ![24, 0] x slices_S64x128_o24_0_S1x128) (View.ld S (Rect.unit ![0, 24, 0, 0] ![1, 1, 64, 128] inb_S1x64x64x128_S1x1x64x128_0_24_0_0))⟩,
   ⟨Rect.unit ![0, 23, 0, 0] ![1, 1, 64, 128] inb_S1x64x64x128_S1x1x64x128_0_23_0_0, stored w nk be k (extractStridedSlice S1x128 ![23, 0] x slices_S64x128_o23_0_S1x128) (View.ld S (Rect.unit ![0, 23, 0, 0] ![1, 1, 64, 128] inb_S1x64x64x128_S1x1x64x128_0_23_0_0))⟩,
   ⟨Rect.unit ![0, 22, 0, 0] ![1, 1, 64, 128] inb_S1x64x64x128_S1x1x64x128_0_22_0_0, stored w nk be k (extractStridedSlice S1x128 ![22, 0] x slices_S64x128_o22_0_S1x128) (View.ld S (Rect.unit ![0, 22, 0, 0] ![1, 1, 64, 128] inb_S1x64x64x128_S1x1x64x128_0_22_0_0))⟩,
   ⟨Rect.unit ![0, 21, 0, 0] ![1, 1, 64, 128] inb_S1x64x64x128_S1x1x64x128_0_21_0_0, stored w nk be k (extractStridedSlice S1x128 ![21, 0] x slices_S64x128_o21_0_S1x128) (View.ld S (Rect.unit ![0, 21, 0, 0] ![1, 1, 64, 128] inb_S1x64x64x128_S1x1x64x128_0_21_0_0))⟩,
   ⟨Rect.unit ![0, 20, 0, 0] ![1, 1, 64, 128] inb_S1x64x64x128_S1x1x64x128_0_20_0_0, stored w nk be k (extractStridedSlice S1x128 ![20, 0] x slices_S64x128_o20_0_S1x128) (View.ld S (Rect.unit ![0, 20, 0, 0] ![1, 1, 64, 128] inb_S1x64x64x128_S1x1x64x128_0_20_0_0))⟩,
   ⟨Rect.unit ![0, 19, 0, 0] ![1, 1, 64, 128] inb_S1x64x64x128_S1x1x64x128_0_19_0_0, stored w nk be k (extractStridedSlice S1x128 ![19, 0] x slices_S64x128_o19_0_S1x128) (View.ld S (Rect.unit ![0, 19, 0, 0] ![1, 1, 64, 128] inb_S1x64x64x128_S1x1x64x128_0_19_0_0))⟩,
   ⟨Rect.unit ![0, 18, 0, 0] ![1, 1, 64, 128] inb_S1x64x64x128_S1x1x64x128_0_18_0_0, stored w nk be k (extractStridedSlice S1x128 ![18, 0] x slices_S64x128_o18_0_S1x128) (View.ld S (Rect.unit ![0, 18, 0, 0] ![1, 1, 64, 128] inb_S1x64x64x128_S1x1x64x128_0_18_0_0))⟩,
   ⟨Rect.unit ![0, 17, 0, 0] ![1, 1, 64, 128] inb_S1x64x64x128_S1x1x64x128_0_17_0_0, stored w nk be k (extractStridedSlice S1x128 ![17, 0] x slices_S64x128_o17_0_S1x128) (View.ld S (Rect.unit ![0, 17, 0, 0] ![1, 1, 64, 128] inb_S1x64x64x128_S1x1x64x128_0_17_0_0))⟩,
   ⟨Rect.unit ![0, 16, 0, 0] ![1, 1, 64, 128] inb_S1x64x64x128_S1x1x64x128_0_16_0_0, stored w nk be k (extractStridedSlice S1x128 ![16, 0] x slices_S64x128_o16_0_S1x128) (View.ld S (Rect.unit ![0, 16, 0, 0] ![1, 1, 64, 128] inb_S1x64x64x128_S1x1x64x128_0_16_0_0))⟩,
   ⟨Rect.unit ![0, 15, 0, 0] ![1, 1, 64, 128] inb_S1x64x64x128_S1x1x64x128_0_15_0_0, stored w nk be k (extractStridedSlice S1x128 ![15, 0] x slices_S64x128_o15_0_S1x128) (View.ld S (Rect.unit ![0, 15, 0, 0] ![1, 1, 64, 128] inb_S1x64x64x128_S1x1x64x128_0_15_0_0))⟩,
   ⟨Rect.unit ![0, 14, 0, 0] ![1, 1, 64, 128] inb_S1x64x64x128_S1x1x64x128_0_14_0_0, stored w nk be k (extractStridedSlice S1x128 ![14, 0] x slices_S64x128_o14_0_S1x128) (View.ld S (Rect.unit ![0, 14, 0, 0] ![1, 1, 64, 128] inb_S1x64x64x128_S1x1x64x128_0_14_0_0))⟩,
   ⟨Rect.unit ![0, 13, 0, 0] ![1, 1, 64, 128] inb_S1x64x64x128_S1x1x64x128_0_13_0_0, stored w nk be k (extractStridedSlice S1x128 ![13, 0] x slices_S64x128_o13_0_S1x128) (View.ld S (Rect.unit ![0, 13, 0, 0] ![1, 1, 64, 128] inb_S1x64x64x128_S1x1x64x128_0_13_0_0))⟩,
   ⟨Rect.unit ![0, 12, 0, 0] ![1, 1, 64, 128] inb_S1x64x64x128_S1x1x64x128_0_12_0_0, stored w nk be k (extractStridedSlice S1x128 ![12, 0] x slices_S64x128_o12_0_S1x128) (View.ld S (Rect.unit ![0, 12, 0, 0] ![1, 1, 64, 128] inb_S1x64x64x128_S1x1x64x128_0_12_0_0))⟩,
   ⟨Rect.unit ![0, 11, 0, 0] ![1, 1, 64, 128] inb_S1x64x64x128_S1x1x64x128_0_11_0_0, stored w nk be k (extractStridedSlice S1x128 ![11, 0] x slices_S64x128_o11_0_S1x128) (View.ld S (Rect.unit ![0, 11, 0, 0] ![1, 1, 64, 128] inb_S1x64x64x128_S1x1x64x128_0_11_0_0))⟩,
   ⟨Rect.unit ![0, 10, 0, 0] ![1, 1, 64, 128] inb_S1x64x64x128_S1x1x64x128_0_10_0_0, stored w nk be k (extractStridedSlice S1x128 ![10, 0] x slices_S64x128_o10_0_S1x128) (View.ld S (Rect.unit ![0, 10, 0, 0] ![1, 1, 64, 128] inb_S1x64x64x128_S1x1x64x128_0_10_0_0))⟩,
   ⟨Rect.unit ![0, 9, 0, 0] ![1, 1, 64, 128] inb_S1x64x64x128_S1x1x64x128_0_9_0_0, stored w nk be k (extractStridedSlice S1x128 ![9, 0] x slices_S64x128_o9_0_S1x128) (View.ld S (Rect.unit ![0, 9, 0, 0] ![1, 1, 64, 128] inb_S1x64x64x128_S1x1x64x128_0_9_0_0))⟩,
   ⟨Rect.unit ![0, 8, 0, 0] ![1, 1, 64, 128] inb_S1x64x64x128_S1x1x64x128_0_8_0_0, stored w nk be k (extractStridedSlice S1x128 ![8, 0] x slices_S64x128_o8_0_S1x128) (View.ld S (Rect.unit ![0, 8, 0, 0] ![1, 1, 64, 128] inb_S1x64x64x128_S1x1x64x128_0_8_0_0))⟩,
   ⟨Rect.unit ![0, 7, 0, 0] ![1, 1, 64, 128] inb_S1x64x64x128_S1x1x64x128_0_7_0_0, stored w nk be k (extractStridedSlice S1x128 ![7, 0] x slices_S64x128_o7_0_S1x128) (View.ld S (Rect.unit ![0, 7, 0, 0] ![1, 1, 64, 128] inb_S1x64x64x128_S1x1x64x128_0_7_0_0))⟩,
   ⟨Rect.unit ![0, 6, 0, 0] ![1, 1, 64, 128] inb_S1x64x64x128_S1x1x64x128_0_6_0_0, stored w nk be k (extractStridedSlice S1x128 ![6, 0] x slices_S64x128_o6_0_S1x128) (View.ld S (Rect.unit ![0, 6, 0, 0] ![1, 1, 64, 128] inb_S1x64x64x128_S1x1x64x128_0_6_0_0))⟩,
   ⟨Rect.unit ![0, 5, 0, 0] ![1, 1, 64, 128] inb_S1x64x64x128_S1x1x64x128_0_5_0_0, stored w nk be k (extractStridedSlice S1x128 ![5, 0] x slices_S64x128_o5_0_S1x128) (View.ld S (Rect.unit ![0, 5, 0, 0] ![1, 1, 64, 128] inb_S1x64x64x128_S1x1x64x128_0_5_0_0))⟩,
   ⟨Rect.unit ![0, 4, 0, 0] ![1, 1, 64, 128] inb_S1x64x64x128_S1x1x64x128_0_4_0_0, stored w nk be k (extractStridedSlice S1x128 ![4, 0] x slices_S64x128_o4_0_S1x128) (View.ld S (Rect.unit ![0, 4, 0, 0] ![1, 1, 64, 128] inb_S1x64x64x128_S1x1x64x128_0_4_0_0))⟩,
   ⟨Rect.unit ![0, 3, 0, 0] ![1, 1, 64, 128] inb_S1x64x64x128_S1x1x64x128_0_3_0_0, stored w nk be k (extractStridedSlice S1x128 ![3, 0] x slices_S64x128_o3_0_S1x128) (View.ld S (Rect.unit ![0, 3, 0, 0] ![1, 1, 64, 128] inb_S1x64x64x128_S1x1x64x128_0_3_0_0))⟩,
   ⟨Rect.unit ![0, 2, 0, 0] ![1, 1, 64, 128] inb_S1x64x64x128_S1x1x64x128_0_2_0_0, stored w nk be k (extractStridedSlice S1x128 ![2, 0] x slices_S64x128_o2_0_S1x128) (View.ld S (Rect.unit ![0, 2, 0, 0] ![1, 1, 64, 128] inb_S1x64x64x128_S1x1x64x128_0_2_0_0))⟩,
   ⟨Rect.unit ![0, 1, 0, 0] ![1, 1, 64, 128] inb_S1x64x64x128_S1x1x64x128_0_1_0_0, stored w nk be k (extractStridedSlice S1x128 ![1, 0] x slices_S64x128_o1_0_S1x128) (View.ld S (Rect.unit ![0, 1, 0, 0] ![1, 1, 64, 128] inb_S1x64x64x128_S1x1x64x128_0_1_0_0))⟩,
   ⟨Rect.unit ![0, 0, 0, 0] ![1, 1, 64, 128] inb_S1x64x64x128_S1x1x64x128_0_0_0_0, stored w nk be k (extractStridedSlice S1x128 ![0, 0] x slices_S64x128_o0_0_S1x128) (View.ld S (Rect.unit ![0, 0, 0, 0] ![1, 1, 64, 128] inb_S1x64x64x128_S1x1x64x128_0_0_0_0))⟩]

set_option maxHeartbeats 4000000 in
/-- What a middle head stores into the state, from the carried scratch. -/
theorem tiles_B (c : Dev nD) (i : grid0.Coords) (arg1 : Memref sig .tc .vmem S128x4224 .f32) (harg1 : arg1.IsWhole) (arg2 : Memref sig .tc .vmem S128x4224 .f32) (harg2 : arg2.IsWhole) (arg3 : Memref sig .tc .vmem S1x64x64x128 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S128x1024 .f32) (harg14 : arg14.IsWhole) (arg15 : Memref sig .tc .vmem S1x64x64x128 .f32) (harg15 : arg15.IsWhole) (arg16 : Memref sig .tc .vmem S6x1024x128 .f32) (harg16 : arg16.IsWhole) (arg17 : Memref sig .tc .vmem S4x128x1024 .f32) (harg17 : arg17.IsWhole) (arg18 : Memref sig .tc .vmem S1024x128 .f32) (harg18 : arg18.IsWhole) (hc0 : ¬cond0_0 i) (hc1 : ¬cond0_1 i) (x0 : Vec Ideal S128x4224 .f32) (x1 : Vec Ideal S128x4224 .f32) (x2 : Vec Ideal S1x64x64x128 .f32) (x3 : Vec Ideal S1x4224 .f32) (x4 : Vec Ideal S1x1024 .f32) (x5 : Vec Ideal S128x1024 .bf16) (x6 : Vec Ideal S1x1024 .f32) (x7 : Vec Ideal S128x1024 .bf16) (x8 : Vec Ideal S1x1024 .f32) (x9 : Vec Ideal S1x1024 .f32) (x10 : Vec Ideal S1x1024 .f32) (x11 : Vec Ideal S1x1024 .f32) (x12 : Vec Ideal S1x1024 .f32) (xs0 : Vec Ideal S6x1024x128 .f32) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 = View.canon (tiles (shapeCast S64x128 (View.ld xs0 (Rect.unit (k0_off2 i) S1x64x128.size (k0_off2_inb i))) shapeCasts_S1x64x128_S64x128) (shapeCast S64x128 (View.ld xs0 (Rect.unit (k0_off3 i) S1x64x128.size (k0_off3_inb i))) shapeCasts_S1x64x128_S64x128) (shapeCast S64x128 (View.ld xs0 (Rect.unit (k0_off4 i) S1x64x128.size (k0_off4_inb i))) shapeCasts_S1x64x128_S64x128) (shapeCast S64x128 (View.ld xs0 (Rect.unit (k0_off5 i) S1x64x128.size (k0_off5_inb i))) shapeCasts_S1x64x128_S64x128) (shapeCast S64x128 (View.ld xs0 (Rect.unit (k0_off6 i) S1x64x128.size (k0_off6_inb i))) shapeCasts_S1x64x128_S64x128) x2) := by
  unfold out0_B_14
  frame_out
  rfl

set_option maxHeartbeats 4000000 in
/-- What the last head stores into the state, from the carried scratch. -/
theorem tiles_C (c : Dev nD) (i : grid0.Coords) (arg1 : Memref sig .tc .vmem S128x4224 .f32) (harg1 : arg1.IsWhole) (arg2 : Memref sig .tc .vmem S128x4224 .f32) (harg2 : arg2.IsWhole) (arg3 : Memref sig .tc .vmem S1x64x64x128 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S128x1024 .f32) (harg14 : arg14.IsWhole) (arg15 : Memref sig .tc .vmem S1x64x64x128 .f32) (harg15 : arg15.IsWhole) (arg16 : Memref sig .tc .vmem S6x1024x128 .f32) (harg16 : arg16.IsWhole) (arg17 : Memref sig .tc .vmem S4x128x1024 .f32) (harg17 : arg17.IsWhole) (arg18 : Memref sig .tc .vmem S1024x128 .f32) (harg18 : arg18.IsWhole) (hc0 : ¬cond0_0 i) (hc1 : cond0_1 i) (x0 : Vec Ideal S128x4224 .f32) (x1 : Vec Ideal S128x4224 .f32) (x2 : Vec Ideal S1x64x64x128 .f32) (x3 : Vec Ideal S1x4224 .f32) (x4 : Vec Ideal S1x1024 .f32) (x5 : Vec Ideal S128x1024 .bf16) (x6 : Vec Ideal S1x1024 .f32) (x7 : Vec Ideal S128x1024 .bf16) (x8 : Vec Ideal S1x1024 .f32) (x9 : Vec Ideal S1x1024 .f32) (x10 : Vec Ideal S1x1024 .f32) (x11 : Vec Ideal S1x1024 .f32) (x12 : Vec Ideal S1x1024 .f32) (xs0 : Vec Ideal S6x1024x128 .f32) :
    out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 = View.canon (tiles (shapeCast S64x128 (View.ld xs0 (Rect.unit (k0_off2 i) S1x64x128.size (k0_off2_inb i))) shapeCasts_S1x64x128_S64x128) (shapeCast S64x128 (View.ld xs0 (Rect.unit (k0_off3 i) S1x64x128.size (k0_off3_inb i))) shapeCasts_S1x64x128_S64x128) (shapeCast S64x128 (View.ld xs0 (Rect.unit (k0_off4 i) S1x64x128.size (k0_off4_inb i))) shapeCasts_S1x64x128_S64x128) (shapeCast S64x128 (View.ld xs0 (Rect.unit (k0_off5 i) S1x64x128.size (k0_off5_inb i))) shapeCasts_S1x64x128_S64x128) (shapeCast S64x128 (View.ld xs0 (Rect.unit (k0_off6 i) S1x64x128.size (k0_off6_inb i))) shapeCasts_S1x64x128_S64x128) x2) := by
  unfold out0_C_14
  frame_out
  rfl

set_option maxHeartbeats 4000000 in
/-- What the first head stores into the state, from the scratch it has just written. -/
theorem tiles_A (c : Dev nD) (i : grid0.Coords) (arg1 : Memref sig .tc .vmem S128x4224 .f32) (harg1 : arg1.IsWhole) (arg2 : Memref sig .tc .vmem S128x4224 .f32) (harg2 : arg2.IsWhole) (arg3 : Memref sig .tc .vmem S1x64x64x128 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S128x1024 .f32) (harg14 : arg14.IsWhole) (arg15 : Memref sig .tc .vmem S1x64x64x128 .f32) (harg15 : arg15.IsWhole) (arg16 : Memref sig .tc .vmem S6x1024x128 .f32) (harg16 : arg16.IsWhole) (arg17 : Memref sig .tc .vmem S4x128x1024 .f32) (harg17 : arg17.IsWhole) (arg18 : Memref sig .tc .vmem S1024x128 .f32) (harg18 : arg18.IsWhole) (hc0 : cond0_0 i) (hc1 : ¬cond0_1 i) (x0 : Vec Ideal S128x4224 .f32) (x1 : Vec Ideal S128x4224 .f32) (x2 : Vec Ideal S1x64x64x128 .f32) (x3 : Vec Ideal S1x4224 .f32) (x4 : Vec Ideal S1x1024 .f32) (x5 : Vec Ideal S128x1024 .bf16) (x6 : Vec Ideal S1x1024 .f32) (x7 : Vec Ideal S128x1024 .bf16) (x8 : Vec Ideal S1x1024 .f32) (x9 : Vec Ideal S1x1024 .f32) (x10 : Vec Ideal S1x1024 .f32) (x11 : Vec Ideal S1x1024 .f32) (x12 : Vec Ideal S1x1024 .f32) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 = View.canon (tiles (shapeCast S64x128 (View.ld (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12) (Rect.unit (k0_off2 i) S1x64x128.size (k0_off2_inb i))) shapeCasts_S1x64x128_S64x128) (shapeCast S64x128 (View.ld (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12) (Rect.unit (k0_off3 i) S1x64x128.size (k0_off3_inb i))) shapeCasts_S1x64x128_S64x128) (shapeCast S64x128 (View.ld (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12) (Rect.unit (k0_off4 i) S1x64x128.size (k0_off4_inb i))) shapeCasts_S1x64x128_S64x128) (shapeCast S64x128 (View.ld (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12) (Rect.unit (k0_off5 i) S1x64x128.size (k0_off5_inb i))) shapeCasts_S1x64x128_S64x128) (shapeCast S64x128 (View.ld (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12) (Rect.unit (k0_off6 i) S1x64x128.size (k0_off6_inb i))) shapeCasts_S1x64x128_S64x128) x2) := by
  unfold out0_A_14 sout0_A_0
  frame_out
  rfl

end Cert.Layer.Rwkv
end
-- ==== Proof.Layer.RwkvStepAt.lean ====
module

public import proofs.«01_k».proof.Proof.Layer.RwkvTiles

@[expose] public section

set_option maxRecDepth 16384

noncomputable section

namespace Cert.Layer.Rwkv

open Idealize.ShloMosaic Idealize.ShloMosaic.TcCoe Idealize.SL.Sem
open Cert.RwkvStepIdeal Cert.RwkvStepIdeal.Gen

variable {w nk be k x : FVec Ideal S64x128 .f32}

/-- An entry of a value row after the step. -/
theorem upd_at {x : FVec Ideal S1x128 .f32} {s : Vec Ideal S1x1x64x128 .f32} (l : Fin 64) (b : Fin 128) :
    upd w nk be k x s (ix2 l b) = s (ix4 0 0 l b) * w (ix2 l b) + (∑ y : Fin 64, s (ix4 0 0 y b) * nk (ix2 y b)) * be (ix2 l b) + x (ix2 0 b) * k (ix2 l b) := by
  pointwise [upd]

/-- An entry of a stored value row. -/
theorem stored_at {x : FVec Ideal S1x128 .f32} {s : Vec Ideal S1x1x64x128 .f32} (l : Fin 64) (b : Fin 128) :
    stored w nk be k x s (ix4 0 0 l b) = s (ix4 0 0 l b) * w (ix2 l b) + (∑ y : Fin 64, s (ix4 0 0 y b) * nk (ix2 y b)) * be (ix2 l b) + x (ix2 0 b) * k (ix2 l b) := by
  pointwise [stored]
  exact upd_at l b

/-- An entry of a stored value row, where the row and its value are known. -/
theorem stored_item {S : Vec Ideal S1x64x64x128 .f32} {z : FVec Ideal S1x128 .f32} {s : Vec Ideal S1x1x64x128 .f32} {v : Fin 64} (hz : ∀ b, z (ix2 0 b) = x (ix2 v b))
    (hs : ∀ l b, s (ix4 0 0 l b) = S (ix4 0 v l b)) (l : Fin 64) (b : Fin 128) :
    stored w nk be k z s (ix4 0 0 l b) = S (ix4 0 v l b) * w (ix2 l b) + (∑ y : Fin 64, S (ix4 0 v y b) * nk (ix2 y b)) * be (ix2 l b) + x (ix2 v b) * k (ix2 l b) := by
  rw [stored_at]
  simp only [hz, hs]

set_option maxHeartbeats 4000000 in
/-- An entry of a head's state after the step. -/
theorem tiles_at {S : Vec Ideal S1x64x64x128 .f32} (v l : Fin 64) (b : Fin 128) :
    View.canon (tiles x w nk be k S) (ix4 0 v l b)
      = S (ix4 0 v l b) * w (ix2 l b) + (∑ y : Fin 64, S (ix4 0 v y b) * nk (ix2 y b)) * be (ix2 l b) + x (ix2 v b) * k (ix2 l b) := by
  unfold tiles
  canon_tiles u h
  all_goals
    idx_vars u
    obtain rfl : u2 = l := Fin.ext h2.symm
    obtain rfl : u3 = b := Fin.ext h3.symm
    obtain rfl : u0 = 0 := Subsingleton.elim _ _
    obtain rfl : u1 = 0 := Subsingleton.elim _ _
    refine stored_item (fun b => ?_) (fun l b => ?_) _ _
    all_goals
      pointwise
      blk_ext

end Cert.Layer.Rwkv
end
-- ==== Proof.Layer.RwkvSlabs.lean ====
module

public import proofs.«01_k».proof.Proof.Layer.RwkvFrame
public import Idealize.ShloMosaic.Lib.Pipeline.ValueKit
public import Idealize.ShloMosaic.Lib.Pointwise
public import Idealize.ShloMosaic.Lib.Claim

@[expose] public section

set_option maxRecDepth 16384

noncomputable section

namespace Cert.Layer.Rwkv

open Idealize.ShloMosaic Idealize.ShloMosaic.TcCoe Idealize.SL.Sem
open Idealize.ShloMosaic.Pipeline (Dat)
open Cert.RwkvStepIdeal Cert.RwkvStepIdeal.Gen

/-- A block of 128 columns, transposed and given a leading axis. -/
def slab (x : FVec Ideal S128x128 .f32) : FVec Ideal S1x128x128 .f32 :=
  shapeCast S1x128x128 (transpose S128x128 [1, 0] x transposes_S128x128_p1_0_S128x128) shapeCasts_S128x128_S1x128x128

/-- A block of keys weighted by a row. -/
def key (kb : FVec Ideal S128x128 .f32) (w : Vec Ideal S1x128 .f32) : FVec Ideal S128x128 .f32 :=
  mulf kb (broadcastTo S128x128 (shapeCast S1x128 w shapeCasts_S1x128_S1x128) broadcasts_S1x128_S128x128)

/-- A block divided by the roots of its sums of squares, these kept off zero. -/
def unit (x ss : FVec Ideal S128x128 .f32) : FVec Ideal S128x128 .f32 :=
  divf x (maximumf (sqrt ss) (broadcast S128x128 (Scalar.ofBits .f32 0x2B8CBCCC#32)))

/-- A block of keys scaled towards their rates by a row. -/
def scaled (kb a : FVec Ideal S128x128 .f32) (w : Vec Ideal S1x128 .f32) : FVec Ideal S128x128 .f32 :=
  mulf kb (addf (broadcast S128x128 (Scalar.ofBits .f32 0x3F800000#32))
    (mulf (subf a (broadcast S128x128 (Scalar.ofBits .f32 0x3F800000#32)))
      (broadcastTo S128x128 (shapeCast S1x128 w shapeCasts_S1x128_S1x128) broadcasts_S1x128_S128x128)))

/-- Which lanes of 128 share a head of 64, as zeros and ones. -/
def mask : IVec S128x128 32 :=
  k0_pay61 (iota .tc S128x128 32 [0] iota_S128x128_d0_w32) 64#32 k0_pay59 k0_pay60

/-- The sums of the weighted keys' squares over each head, the eight blocks of columns one below the other. -/
def squares (kb : FVec Ideal S128x1024 .f32) (kw : Vec Ideal S1x1024 .f32) : FVec Ideal S1024x128 .f32 :=
  k0_pay62 (mulf (key (extractStridedSlice S128x128 ![0, 0] kb slices_S128x1024_o0_0_S128x128) (View.ld kw (Rect.unit ![0, 0] ![1, 128] inb_S1x1024_S1x128_0_0))) (key (extractStridedSlice S128x128 ![0, 0] kb slices_S128x1024_o0_0_S128x128) (View.ld kw (Rect.unit ![0, 0] ![1, 128] inb_S1x1024_S1x128_0_0)))) (mulf (key (extractStridedSlice S128x128 ![0, 128] kb slices_S128x1024_o0_128_S128x128) (View.ld kw (Rect.unit ![0, 128] ![1, 128] inb_S1x1024_S1x128_0_128))) (key (extractStridedSlice S128x128 ![0, 128] kb slices_S128x1024_o0_128_S128x128) (View.ld kw (Rect.unit ![0, 128] ![1, 128] inb_S1x1024_S1x128_0_128)))) (mulf (key (extractStridedSlice S128x128 ![0, 256] kb slices_S128x1024_o0_256_S128x128) (View.ld kw (Rect.unit ![0, 256] ![1, 128] inb_S1x1024_S1x128_0_256))) (key (extractStridedSlice S128x128 ![0, 256] kb slices_S128x1024_o0_256_S128x128) (View.ld kw (Rect.unit ![0, 256] ![1, 128] inb_S1x1024_S1x128_0_256)))) (mulf (key (extractStridedSlice S128x128 ![0, 384] kb slices_S128x1024_o0_384_S128x128) (View.ld kw (Rect.unit ![0, 384] ![1, 128] inb_S1x1024_S1x128_0_384))) (key (extractStridedSlice S128x128 ![0, 384] kb slices_S128x1024_o0_384_S128x128) (View.ld kw (Rect.unit ![0, 384] ![1, 128] inb_S1x1024_S1x128_0_384)))) (mulf (key (extractStridedSlice S128x128 ![0, 512] kb slices_S128x1024_o0_512_S128x128) (View.ld kw (Rect.unit ![0, 512] ![1, 128] inb_S1x1024_S1x128_0_512))) (key (extractStridedSlice S128x128 ![0, 512] kb slices_S128x1024_o0_512_S128x128) (View.ld kw (Rect.unit ![0, 512] ![1, 128] inb_S1x1024_S1x128_0_512)))) (mulf (key (extractStridedSlice S128x128 ![0, 640] kb slices_S128x1024_o0_640_S128x128) (View.ld kw (Rect.unit ![0, 640] ![1, 128] inb_S1x1024_S1x128_0_640))) (key (extractStridedSlice S128x128 ![0, 640] kb slices_S128x1024_o0_640_S128x128) (View.ld kw (Rect.unit ![0, 640] ![1, 128] inb_S1x1024_S1x128_0_640)))) (mulf (key (extractStridedSlice S128x128 ![0, 768] kb slices_S128x1024_o0_768_S128x128) (View.ld kw (Rect.unit ![0, 768] ![1, 128] inb_S1x1024_S1x128_0_768))) (key (extractStridedSlice S128x128 ![0, 768] kb slices_S128x1024_o0_768_S128x128) (View.ld kw (Rect.unit ![0, 768] ![1, 128] inb_S1x1024_S1x128_0_768)))) (mulf (key (extractStridedSlice S128x128 ![0, 896] kb slices_S128x1024_o0_896_S128x128) (View.ld kw (Rect.unit ![0, 896] ![1, 128] inb_S1x1024_S1x128_0_896))) (key (extractStridedSlice S128x128 ![0, 896] kb slices_S128x1024_o0_896_S128x128) (View.ld kw (Rect.unit ![0, 896] ![1, 128] inb_S1x1024_S1x128_0_896)))) mask

/-- The forty-eight blocks of the carried scratch: receptances, values, decays, negated keys, rated keys and scaled keys, each by columns of 128. -/
def slabs (r kb v lw a : FVec Ideal S128x1024 .f32) (kw ka : Vec Ideal S1x1024 .f32) : List (View.Piece (Elt Ideal) S6x1024x128 .f32) :=
  [⟨Rect.unit ![5, 896, 0] ![1, 128, 128] inb_S6x1024x128_S1x128x128_5_896_0, slab (scaled (extractStridedSlice S128x128 ![0, 896] kb slices_S128x1024_o0_896_S128x128) (extractStridedSlice S128x128 ![0, 896] a slices_S128x1024_o0_896_S128x128) (View.ld ka (Rect.unit ![0, 896] ![1, 128] inb_S1x1024_S1x128_0_896)))⟩,
   ⟨Rect.unit ![4, 896, 0] ![1, 128, 128] inb_S6x1024x128_S1x128x128_4_896_0, slab (mulf (unit (key (extractStridedSlice S128x128 ![0, 896] kb slices_S128x1024_o0_896_S128x128) (View.ld kw (Rect.unit ![0, 896] ![1, 128] inb_S1x1024_S1x128_0_896))) (extractStridedSlice S128x128 ![896, 0] (squares kb kw) slices_S1024x128_o896_0_S128x128)) (extractStridedSlice S128x128 ![0, 896] a slices_S128x1024_o0_896_S128x128))⟩,
   ⟨Rect.unit ![3, 896, 0] ![1, 128, 128] inb_S6x1024x128_S1x128x128_3_896_0, slab (subf (broadcast S128x128 (Scalar.ofBits .f32 0x00000000#32)) (unit (key (extractStridedSlice S128x128 ![0, 896] kb slices_S128x1024_o0_896_S128x128) (View.ld kw (Rect.unit ![0, 896] ![1, 128] inb_S1x1024_S1x128_0_896))) (extractStridedSlice S128x128 ![896, 0] (squares kb kw) slices_S1024x128_o896_0_S128x128)))⟩,
   ⟨Rect.unit ![2, 896, 0] ![1, 128, 128] inb_S6x1024x128_S1x128x128_2_896_0, slab (exp (extractStridedSlice S128x128 ![0, 896] lw slices_S128x1024_o0_896_S128x128))⟩,
   ⟨Rect.unit ![1, 896, 0] ![1, 128, 128] inb_S6x1024x128_S1x128x128_1_896_0, slab (extractStridedSlice S128x128 ![0, 896] v slices_S128x1024_o0_896_S128x128)⟩,
   ⟨Rect.unit ![0, 896, 0] ![1, 128, 128] inb_S6x1024x128_S1x128x128_0_896_0, slab (extractStridedSlice S128x128 ![0, 896] r slices_S128x1024_o0_896_S128x128)⟩,
   ⟨Rect.unit ![5, 768, 0] ![1, 128, 128] inb_S6x1024x128_S1x128x128_5_768_0, slab (scaled (extractStridedSlice S128x128 ![0, 768] kb slices_S128x1024_o0_768_S128x128) (extractStridedSlice S128x128 ![0, 768] a slices_S128x1024_o0_768_S128x128) (View.ld ka (Rect.unit ![0, 768] ![1, 128] inb_S1x1024_S1x128_0_768)))⟩,
   ⟨Rect.unit ![4, 768, 0] ![1, 128, 128] inb_S6x1024x128_S1x128x128_4_768_0, slab (mulf (unit (key (extractStridedSlice S128x128 ![0, 768] kb slices_S128x1024_o0_768_S128x128) (View.ld kw (Rect.unit ![0, 768] ![1, 128] inb_S1x1024_S1x128_0_768))) (extractStridedSlice S128x128 ![768, 0] (squares kb kw) slices_S1024x128_o768_0_S128x128)) (extractStridedSlice S128x128 ![0, 768] a slices_S128x1024_o0_768_S128x128))⟩,
   ⟨Rect.unit ![3, 768, 0] ![1, 128, 128] inb_S6x1024x128_S1x128x128_3_768_0, slab (subf (broadcast S128x128 (Scalar.ofBits .f32 0x00000000#32)) (unit (key (extractStridedSlice S128x128 ![0, 768] kb slices_S128x1024_o0_768_S128x128) (View.ld kw (Rect.unit ![0, 768] ![1, 128] inb_S1x1024_S1x128_0_768))) (extractStridedSlice S128x128 ![768, 0] (squares kb kw) slices_S1024x128_o768_0_S128x128)))⟩,
   ⟨Rect.unit ![2, 768, 0] ![1, 128, 128] inb_S6x1024x128_S1x128x128_2_768_0, slab (exp (extractStridedSlice S128x128 ![0, 768] lw slices_S128x1024_o0_768_S128x128))⟩,
   ⟨Rect.unit ![1, 768, 0] ![1, 128, 128] inb_S6x1024x128_S1x128x128_1_768_0, slab (extractStridedSlice S128x128 ![0, 768] v slices_S128x1024_o0_768_S128x128)⟩,
   ⟨Rect.unit ![0, 768, 0] ![1, 128, 128] inb_S6x1024x128_S1x128x128_0_768_0, slab (extractStridedSlice S128x128 ![0, 768] r slices_S128x1024_o0_768_S128x128)⟩,
   ⟨Rect.unit ![5, 640, 0] ![1, 128, 128] inb_S6x1024x128_S1x128x128_5_640_0, slab (scaled (extractStridedSlice S128x128 ![0, 640] kb slices_S128x1024_o0_640_S128x128) (extractStridedSlice S128x128 ![0, 640] a slices_S128x1024_o0_640_S128x128) (View.ld ka (Rect.unit ![0, 640] ![1, 128] inb_S1x1024_S1x128_0_640)))⟩,
   ⟨Rect.unit ![4, 640, 0] ![1, 128, 128] inb_S6x1024x128_S1x128x128_4_640_0, slab (mulf (unit (key (extractStridedSlice S128x128 ![0, 640] kb slices_S128x1024_o0_640_S128x128) (View.ld kw (Rect.unit ![0, 640] ![1, 128] inb_S1x1024_S1x128_0_640))) (extractStridedSlice S128x128 ![640, 0] (squares kb kw) slices_S1024x128_o640_0_S128x128)) (extractStridedSlice S128x128 ![0, 640] a slices_S128x1024_o0_640_S128x128))⟩,
   ⟨Rect.unit ![3, 640, 0] ![1, 128, 128] inb_S6x1024x128_S1x128x128_3_640_0, slab (subf (broadcast S128x128 (Scalar.ofBits .f32 0x00000000#32)) (unit (key (extractStridedSlice S128x128 ![0, 640] kb slices_S128x1024_o0_640_S128x128) (View.ld kw (Rect.unit ![0, 640] ![1, 128] inb_S1x1024_S1x128_0_640))) (extractStridedSlice S128x128 ![640, 0] (squares kb kw) slices_S1024x128_o640_0_S128x128)))⟩,
   ⟨Rect.unit ![2, 640, 0] ![1, 128, 128] inb_S6x1024x128_S1x128x128_2_640_0, slab (exp (extractStridedSlice S128x128 ![0, 640] lw slices_S128x1024_o0_640_S128x128))⟩,
   ⟨Rect.unit ![1, 640, 0] ![1, 128, 128] inb_S6x1024x128_S1x128x128_1_640_0, slab (extractStridedSlice S128x128 ![0, 640] v slices_S128x1024_o0_640_S128x128)⟩,
   ⟨Rect.unit ![0, 640, 0] ![1, 128, 128] inb_S6x1024x128_S1x128x128_0_640_0, slab (extractStridedSlice S128x128 ![0, 640] r slices_S128x1024_o0_640_S128x128)⟩,
   ⟨Rect.unit ![5, 512, 0] ![1, 128, 128] inb_S6x1024x128_S1x128x128_5_512_0, slab (scaled (extractStridedSlice S128x128 ![0, 512] kb slices_S128x1024_o0_512_S128x128) (extractStridedSlice S128x128 ![0, 512] a slices_S128x1024_o0_512_S128x128) (View.ld ka (Rect.unit ![0, 512] ![1, 128] inb_S1x1024_S1x128_0_512)))⟩,
   ⟨Rect.unit ![4, 512, 0] ![1, 128, 128] inb_S6x1024x128_S1x128x128_4_512_0, slab (mulf (unit (key (extractStridedSlice S128x128 ![0, 512] kb slices_S128x1024_o0_512_S128x128) (View.ld kw (Rect.unit ![0, 512] ![1, 128] inb_S1x1024_S1x128_0_512))) (extractStridedSlice S128x128 ![512, 0] (squares kb kw) slices_S1024x128_o512_0_S128x128)) (extractStridedSlice S128x128 ![0, 512] a slices_S128x1024_o0_512_S128x128))⟩,
   ⟨Rect.unit ![3, 512, 0] ![1, 128, 128] inb_S6x1024x128_S1x128x128_3_512_0, slab (subf (broadcast S128x128 (Scalar.ofBits .f32 0x00000000#32)) (unit (key (extractStridedSlice S128x128 ![0, 512] kb slices_S128x1024_o0_512_S128x128) (View.ld kw (Rect.unit ![0, 512] ![1, 128] inb_S1x1024_S1x128_0_512))) (extractStridedSlice S128x128 ![512, 0] (squares kb kw) slices_S1024x128_o512_0_S128x128)))⟩,
   ⟨Rect.unit ![2, 512, 0] ![1, 128, 128] inb_S6x1024x128_S1x128x128_2_512_0, slab (exp (extractStridedSlice S128x128 ![0, 512] lw slices_S128x1024_o0_512_S128x128))⟩,
   ⟨Rect.unit ![1, 512, 0] ![1, 128, 128] inb_S6x1024x128_S1x128x128_1_512_0, slab (extractStridedSlice S128x128 ![0, 512] v slices_S128x1024_o0_512_S128x128)⟩,
   ⟨Rect.unit ![0, 512, 0] ![1, 128, 128] inb_S6x1024x128_S1x128x128_0_512_0, slab (extractStridedSlice S128x128 ![0, 512] r slices_S128x1024_o0_512_S128x128)⟩,
   ⟨Rect.unit ![5, 384, 0] ![1, 128, 128] inb_S6x1024x128_S1x128x128_5_384_0, slab (scaled (extractStridedSlice S128x128 ![0, 384] kb slices_S128x1024_o0_384_S128x128) (extractStridedSlice S128x128 ![0, 384] a slices_S128x1024_o0_384_S128x128) (View.ld ka (Rect.unit ![0, 384] ![1, 128] inb_S1x1024_S1x128_0_384)))⟩,
   ⟨Rect.unit ![4, 384, 0] ![1, 128, 128] inb_S6x1024x128_S1x128x128_4_384_0, slab (mulf (unit (key (extractStridedSlice S128x128 ![0, 384] kb slices_S128x1024_o0_384_S128x128) (View.ld kw (Rect.unit ![0, 384] ![1, 128] inb_S1x1024_S1x128_0_384))) (extractStridedSlice S128x128 ![384, 0] (squares kb kw) slices_S1024x128_o384_0_S128x128)) (extractStridedSlice S128x128 ![0, 384] a slices_S128x1024_o0_384_S128x128))⟩,
   ⟨Rect.unit ![3, 384, 0] ![1, 128, 128] inb_S6x1024x128_S1x128x128_3_384_0, slab (subf (broadcast S128x128 (Scalar.ofBits .f32 0x00000000#32)) (unit (key (extractStridedSlice S128x128 ![0, 384] kb slices_S128x1024_o0_384_S128x128) (View.ld kw (Rect.unit ![0, 384] ![1, 128] inb_S1x1024_S1x128_0_384))) (extractStridedSlice S128x128 ![384, 0] (squares kb kw) slices_S1024x128_o384_0_S128x128)))⟩,
   ⟨Rect.unit ![2, 384, 0] ![1, 128, 128] inb_S6x1024x128_S1x128x128_2_384_0, slab (exp (extractStridedSlice S128x128 ![0, 384] lw slices_S128x1024_o0_384_S128x128))⟩,
   ⟨Rect.unit ![1, 384, 0] ![1, 128, 128] inb_S6x1024x128_S1x128x128_1_384_0, slab (extractStridedSlice S128x128 ![0, 384] v slices_S128x1024_o0_384_S128x128)⟩,
   ⟨Rect.unit ![0, 384, 0] ![1, 128, 128] inb_S6x1024x128_S1x128x128_0_384_0, slab (extractStridedSlice S128x128 ![0, 384] r slices_S128x1024_o0_384_S128x128)⟩,
   ⟨Rect.unit ![5, 256, 0] ![1, 128, 128] inb_S6x1024x128_S1x128x128_5_256_0, slab (scaled (extractStridedSlice S128x128 ![0, 256] kb slices_S128x1024_o0_256_S128x128) (extractStridedSlice S128x128 ![0, 256] a slices_S128x1024_o0_256_S128x128) (View.ld ka (Rect.unit ![0, 256] ![1, 128] inb_S1x1024_S1x128_0_256)))⟩,
   ⟨Rect.unit ![4, 256, 0] ![1, 128, 128] inb_S6x1024x128_S1x128x128_4_256_0, slab (mulf (unit (key (extractStridedSlice S128x128 ![0, 256] kb slices_S128x1024_o0_256_S128x128) (View.ld kw (Rect.unit ![0, 256] ![1, 128] inb_S1x1024_S1x128_0_256))) (extractStridedSlice S128x128 ![256, 0] (squares kb kw) slices_S1024x128_o256_0_S128x128)) (extractStridedSlice S128x128 ![0, 256] a slices_S128x1024_o0_256_S128x128))⟩,
   ⟨Rect.unit ![3, 256, 0] ![1, 128, 128] inb_S6x1024x128_S1x128x128_3_256_0, slab (subf (broadcast S128x128 (Scalar.ofBits .f32 0x00000000#32)) (unit (key (extractStridedSlice S128x128 ![0, 256] kb slices_S128x1024_o0_256_S128x128) (View.ld kw (Rect.unit ![0, 256] ![1, 128] inb_S1x1024_S1x128_0_256))) (extractStridedSlice S128x128 ![256, 0] (squares kb kw) slices_S1024x128_o256_0_S128x128)))⟩,
   ⟨Rect.unit ![2, 256, 0] ![1, 128, 128] inb_S6x1024x128_S1x128x128_2_256_0, slab (exp (extractStridedSlice S128x128 ![0, 256] lw slices_S128x1024_o0_256_S128x128))⟩,
   ⟨Rect.unit ![1, 256, 0] ![1, 128, 128] inb_S6x1024x128_S1x128x128_1_256_0, slab (extractStridedSlice S128x128 ![0, 256] v slices_S128x1024_o0_256_S128x128)⟩,
   ⟨Rect.unit ![0, 256, 0] ![1, 128, 128] inb_S6x1024x128_S1x128x128_0_256_0, slab (extractStridedSlice S128x128 ![0, 256] r slices_S128x1024_o0_256_S128x128)⟩,
   ⟨Rect.unit ![5, 128, 0] ![1, 128, 128] inb_S6x1024x128_S1x128x128_5_128_0, slab (scaled (extractStridedSlice S128x128 ![0, 128] kb slices_S128x1024_o0_128_S128x128) (extractStridedSlice S128x128 ![0, 128] a slices_S128x1024_o0_128_S128x128) (View.ld ka (Rect.unit ![0, 128] ![1, 128] inb_S1x1024_S1x128_0_128)))⟩,
   ⟨Rect.unit ![4, 128, 0] ![1, 128, 128] inb_S6x1024x128_S1x128x128_4_128_0, slab (mulf (unit (key (extractStridedSlice S128x128 ![0, 128] kb slices_S128x1024_o0_128_S128x128) (View.ld kw (Rect.unit ![0, 128] ![1, 128] inb_S1x1024_S1x128_0_128))) (extractStridedSlice S128x128 ![128, 0] (squares kb kw) slices_S1024x128_o128_0_S128x128)) (extractStridedSlice S128x128 ![0, 128] a slices_S128x1024_o0_128_S128x128))⟩,
   ⟨Rect.unit ![3, 128, 0] ![1, 128, 128] inb_S6x1024x128_S1x128x128_3_128_0, slab (subf (broadcast S128x128 (Scalar.ofBits .f32 0x00000000#32)) (unit (key (extractStridedSlice S128x128 ![0, 128] kb slices_S128x1024_o0_128_S128x128) (View.ld kw (Rect.unit ![0, 128] ![1, 128] inb_S1x1024_S1x128_0_128))) (extractStridedSlice S128x128 ![128, 0] (squares kb kw) slices_S1024x128_o128_0_S128x128)))⟩,
   ⟨Rect.unit ![2, 128, 0] ![1, 128, 128] inb_S6x1024x128_S1x128x128_2_128_0, slab (exp (extractStridedSlice S128x128 ![0, 128] lw slices_S128x1024_o0_128_S128x128))⟩,
   ⟨Rect.unit ![1, 128, 0] ![1, 128, 128] inb_S6x1024x128_S1x128x128_1_128_0, slab (extractStridedSlice S128x128 ![0, 128] v slices_S128x1024_o0_128_S128x128)⟩,
   ⟨Rect.unit ![0, 128, 0] ![1, 128, 128] inb_S6x1024x128_S1x128x128_0_128_0, slab (extractStridedSlice S128x128 ![0, 128] r slices_S128x1024_o0_128_S128x128)⟩,
   ⟨Rect.unit ![5, 0, 0] ![1, 128, 128] inb_S6x1024x128_S1x128x128_5_0_0, slab (scaled (extractStridedSlice S128x128 ![0, 0] kb slices_S128x1024_o0_0_S128x128) (extractStridedSlice S128x128 ![0, 0] a slices_S128x1024_o0_0_S128x128) (View.ld ka (Rect.unit ![0, 0] ![1, 128] inb_S1x1024_S1x128_0_0)))⟩,
   ⟨Rect.unit ![4, 0, 0] ![1, 128, 128] inb_S6x1024x128_S1x128x128_4_0_0, slab (mulf (unit (key (extractStridedSlice S128x128 ![0, 0] kb slices_S128x1024_o0_0_S128x128) (View.ld kw (Rect.unit ![0, 0] ![1, 128] inb_S1x1024_S1x128_0_0))) (extractStridedSlice S128x128 ![0, 0] (squares kb kw) slices_S1024x128_o0_0_S128x128)) (extractStridedSlice S128x128 ![0, 0] a slices_S128x1024_o0_0_S128x128))⟩,
   ⟨Rect.unit ![3, 0, 0] ![1, 128, 128] inb_S6x1024x128_S1x128x128_3_0_0, slab (subf (broadcast S128x128 (Scalar.ofBits .f32 0x00000000#32)) (unit (key (extractStridedSlice S128x128 ![0, 0] kb slices_S128x1024_o0_0_S128x128) (View.ld kw (Rect.unit ![0, 0] ![1, 128] inb_S1x1024_S1x128_0_0))) (extractStridedSlice S128x128 ![0, 0] (squares kb kw) slices_S1024x128_o0_0_S128x128)))⟩,
   ⟨Rect.unit ![2, 0, 0] ![1, 128, 128] inb_S6x1024x128_S1x128x128_2_0_0, slab (exp (extractStridedSlice S128x128 ![0, 0] lw slices_S128x1024_o0_0_S128x128))⟩,
   ⟨Rect.unit ![1, 0, 0] ![1, 128, 128] inb_S6x1024x128_S1x128x128_1_0_0, slab (extractStridedSlice S128x128 ![0, 0] v slices_S128x1024_o0_0_S128x128)⟩,
   ⟨Rect.unit ![0, 0, 0] ![1, 128, 128] inb_S6x1024x128_S1x128x128_0_0_0, slab (extractStridedSlice S128x128 ![0, 0] r slices_S128x1024_o0_0_S128x128)⟩]

set_option maxHeartbeats 4000000 in
/-- What the first head leaves in the carried scratch. -/
theorem slabs_A (c : Dev nD) (i : grid0.Coords) (arg1 : Memref sig .tc .vmem S128x4224 .f32) (harg1 : arg1.IsWhole) (arg2 : Memref sig .tc .vmem S128x4224 .f32) (harg2 : arg2.IsWhole) (arg3 : Memref sig .tc .vmem S1x64x64x128 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S128x1024 .f32) (harg14 : arg14.IsWhole) (arg15 : Memref sig .tc .vmem S1x64x64x128 .f32) (harg15 : arg15.IsWhole) (arg16 : Memref sig .tc .vmem S6x1024x128 .f32) (harg16 : arg16.IsWhole) (arg17 : Memref sig .tc .vmem S4x128x1024 .f32) (harg17 : arg17.IsWhole) (arg18 : Memref sig .tc .vmem S1024x128 .f32) (harg18 : arg18.IsWhole) (hc0 : cond0_0 i) (hc1 : ¬cond0_1 i) (x0 : Vec Ideal S128x4224 .f32) (x1 : Vec Ideal S128x4224 .f32) (x2 : Vec Ideal S1x64x64x128 .f32) (x3 : Vec Ideal S1x4224 .f32) (x4 : Vec Ideal S1x1024 .f32) (x5 : Vec Ideal S128x1024 .bf16) (x6 : Vec Ideal S1x1024 .f32) (x7 : Vec Ideal S128x1024 .bf16) (x8 : Vec Ideal S1x1024 .f32) (x9 : Vec Ideal S1x1024 .f32) (x10 : Vec Ideal S1x1024 .f32) (x11 : Vec Ideal S1x1024 .f32) (x12 : Vec Ideal S1x1024 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12
      = View.canon (slabs (k0_pay3 x0 x1 x3) (k0_pay4 x0 x1 x3) (k0_pay5 x0 x1 x3) (k0_pay8 x0 x1 x3 x4 x5) (k0_pay10 (k0_pay9 x0 x1 x3 x6 x7)) x8 x9) := by
  unfold sout0_A_0
  frame_out
  rfl

/-- A weighted key. -/
def wkey (kb : FVec Ideal S128x1024 .f32) (kw : Vec Ideal S1x1024 .f32) (b : Fin 128) (n : Fin 1024) : EReal := kb (ix2 b n) * kw (ix2 0 n)

/-- A weighted key over the root of its head's sum of squares, this kept off zero. -/
def ukey (kb : FVec Ideal S128x1024 .f32) (kw : Vec Ideal S1x1024 .f32) (b : Fin 128) (n : Fin 1024) : EReal :=
  Ideal.div (wkey kb kw b n) (max (Ideal.sqrt (∑ x : Fin 64, wkey kb kw b ⟨64 * (n.val / 64) + x.val, by omega⟩ * wkey kb kw b ⟨64 * (n.val / 64) + x.val, by omega⟩)) (Ideal.ofBits .f32 0x2B8CBCCC#32))

/-- A key scaled towards its rate. -/
def skey (kb a : FVec Ideal S128x1024 .f32) (ka : Vec Ideal S1x1024 .f32) (b : Fin 128) (n : Fin 1024) : EReal :=
  kb (ix2 b n) * (Ideal.ofBits .f32 0x3F800000#32 + (a (ix2 b n) - Ideal.ofBits .f32 0x3F800000#32) * ka (ix2 0 n))

end Cert.Layer.Rwkv
end
-- ==== Proof.Layer.RwkvMaskAt.lean ====
module

public import proofs.«01_k».proof.Proof.Layer.RwkvSlabs

@[expose] public section

set_option maxRecDepth 16384

noncomputable section

namespace Cert.Layer.Rwkv

open Idealize.ShloMosaic Idealize.ShloMosaic.TcCoe Idealize.SL.Sem
open Cert.RwkvStepIdeal Cert.RwkvStepIdeal.Gen

/-- The mask is one where two lanes share a head and zero elsewhere. -/
theorem mask_at (l r : Fin 128) : mask (ix2 l r) = if l.val / 64 = r.val / 64 then 1#32 else 0#32 := by
  pointwise [mask, k0_pay61, k0_pay59, k0_pay60]
  revert l r
  decide +kernel

/-- A sum over lanes against the mask is the sum over one head's lanes. -/
theorem sum_mask (f : Fin 128 → EReal) (r : Fin 128) :
    ∑ x, f x * (if x.val / 64 = r.val / 64 then (1 : EReal) else 0) = ∑ x : Fin 64, f ⟨64 * (r.val / 64) + x.val, by omega⟩ := by
  rw [Fin.sum_univ_add (a := 64) (b := 64)]
  have h : r.val / 64 = 0 ∨ r.val / 64 = 1 := by omega
  have h1 : ∀ x : Fin 64, x.val / 64 = 0 := fun x => by omega
  have h2 : ∀ x : Fin 64, (64 + x.val) / 64 = 1 := fun x => by omega
  rcases h with h | h
  · simp [h, h1, h2]
    rfl
  · simp [h, h1, h2]
    rfl

/-- The mask as extended reals. -/
theorem mask_word (l r : Fin 128) : (FloatOps.sitofp (F := Ideal) .f32 (mask (ix2 l r)) : EReal) = if l.val / 64 = r.val / 64 then (1 : EReal) else 0 := by
  rw [mask_at]
  split <;> simp [FloatOps.sitofp]

variable {a0 a1 a2 a3 a4 a5 a6 a7 : FVec Ideal S128x128 .f32}

/-- The sums one below the other, at block 0. -/
theorem sums_0 (b r : Fin 128) : k0_pay62 a0 a1 a2 a3 a4 a5 a6 a7 mask (ix2 ⟨b.val, by omega⟩ r) = ∑ x : Fin 64, a0 (ix2 b ⟨64 * (r.val / 64) + x.val, by omega⟩) := by
  refine Eq.trans ?_ (sum_mask (fun x => a0 (ix2 b x)) r)
  pointwise [k0_pay62]
  simp only [mask_word]

/-- The sums one below the other, at block 1. -/
theorem sums_1 (b r : Fin 128) : k0_pay62 a0 a1 a2 a3 a4 a5 a6 a7 mask (ix2 ⟨128 + b.val, by omega⟩ r) = ∑ x : Fin 64, a1 (ix2 b ⟨64 * (r.val / 64) + x.val, by omega⟩) := by
  refine Eq.trans ?_ (sum_mask (fun x => a1 (ix2 b x)) r)
  pointwise [k0_pay62]
  simp only [mask_word]

/-- The sums one below the other, at block 2. -/
theorem sums_2 (b r : Fin 128) : k0_pay62 a0 a1 a2 a3 a4 a5 a6 a7 mask (ix2 ⟨256 + b.val, by omega⟩ r) = ∑ x : Fin 64, a2 (ix2 b ⟨64 * (r.val / 64) + x.val, by omega⟩) := by
  refine Eq.trans ?_ (sum_mask (fun x => a2 (ix2 b x)) r)
  pointwise [k0_pay62]
  simp only [mask_word]
  refine Finset.sum_congr rfl fun x _ => ?_
  congr 1
  rw [dif_neg (by omega), dif_neg (by omega), dif_pos (by omega)]
  exact congrArg (fun z => a2 (ix2 z x)) (Fin.ext (by simp only; omega))

/-- The sums one below the other, at block 3. -/
theorem sums_3 (b r : Fin 128) : k0_pay62 a0 a1 a2 a3 a4 a5 a6 a7 mask (ix2 ⟨384 + b.val, by omega⟩ r) = ∑ x : Fin 64, a3 (ix2 b ⟨64 * (r.val / 64) + x.val, by omega⟩) := by
  refine Eq.trans ?_ (sum_mask (fun x => a3 (ix2 b x)) r)
  pointwise [k0_pay62]
  simp only [mask_word]
  refine Finset.sum_congr rfl fun x _ => ?_
  congr 1
  rw [dif_neg (by omega), dif_neg (by omega), dif_neg (by omega), dif_pos (by omega)]
  exact congrArg (fun z => a3 (ix2 z x)) (Fin.ext (by simp only; omega))

/-- The sums one below the other, at block 4. -/
theorem sums_4 (b r : Fin 128) : k0_pay62 a0 a1 a2 a3 a4 a5 a6 a7 mask (ix2 ⟨512 + b.val, by omega⟩ r) = ∑ x : Fin 64, a4 (ix2 b ⟨64 * (r.val / 64) + x.val, by omega⟩) := by
  refine Eq.trans ?_ (sum_mask (fun x => a4 (ix2 b x)) r)
  pointwise [k0_pay62]
  simp only [mask_word]
  refine Finset.sum_congr rfl fun x _ => ?_
  congr 1
  rw [dif_neg (by omega), dif_neg (by omega), dif_neg (by omega), dif_neg (by omega), dif_pos (by omega)]
  exact congrArg (fun z => a4 (ix2 z x)) (Fin.ext (by simp only; omega))

/-- The sums one below the other, at block 5. -/
theorem sums_5 (b r : Fin 128) : k0_pay62 a0 a1 a2 a3 a4 a5 a6 a7 mask (ix2 ⟨640 + b.val, by omega⟩ r) = ∑ x : Fin 64, a5 (ix2 b ⟨64 * (r.val / 64) + x.val, by omega⟩) := by
  refine Eq.trans ?_ (sum_mask (fun x => a5 (ix2 b x)) r)
  pointwise [k0_pay62]
  simp only [mask_word]
  refine Finset.sum_congr rfl fun x _ => ?_
  congr 1
  rw [dif_neg (by omega), dif_neg (by omega), dif_neg (by omega), dif_neg (by omega), dif_neg (by omega), dif_pos (by omega)]
  exact congrArg (fun z => a5 (ix2 z x)) (Fin.ext (by simp only; omega))

/-- The sums one below the other, at block 6. -/
theorem sums_6 (b r : Fin 128) : k0_pay62 a0 a1 a2 a3 a4 a5 a6 a7 mask (ix2 ⟨768 + b.val, by omega⟩ r) = ∑ x : Fin 64, a6 (ix2 b ⟨64 * (r.val / 64) + x.val, by omega⟩) := by
  refine Eq.trans ?_ (sum_mask (fun x => a6 (ix2 b x)) r)
  pointwise [k0_pay62]
  simp only [mask_word]
  refine Finset.sum_congr rfl fun x _ => ?_
  congr 1
  rw [dif_neg (by omega), dif_neg (by omega), dif_neg (by omega), dif_neg (by omega), dif_neg (by omega), dif_neg (by omega), dif_pos (by omega)]
  exact congrArg (fun z => a6 (ix2 z x)) (Fin.ext (by simp only; omega))

/-- The sums one below the other, at block 7. -/
theorem sums_7 (b r : Fin 128) : k0_pay62 a0 a1 a2 a3 a4 a5 a6 a7 mask (ix2 ⟨896 + b.val, by omega⟩ r) = ∑ x : Fin 64, a7 (ix2 b ⟨64 * (r.val / 64) + x.val, by omega⟩) := by
  refine Eq.trans ?_ (sum_mask (fun x => a7 (ix2 b x)) r)
  pointwise [k0_pay62]
  simp only [mask_word]
  refine Finset.sum_congr rfl fun x _ => ?_
  congr 1
  rw [dif_neg (by omega), dif_neg (by omega), dif_neg (by omega), dif_neg (by omega), dif_neg (by omega), dif_neg (by omega), dif_neg (by omega)]
  exact congrArg (fun z => a7 (ix2 z x)) (Fin.ext (by simp only; omega))

variable {r kb v lw a : FVec Ideal S128x1024 .f32} {kw ka : Vec Ideal S1x1024 .f32}

/-- An entry of a stored block. -/
theorem slab_at (x : FVec Ideal S128x128 .f32) (l b : Fin 128) : slab x (ix3 0 l b) = x (ix2 b l) := by
  pointwise [slab]

/-- The weighted keys of block 0. -/
theorem key_0 (b l : Fin 128) : key (extractStridedSlice S128x128 ![0, 0] kb slices_S128x1024_o0_0_S128x128) (View.ld kw (Rect.unit ![0, 0] ![1, 128] inb_S1x1024_S1x128_0_0)) (ix2 b l) = wkey kb kw b ⟨l.val, by omega⟩ := by
  pointwise [key, wkey] <;> blk_ext

/-- The normalised keys of block 0. -/
theorem unit_0 (b l : Fin 128) : unit (key (extractStridedSlice S128x128 ![0, 0] kb slices_S128x1024_o0_0_S128x128) (View.ld kw (Rect.unit ![0, 0] ![1, 128] inb_S1x1024_S1x128_0_0))) (extractStridedSlice S128x128 ![0, 0] (squares kb kw) slices_S1024x128_o0_0_S128x128) (ix2 b l)
    = ukey kb kw b ⟨l.val, by omega⟩ := by
  pointwise [unit, ukey, squares]
  rw [sums_0]
  pointwise
  simp only [key_0]

/-- The scaled keys of block 0. -/
theorem scaled_0 (b l : Fin 128) : scaled (extractStridedSlice S128x128 ![0, 0] kb slices_S128x1024_o0_0_S128x128) (extractStridedSlice S128x128 ![0, 0] a slices_S128x1024_o0_0_S128x128) (View.ld ka (Rect.unit ![0, 0] ![1, 128] inb_S1x1024_S1x128_0_0)) (ix2 b l) = skey kb a ka b ⟨l.val, by omega⟩ := by
  pointwise [scaled, skey] <;> blk_ext

/-- The weighted keys of block 1. -/
theorem key_1 (b l : Fin 128) : key (extractStridedSlice S128x128 ![0, 128] kb slices_S128x1024_o0_128_S128x128) (View.ld kw (Rect.unit ![0, 128] ![1, 128] inb_S1x1024_S1x128_0_128)) (ix2 b l) = wkey kb kw b ⟨128 + l.val, by omega⟩ := by
  pointwise [key, wkey] <;> blk_ext

/-- The normalised keys of block 1. -/
theorem unit_1 (b l : Fin 128) : unit (key (extractStridedSlice S128x128 ![0, 128] kb slices_S128x1024_o0_128_S128x128) (View.ld kw (Rect.unit ![0, 128] ![1, 128] inb_S1x1024_S1x128_0_128))) (extractStridedSlice S128x128 ![128, 0] (squares kb kw) slices_S1024x128_o128_0_S128x128) (ix2 b l)
    = ukey kb kw b ⟨128 + l.val, by omega⟩ := by
  pointwise [unit, ukey, squares]
  rw [sums_1]
  pointwise
  simp only [key_1]
  refine congrArg (fun z => Ideal.div _ (max (Ideal.sqrt z) _)) (Finset.sum_congr rfl fun x _ => ?_)
  congr 2 <;> (apply Fin.ext; simp only; omega)

/-- The scaled keys of block 1. -/
theorem scaled_1 (b l : Fin 128) : scaled (extractStridedSlice S128x128 ![0, 128] kb slices_S128x1024_o0_128_S128x128) (extractStridedSlice S128x128 ![0, 128] a slices_S128x1024_o0_128_S128x128) (View.ld ka (Rect.unit ![0, 128] ![1, 128] inb_S1x1024_S1x128_0_128)) (ix2 b l) = skey kb a ka b ⟨128 + l.val, by omega⟩ := by
  pointwise [scaled, skey] <;> blk_ext

/-- The weighted keys of block 2. -/
theorem key_2 (b l : Fin 128) : key (extractStridedSlice S128x128 ![0, 256] kb slices_S128x1024_o0_256_S128x128) (View.ld kw (Rect.unit ![0, 256] ![1, 128] inb_S1x1024_S1x128_0_256)) (ix2 b l) = wkey kb kw b ⟨256 + l.val, by omega⟩ := by
  pointwise [key, wkey] <;> blk_ext

/-- The normalised keys of block 2. -/
theorem unit_2 (b l : Fin 128) : unit (key (extractStridedSlice S128x128 ![0, 256] kb slices_S128x1024_o0_256_S128x128) (View.ld kw (Rect.unit ![0, 256] ![1, 128] inb_S1x1024_S1x128_0_256))) (extractStridedSlice S128x128 ![256, 0] (squares kb kw) slices_S1024x128_o256_0_S128x128) (ix2 b l)
    = ukey kb kw b ⟨256 + l.val, by omega⟩ := by
  pointwise [unit, ukey, squares]
  rw [sums_2]
  pointwise
  simp only [key_2]
  refine congrArg (fun z => Ideal.div _ (max (Ideal.sqrt z) _)) (Finset.sum_congr rfl fun x _ => ?_)
  congr 2 <;> (apply Fin.ext; simp only; omega)

/-- The scaled keys of block 2. -/
theorem scaled_2 (b l : Fin 128) : scaled (extractStridedSlice S128x128 ![0, 256] kb slices_S128x1024_o0_256_S128x128) (extractStridedSlice S128x128 ![0, 256] a slices_S128x1024_o0_256_S128x128) (View.ld ka (Rect.unit ![0, 256] ![1, 128] inb_S1x1024_S1x128_0_256)) (ix2 b l) = skey kb a ka b ⟨256 + l.val, by omega⟩ := by
  pointwise [scaled, skey] <;> blk_ext

/-- The weighted keys of block 3. -/
theorem key_3 (b l : Fin 128) : key (extractStridedSlice S128x128 ![0, 384] kb slices_S128x1024_o0_384_S128x128) (View.ld kw (Rect.unit ![0, 384] ![1, 128] inb_S1x1024_S1x128_0_384)) (ix2 b l) = wkey kb kw b ⟨384 + l.val, by omega⟩ := by
  pointwise [key, wkey] <;> blk_ext

/-- The normalised keys of block 3. -/
theorem unit_3 (b l : Fin 128) : unit (key (extractStridedSlice S128x128 ![0, 384] kb slices_S128x1024_o0_384_S128x128) (View.ld kw (Rect.unit ![0, 384] ![1, 128] inb_S1x1024_S1x128_0_384))) (extractStridedSlice S128x128 ![384, 0] (squares kb kw) slices_S1024x128_o384_0_S128x128) (ix2 b l)
    = ukey kb kw b ⟨384 + l.val, by omega⟩ := by
  pointwise [unit, ukey, squares]
  rw [sums_3]
  pointwise
  simp only [key_3]
  refine congrArg (fun z => Ideal.div _ (max (Ideal.sqrt z) _)) (Finset.sum_congr rfl fun x _ => ?_)
  congr 2 <;> (apply Fin.ext; simp only; omega)

/-- The scaled keys of block 3. -/
theorem scaled_3 (b l : Fin 128) : scaled (extractStridedSlice S128x128 ![0, 384] kb slices_S128x1024_o0_384_S128x128) (extractStridedSlice S128x128 ![0, 384] a slices_S128x1024_o0_384_S128x128) (View.ld ka (Rect.unit ![0, 384] ![1, 128] inb_S1x1024_S1x128_0_384)) (ix2 b l) = skey kb a ka b ⟨384 + l.val, by omega⟩ := by
  pointwise [scaled, skey] <;> blk_ext

/-- The weighted keys of block 4. -/
theorem key_4 (b l : Fin 128) : key (extractStridedSlice S128x128 ![0, 512] kb slices_S128x1024_o0_512_S128x128) (View.ld kw (Rect.unit ![0, 512] ![1, 128] inb_S1x1024_S1x128_0_512)) (ix2 b l) = wkey kb kw b ⟨512 + l.val, by omega⟩ := by
  pointwise [key, wkey] <;> blk_ext

/-- The normalised keys of block 4. -/
theorem unit_4 (b l : Fin 128) : unit (key (extractStridedSlice S128x128 ![0, 512] kb slices_S128x1024_o0_512_S128x128) (View.ld kw (Rect.unit ![0, 512] ![1, 128] inb_S1x1024_S1x128_0_512))) (extractStridedSlice S128x128 ![512, 0] (squares kb kw) slices_S1024x128_o512_0_S128x128) (ix2 b l)
    = ukey kb kw b ⟨512 + l.val, by omega⟩ := by
  pointwise [unit, ukey, squares]
  rw [sums_4]
  pointwise
  simp only [key_4]
  refine congrArg (fun z => Ideal.div _ (max (Ideal.sqrt z) _)) (Finset.sum_congr rfl fun x _ => ?_)
  congr 2 <;> (apply Fin.ext; simp only; omega)

/-- The scaled keys of block 4. -/
theorem scaled_4 (b l : Fin 128) : scaled (extractStridedSlice S128x128 ![0, 512] kb slices_S128x1024_o0_512_S128x128) (extractStridedSlice S128x128 ![0, 512] a slices_S128x1024_o0_512_S128x128) (View.ld ka (Rect.unit ![0, 512] ![1, 128] inb_S1x1024_S1x128_0_512)) (ix2 b l) = skey kb a ka b ⟨512 + l.val, by omega⟩ := by
  pointwise [scaled, skey] <;> blk_ext

/-- The weighted keys of block 5. -/
theorem key_5 (b l : Fin 128) : key (extractStridedSlice S128x128 ![0, 640] kb slices_S128x1024_o0_640_S128x128) (View.ld kw (Rect.unit ![0, 640] ![1, 128] inb_S1x1024_S1x128_0_640)) (ix2 b l) = wkey kb kw b ⟨640 + l.val, by omega⟩ := by
  pointwise [key, wkey] <;> blk_ext

/-- The normalised keys of block 5. -/
theorem unit_5 (b l : Fin 128) : unit (key (extractStridedSlice S128x128 ![0, 640] kb slices_S128x1024_o0_640_S128x128) (View.ld kw (Rect.unit ![0, 640] ![1, 128] inb_S1x1024_S1x128_0_640))) (extractStridedSlice S128x128 ![640, 0] (squares kb kw) slices_S1024x128_o640_0_S128x128) (ix2 b l)
    = ukey kb kw b ⟨640 + l.val, by omega⟩ := by
  pointwise [unit, ukey, squares]
  rw [sums_5]
  pointwise
  simp only [key_5]
  refine congrArg (fun z => Ideal.div _ (max (Ideal.sqrt z) _)) (Finset.sum_congr rfl fun x _ => ?_)
  congr 2 <;> (apply Fin.ext; simp only; omega)

/-- The scaled keys of block 5. -/
theorem scaled_5 (b l : Fin 128) : scaled (extractStridedSlice S128x128 ![0, 640] kb slices_S128x1024_o0_640_S128x128) (extractStridedSlice S128x128 ![0, 640] a slices_S128x1024_o0_640_S128x128) (View.ld ka (Rect.unit ![0, 640] ![1, 128] inb_S1x1024_S1x128_0_640)) (ix2 b l) = skey kb a ka b ⟨640 + l.val, by omega⟩ := by
  pointwise [scaled, skey] <;> blk_ext

/-- The weighted keys of block 6. -/
theorem key_6 (b l : Fin 128) : key (extractStridedSlice S128x128 ![0, 768] kb slices_S128x1024_o0_768_S128x128) (View.ld kw (Rect.unit ![0, 768] ![1, 128] inb_S1x1024_S1x128_0_768)) (ix2 b l) = wkey kb kw b ⟨768 + l.val, by omega⟩ := by
  pointwise [key, wkey] <;> blk_ext

/-- The normalised keys of block 6. -/
theorem unit_6 (b l : Fin 128) : unit (key (extractStridedSlice S128x128 ![0, 768] kb slices_S128x1024_o0_768_S128x128) (View.ld kw (Rect.unit ![0, 768] ![1, 128] inb_S1x1024_S1x128_0_768))) (extractStridedSlice S128x128 ![768, 0] (squares kb kw) slices_S1024x128_o768_0_S128x128) (ix2 b l)
    = ukey kb kw b ⟨768 + l.val, by omega⟩ := by
  pointwise [unit, ukey, squares]
  rw [sums_6]
  pointwise
  simp only [key_6]
  refine congrArg (fun z => Ideal.div _ (max (Ideal.sqrt z) _)) (Finset.sum_congr rfl fun x _ => ?_)
  congr 2 <;> (apply Fin.ext; simp only; omega)

/-- The scaled keys of block 6. -/
theorem scaled_6 (b l : Fin 128) : scaled (extractStridedSlice S128x128 ![0, 768] kb slices_S128x1024_o0_768_S128x128) (extractStridedSlice S128x128 ![0, 768] a slices_S128x1024_o0_768_S128x128) (View.ld ka (Rect.unit ![0, 768] ![1, 128] inb_S1x1024_S1x128_0_768)) (ix2 b l) = skey kb a ka b ⟨768 + l.val, by omega⟩ := by
  pointwise [scaled, skey] <;> blk_ext

/-- The weighted keys of block 7. -/
theorem key_7 (b l : Fin 128) : key (extractStridedSlice S128x128 ![0, 896] kb slices_S128x1024_o0_896_S128x128) (View.ld kw (Rect.unit ![0, 896] ![1, 128] inb_S1x1024_S1x128_0_896)) (ix2 b l) = wkey kb kw b ⟨896 + l.val, by omega⟩ := by
  pointwise [key, wkey] <;> blk_ext

/-- The normalised keys of block 7. -/
theorem unit_7 (b l : Fin 128) : unit (key (extractStridedSlice S128x128 ![0, 896] kb slices_S128x1024_o0_896_S128x128) (View.ld kw (Rect.unit ![0, 896] ![1, 128] inb_S1x1024_S1x128_0_896))) (extractStridedSlice S128x128 ![896, 0] (squares kb kw) slices_S1024x128_o896_0_S128x128) (ix2 b l)
    = ukey kb kw b ⟨896 + l.val, by omega⟩ := by
  pointwise [unit, ukey, squares]
  rw [sums_7]
  pointwise
  simp only [key_7]
  refine congrArg (fun z => Ideal.div _ (max (Ideal.sqrt z) _)) (Finset.sum_congr rfl fun x _ => ?_)
  congr 2 <;> (apply Fin.ext; simp only; omega)

/-- The scaled keys of block 7. -/
theorem scaled_7 (b l : Fin 128) : scaled (extractStridedSlice S128x128 ![0, 896] kb slices_S128x1024_o0_896_S128x128) (extractStridedSlice S128x128 ![0, 896] a slices_S128x1024_o0_896_S128x128) (View.ld ka (Rect.unit ![0, 896] ![1, 128] inb_S1x1024_S1x128_0_896)) (ix2 b l) = skey kb a ka b ⟨896 + l.val, by omega⟩ := by
  pointwise [scaled, skey] <;> blk_ext

end Cert.Layer.Rwkv
end
-- ==== Proof.Layer.RwkvSlabsAt.lean ====
module

public import proofs.«01_k».proof.Proof.Layer.RwkvMaskAt

@[expose] public section

set_option maxRecDepth 16384

noncomputable section

namespace Cert.Layer.Rwkv

open Idealize.ShloMosaic Idealize.ShloMosaic.TcCoe Idealize.SL.Sem
open Cert.RwkvStepIdeal Cert.RwkvStepIdeal.Gen

variable {r kb v lw a : FVec Ideal S128x1024 .f32} {kw ka : Vec Ideal S1x1024 .f32}

set_option maxHeartbeats 4000000 in
/-- The carried values, entry by entry. -/
theorem slabs_1 (q : Fin 6) (hq : q.val = 1) (n : Fin 1024) (b : Fin 128) : View.canon (slabs r kb v lw a kw ka) (ix3 q n b) = v (ix2 b n) := by
  unfold slabs
  canon_tiles u h
  all_goals
    idx_vars u
    first
    | exfalso; omega
    | obtain rfl : u2 = b := Fin.ext h2.symm
      obtain rfl : u0 = 0 := Subsingleton.elim _ _
      refine (slab_at ..).trans ?_
      pointwise
      blk_ext

set_option maxHeartbeats 4000000 in
/-- The carried decays, entry by entry. -/
theorem slabs_2 (q : Fin 6) (hq : q.val = 2) (n : Fin 1024) (b : Fin 128) : View.canon (slabs r kb v lw a kw ka) (ix3 q n b) = Ideal.exp (lw (ix2 b n)) := by
  unfold slabs
  canon_tiles u h
  all_goals
    idx_vars u
    first
    | exfalso; omega
    | obtain rfl : u2 = b := Fin.ext h2.symm
      obtain rfl : u0 = 0 := Subsingleton.elim _ _
      refine (slab_at ..).trans ?_
      pointwise
      obtain ⟨n, hn⟩ := n
      obtain rfl : n = _ := h1
      rfl

set_option maxHeartbeats 4000000 in
/-- The carried negated keys, entry by entry. -/
theorem slabs_3 (q : Fin 6) (hq : q.val = 3) (n : Fin 1024) (b : Fin 128) : View.canon (slabs r kb v lw a kw ka) (ix3 q n b) = -ukey kb kw b n := by
  unfold slabs
  canon_tiles u h
  all_goals
    idx_vars u
    first
    | exfalso; omega
    | obtain rfl : u2 = b := Fin.ext h2.symm
      obtain rfl : u0 = 0 := Subsingleton.elim _ _
      refine (slab_at ..).trans ?_
      pointwise
      first | rw [unit_0] | rw [unit_1] | rw [unit_2] | rw [unit_3] | rw [unit_4] | rw [unit_5] | rw [unit_6] | rw [unit_7]
      rw [zero_sub]
      exact congrArg (fun n => -ukey kb kw u2 n) (Fin.ext (by simp only; omega))

set_option maxHeartbeats 4000000 in
/-- The carried rated keys, entry by entry. -/
theorem slabs_4 (q : Fin 6) (hq : q.val = 4) (n : Fin 1024) (b : Fin 128) : View.canon (slabs r kb v lw a kw ka) (ix3 q n b) = ukey kb kw b n * a (ix2 b n) := by
  unfold slabs
  canon_tiles u h
  all_goals
    idx_vars u
    first
    | exfalso; omega
    | obtain rfl : u2 = b := Fin.ext h2.symm
      obtain rfl : u0 = 0 := Subsingleton.elim _ _
      refine (slab_at ..).trans ?_
      pointwise
      first | rw [unit_0] | rw [unit_1] | rw [unit_2] | rw [unit_3] | rw [unit_4] | rw [unit_5] | rw [unit_6] | rw [unit_7]
      exact congrArg (fun n => ukey kb kw u2 n * a (ix2 u2 n)) (Fin.ext (by simp only; omega))

set_option maxHeartbeats 4000000 in
/-- The carried scaled keys, entry by entry. -/
theorem slabs_5 (q : Fin 6) (hq : q.val = 5) (n : Fin 1024) (b : Fin 128) : View.canon (slabs r kb v lw a kw ka) (ix3 q n b) = skey kb a ka b n := by
  unfold slabs
  canon_tiles u h
  all_goals
    idx_vars u
    first
    | exfalso; omega
    | obtain rfl : u2 = b := Fin.ext h2.symm
      obtain rfl : u0 = 0 := Subsingleton.elim _ _
      refine (slab_at ..).trans ?_
      first | rw [scaled_0] | rw [scaled_1] | rw [scaled_2] | rw [scaled_3] | rw [scaled_4] | rw [scaled_5] | rw [scaled_6] | rw [scaled_7]
      exact congrArg (fun n => skey kb a ka u2 n) (Fin.ext (by simp only; omega))

end Cert.Layer.Rwkv
end
-- ==== Proof.Layer.RwkvRefAt.lean ====
module

public import proofs.«01_k».proof.Proof.Layer.RwkvSlabs
public import proofs.«01_k».proof.Proof.Gen.RwkvRefIdeal.Read

@[expose] public section

set_option maxRecDepth 16384

noncomputable section

namespace Cert.Layer.Rwkv

open Idealize.ShloMosaic Idealize.ShloMosaic.TcCoe Idealize.SL.Sem
open Cert.RwkvStepIdeal Cert.RwkvStepIdeal.Gen
open Cert.RwkvRefIdeal.Read

variable {P : FVec Ideal S128x4224 .f32} {H : FVec Ideal S1x128x4224 .f32} {S : FVec Ideal S1x128x16x64x64 .f32} {M : FVec Ideal S1x4224 .f32}
  {W0 A0 KW KA : FVec Ideal S1x1024 .f32} {W A : FVec Ideal S1x64x1024 .f32}

/-- An entry of the reference's normalised keys. -/
theorem v51_at (b : Fin 128) (h : Fin 16) (l : Fin 64) :
    val_main_v51 (F := Ideal) P H M KW (ix3 b h l) = ukey (val_main_v7 (F := Ideal) P H M) KW b ⟨64 * h.val + l.val, by omega⟩ := by
  pointwise [ukey, wkey, val_main_v51, val_main_v50, val_main_v49, val_main_v48, val_main_cst_5, val_main_v47, val_main_v46, val_main_v45, val_main_cst_4, val_main_v44, val_main_v43, val_main_v42, val_main_v41, val_main_v40, val_main_v39]
  have hh : (64 * h.val + l.val) / 64 = h.val := by omega
  simp only [mul_comm h.val, hh]

/-- An entry of the reference's next states. -/
theorem v84_at (h : Fin 16) (v l : Fin 64) (b : Fin 128) :
    val_main_v84 (F := Ideal) P H S M W0 W A0 A KW KA (ix4 h v l b)
      = S (ix5 0 b h v l) * val_main_v26 (F := Ideal) P H M W0 W (ix2 b ⟨64 * h.val + l.val, by omega⟩)
        + (∑ y : Fin 64, S (ix5 0 b h v y) * -ukey (val_main_v7 (F := Ideal) P H M) KW b ⟨64 * h.val + y.val, by omega⟩)
          * (ukey (val_main_v7 (F := Ideal) P H M) KW b ⟨64 * h.val + l.val, by omega⟩ * val_main_v38 (F := Ideal) P H M A0 A (ix2 b ⟨64 * h.val + l.val, by omega⟩))
        + val_main_v8 (F := Ideal) P H M (ix2 b ⟨64 * h.val + v.val, by omega⟩)
          * skey (val_main_v7 (F := Ideal) P H M) (val_main_v38 (F := Ideal) P H M A0 A) KA b ⟨64 * h.val + l.val, by omega⟩ := by
  pointwise [skey, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_cst_7, val_main_v57, val_main_v56, val_main_v55, val_main_v54, val_main_v53, val_main_v52, val_main_cst_6]
  simp only [v51_at]
  simp only [mul_comm h.val]

/-- A contraction against a weight that is zero from row sixty-four is the contraction over the first sixty-four. -/
theorem sum_low (f : Fin 128 → EReal) (g : Fin 64 → EReal) :
    ∑ x, f x * (if h : x.val < 64 then g ⟨x.val, h⟩ else 0) = ∑ x : Fin 64, f ⟨x.val, by omega⟩ * g x := by
  rw [Fin.sum_univ_add (a := 64) (b := 64)]
  simp
  rfl

/-- A contraction against a weight that is zero below row sixty-four is the contraction over the last sixty-four. -/
theorem sum_high (f : Fin 128 → EReal) (g : Fin 64 → EReal) :
    ∑ x, f x * (if h : 64 ≤ x.val then g ⟨x.val - 64, by omega⟩ else 0) = ∑ x : Fin 64, f ⟨64 + x.val, by omega⟩ * g x := by
  rw [Fin.sum_univ_add (a := 64) (b := 64)]
  have h : ∀ x : Fin 64, ¬ 64 ≤ x.val := fun x => by omega
  simp [h]
  rfl

variable {p s : Vec Ideal S128x4224 .f32} {u : Vec Ideal S1x4224 .f32} {w0 a0 : Vec Ideal S1x1024 .f32} {w a : Vec Ideal S128x1024 .bf16}

/-- The mixed rows are the reference's. -/
theorem mixed_row (hp : ∀ b l, p (ix2 b l) = P (ix2 b l)) (hs : ∀ b l, s (ix2 b l) = H (ix3 0 b l)) (hu : ∀ l, u (ix2 0 l) = M (ix2 0 l)) (b : Fin 128) (l : Fin 4224) :
    k0_pay2 p s u (ix2 b l) = val_main_v6 (F := Ideal) P H M (ix2 b l) := by
  pointwise [k0_pay2, val_main_v6, val_main_v5, val_main_v4, val_main_v3, val_main_v2, val_main_v1, val_main_v0]
  simp only [hp, hs, hu]

/-- The keys are the reference's. -/
theorem keys_row (hm : ∀ b l, k0_pay2 p s u (ix2 b l) = val_main_v6 (F := Ideal) P H M (ix2 b l)) (b : Fin 128) (n : Fin 1024) :
    k0_pay4 p s u (ix2 b n) = val_main_v7 (F := Ideal) P H M (ix2 b n) := by
  pointwise [k0_pay4, val_main_v7]
  exact hm _ _

/-- The values are the reference's. -/
theorem values_row (hm : ∀ b l, k0_pay2 p s u (ix2 b l) = val_main_v6 (F := Ideal) P H M (ix2 b l)) (b : Fin 128) (n : Fin 1024) :
    k0_pay5 p s u (ix2 b n) = val_main_v8 (F := Ideal) P H M (ix2 b n) := by
  pointwise [k0_pay5, val_main_v8]
  exact hm _ _

/-- The decays are the reference's. -/
theorem decays_row (hm : ∀ b l, k0_pay2 p s u (ix2 b l) = val_main_v6 (F := Ideal) P H M (ix2 b l)) (h0 : ∀ n, w0 (ix2 0 n) = W0 (ix2 0 n))
    (hw : ∀ l n, w (ix2 l n) = if h : l.val < 64 then W (ix3 0 ⟨l.val, h⟩ n) else (0 : EReal)) (b : Fin 128) (n : Fin 1024) :
    Ideal.exp (k0_pay8 p s u w0 w (ix2 b n)) = val_main_v26 (F := Ideal) P H M W0 W (ix2 b n) := by
  pointwise [k0_pay8, k0_pay7, val_main_v26, val_main_v25, val_main_v24, val_main_cst_1, val_main_v23, val_main_v22, val_main_cst_0, val_main_v21, val_main_v20, val_main_cst, val_main_v19, val_main_v18, val_main_v17, val_main_v16, val_main_v15, val_main_v14, val_main_v13, val_main_v12, val_main_v11, val_main_v9]
  simp only [hm, h0, hw]
  rw [zero_sub, sum_low (fun x => Ideal.tanh (val_main_v6 (F := Ideal) P H M (ix2 b ⟨4096 + x.val, by omega⟩))) (fun x => W (ix3 0 x n))]

/-- The rates are the reference's. -/
theorem rates_row (hm : ∀ b l, k0_pay2 p s u (ix2 b l) = val_main_v6 (F := Ideal) P H M (ix2 b l)) (h0 : ∀ n, a0 (ix2 0 n) = A0 (ix2 0 n))
    (ha : ∀ l n, a (ix2 l n) = if h : 64 ≤ l.val then A (ix3 0 ⟨l.val - 64, by omega⟩ n) else (0 : EReal)) (b : Fin 128) (n : Fin 1024) :
    k0_pay10 (k0_pay9 p s u a0 a) (ix2 b n) = val_main_v38 (F := Ideal) P H M A0 A (ix2 b n) := by
  pointwise [k0_pay10, k0_pay9, k0_pay7, val_main_v38, val_main_v37, val_main_cst_3, val_main_v36, val_main_v35, val_main_cst_2, val_main_v34, val_main_v33, val_main_v32, val_main_v31, val_main_v30, val_main_v29, val_main_v28, val_main_v27, val_main_v10]
  simp only [hm, h0, ha]
  have e : (∑ x : Fin 128, val_main_v6 (F := Ideal) P H M (ix2 b ⟨4096 + x.val, by omega⟩) * if h : 64 ≤ x.val then A (ix3 0 ⟨x.val - 64, by omega⟩ n) else (0 : EReal))
      = ∑ x : Fin 64, val_main_v6 (F := Ideal) P H M (ix2 b ⟨4160 + x.val, by omega⟩) * A (ix3 0 x n) :=
    (sum_high (fun x => val_main_v6 (F := Ideal) P H M (ix2 b ⟨4096 + x.val, by omega⟩)) (fun x => A (ix3 0 x n))).trans
      (Finset.sum_congr rfl fun x _ => congrArg (fun z => val_main_v6 (F := Ideal) P H M (ix2 b z) * A (ix3 0 x n)) (Fin.ext (by simp only; omega)))
  rw [zero_sub, e]

end Cert.Layer.Rwkv
end
-- ==== Proof.Layer.RwkvBlocks.lean ====
module

public import proofs.«01_k».proof.Proof.Layer.RwkvSlabs

@[expose] public section

set_option maxRecDepth 16384

noncomputable section

namespace Cert.Layer.Rwkv

open Idealize.ShloMosaic Idealize.ShloMosaic.TcCoe Idealize.SL.Sem
open Idealize.ShloMosaic.Pipeline (Dat)
open Cert.RwkvStepIdeal Cert.RwkvStepIdeal.Gen

variable (m : (ℓ : Loc nD τ sig) → Buf (Elt Ideal) ℓ)

/-- The block every window works on at a grid point. -/
theorem idx : ∀ t : Fin cfg0.N, win0_0.index t = ![0, 0] ∧ win0_1.index t = ![0, 0] ∧ win0_2.index t = ![t.val, 0, 0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_14.index t = ![t.val, 0, 0, 0] :=
  (by decide +kernel : ∀ t : Fin grid0.N, _)

set_option maxHeartbeats 2000000 in
/-- The block of projections is the argument. -/
theorem p_blk (c : Dev nD) (t : Fin cfg0.N) (b : Fin 128) (l : Fin 4224) :
    (iblk m c 0 t : Vec Ideal S128x4224 .f32) (ix2 b l) = (m ((c : Thread nD τ).loc main_arg0) : FVec Ideal S128x4224 .f32) (ix2 b l) := by
  have h : (V m c main_arg0 : FVec Ideal S128x4224 .f32) = m ((c : Thread nD τ).loc main_arg0) := by
    unfold V
    simp only [List.flatten_cons, List.flatten_nil, List.append_nil, List.cons_append, List.nil_append]
    after_results
    try rfl
  refine Eq.trans ?_ (congrFun h (ix2 b l))
  blk_point [iblk, idx t]

/-- A shift with its leading axis dropped, entry by entry. -/
theorem shift_at (X : FVec Ideal S1x128x4224 .f32) (b : Fin 128) (l : Fin 4224) : shapeCast S128x4224 X shapeCasts_S1x128x4224_S128x4224 (ix2 b l) = X (ix3 0 b l) := by
  pointwise

set_option maxHeartbeats 2000000 in
/-- The block of shifted projections is the argument. -/
theorem s_blk (c : Dev nD) (t : Fin cfg0.N) (b : Fin 128) (l : Fin 4224) :
    (iblk m c 1 t : Vec Ideal S128x4224 .f32) (ix2 b l) = (m ((c : Thread nD τ).loc main_arg1) : FVec Ideal S1x128x4224 .f32) (ix3 0 b l) := by
  have h : (V m c main_v6 : FVec Ideal S128x4224 .f32) = shapeCast S128x4224 (m ((c : Thread nD τ).loc main_arg1) : FVec Ideal S1x128x4224 .f32) shapeCasts_S1x128x4224_S128x4224 := by
    unfold V
    simp only [List.flatten_cons, List.flatten_nil, List.append_nil, List.cons_append, List.nil_append]
    after_results
    try rfl
  refine Eq.trans ?_ ((congrFun h (ix2 b l)).trans (shift_at _ b l))
  blk_point [iblk, idx t]

/-- A state with its batch axis last, entry by entry. -/
theorem states_at (X : FVec Ideal S1x128x16x64x64 .f32) (h : Fin 16) (v l : Fin 64) (b : Fin 128) :
    transpose S16x64x64x128 [1, 2, 3, 0] (shapeCast S128x16x64x64 X shapeCasts_S1x128x16x64x64_S128x16x64x64) transposes_S128x16x64x64_S16x64x64x128_1_2_3_0 (ix4 h v l b)
      = X (ix5 0 b h v l) := by
  pointwise

set_option maxHeartbeats 2000000 in
/-- The block of states is the head's states of the argument. -/
theorem x_blk (c : Dev nD) (t : Fin cfg0.N) (v l : Fin 64) (b : Fin 128) :
    (iblk m c 2 t : Vec Ideal S1x64x64x128 .f32) (ix4 0 v l b)
      = (m ((c : Thread nD τ).loc main_arg2) : FVec Ideal S1x128x16x64x64 .f32) (ix5 0 b ⟨t.val, by have := t.isLt; have h : cfg0.N = 16 := N_0; omega⟩ v l) := by
  have h : (V m c main_v8 : FVec Ideal S16x64x64x128 .f32)
      = transpose S16x64x64x128 [1, 2, 3, 0] (shapeCast S128x16x64x64 (m ((c : Thread nD τ).loc main_arg2) : FVec Ideal S1x128x16x64x64 .f32) shapeCasts_S1x128x16x64x64_S128x16x64x64)
          transposes_S128x16x64x64_S16x64x64x128_1_2_3_0 := by
    unfold V
    simp only [List.flatten_cons, List.flatten_nil, List.append_nil, List.cons_append, List.nil_append]
    after_results
    try rfl
  refine Eq.trans ?_ (states_at _ _ v l b)
  refine Eq.trans ?_ (congrFun h _)
  blk_point [iblk, idx t]

set_option maxHeartbeats 2000000 in
/-- The block of mixing weights is the argument. -/
theorem u_blk (c : Dev nD) (t : Fin cfg0.N) (l : Fin 4224) :
    (iblk m c 3 t : Vec Ideal S1x4224 .f32) (ix2 0 l) = (m ((c : Thread nD τ).loc main_arg3) : FVec Ideal S1x4224 .f32) (ix2 0 l) := by
  have h : (V m c main_v10 : FVec Ideal S1x4224 .f32)
      = shapeCast S1x4224 (shapeCast S4224 (m ((c : Thread nD τ).loc main_arg3) : FVec Ideal S1x4224 .f32) shapeCasts_S1x4224_S4224) shapeCasts_S4224_S1x4224 := by
    unfold V
    simp only [List.flatten_cons, List.flatten_nil, List.append_nil, List.cons_append, List.nil_append]
    after_results
    try rfl
  have e : (V m c main_v10 : FVec Ideal S1x4224 .f32) (ix2 0 l) = (m ((c : Thread nD τ).loc main_arg3) : FVec Ideal S1x4224 .f32) (ix2 0 l) := by
    rw [h]; pointwise
  refine Eq.trans ?_ e
  blk_point [iblk, idx t]

set_option maxHeartbeats 2000000 in
/-- The block of decay biases is the argument. -/
theorem w0_blk (c : Dev nD) (t : Fin cfg0.N) (n : Fin 1024) :
    (iblk m c 4 t : Vec Ideal S1x1024 .f32) (ix2 0 n) = (m ((c : Thread nD τ).loc main_arg4) : FVec Ideal S1x1024 .f32) (ix2 0 n) := by
  have h : (V m c main_v12 : FVec Ideal S1x1024 .f32)
      = shapeCast S1x1024 (shapeCast S1024 (m ((c : Thread nD τ).loc main_arg4) : FVec Ideal S1x1024 .f32) shapeCasts_S1x1024_S1024) shapeCasts_S1024_S1x1024 := by
    unfold V
    simp only [List.flatten_cons, List.flatten_nil, List.append_nil, List.cons_append, List.nil_append]
    after_results
    try rfl
  have e : (V m c main_v12 : FVec Ideal S1x1024 .f32) (ix2 0 n) = (m ((c : Thread nD τ).loc main_arg4) : FVec Ideal S1x1024 .f32) (ix2 0 n) := by
    rw [h]; pointwise
  refine Eq.trans ?_ e
  blk_point [iblk, idx t]

set_option maxHeartbeats 2000000 in
/-- The block of rate biases is the argument. -/
theorem a0_blk (c : Dev nD) (t : Fin cfg0.N) (n : Fin 1024) :
    (iblk m c 6 t : Vec Ideal S1x1024 .f32) (ix2 0 n) = (m ((c : Thread nD τ).loc main_arg6) : FVec Ideal S1x1024 .f32) (ix2 0 n) := by
  have h : (V m c main_v14 : FVec Ideal S1x1024 .f32)
      = shapeCast S1x1024 (shapeCast S1024 (m ((c : Thread nD τ).loc main_arg6) : FVec Ideal S1x1024 .f32) shapeCasts_S1x1024_S1024) shapeCasts_S1024_S1x1024 := by
    unfold V
    simp only [List.flatten_cons, List.flatten_nil, List.append_nil, List.cons_append, List.nil_append]
    after_results
    try rfl
  have e : (V m c main_v14 : FVec Ideal S1x1024 .f32) (ix2 0 n) = (m ((c : Thread nD τ).loc main_arg6) : FVec Ideal S1x1024 .f32) (ix2 0 n) := by
    rw [h]; pointwise
  refine Eq.trans ?_ e
  blk_point [iblk, idx t]

set_option maxHeartbeats 2000000 in
/-- The block of key weights is the argument. -/
theorem kw_blk (c : Dev nD) (t : Fin cfg0.N) (n : Fin 1024) :
    (iblk m c 8 t : Vec Ideal S1x1024 .f32) (ix2 0 n) = (m ((c : Thread nD τ).loc main_arg8) : FVec Ideal S1x1024 .f32) (ix2 0 n) := by
  have h : (V m c main_v16 : FVec Ideal S1x1024 .f32)
      = shapeCast S1x1024 (shapeCast S1024 (m ((c : Thread nD τ).loc main_arg8) : FVec Ideal S1x1024 .f32) shapeCasts_S1x1024_S1024) shapeCasts_S1024_S1x1024 := by
    unfold V
    simp only [List.flatten_cons, List.flatten_nil, List.append_nil, List.cons_append, List.nil_append]
    after_results
    try rfl
  have e : (V m c main_v16 : FVec Ideal S1x1024 .f32) (ix2 0 n) = (m ((c : Thread nD τ).loc main_arg8) : FVec Ideal S1x1024 .f32) (ix2 0 n) := by
    rw [h]; pointwise
  refine Eq.trans ?_ e
  blk_point [iblk, idx t]

set_option maxHeartbeats 2000000 in
/-- The block of key scales is the argument. -/
theorem ka_blk (c : Dev nD) (t : Fin cfg0.N) (n : Fin 1024) :
    (iblk m c 9 t : Vec Ideal S1x1024 .f32) (ix2 0 n) = (m ((c : Thread nD τ).loc main_arg9) : FVec Ideal S1x1024 .f32) (ix2 0 n) := by
  have h : (V m c main_v18 : FVec Ideal S1x1024 .f32)
      = shapeCast S1x1024 (shapeCast S1024 (m ((c : Thread nD τ).loc main_arg9) : FVec Ideal S1x1024 .f32) shapeCasts_S1x1024_S1024) shapeCasts_S1024_S1x1024 := by
    unfold V
    simp only [List.flatten_cons, List.flatten_nil, List.append_nil, List.cons_append, List.nil_append]
    after_results
    try rfl
  have e : (V m c main_v18 : FVec Ideal S1x1024 .f32) (ix2 0 n) = (m ((c : Thread nD τ).loc main_arg9) : FVec Ideal S1x1024 .f32) (ix2 0 n) := by
    rw [h]; pointwise
  refine Eq.trans ?_ e
  blk_point [iblk, idx t]

/-- The decay weight row by row: the argument in its first sixty-four rows, zero below. -/
theorem padded_low (W : FVec Ideal S1x64x1024 .f32) (l : Fin 128) (n : Fin 1024) :
    (truncf (F := Ideal) .bf16 (pad S128x1024 ![0, 0] ![64, 0] ![0, 0] (shapeCast S64x1024 W shapeCasts_S1x64x1024_S64x1024)
       (sitofp .f32 (constantI S_ 32 0#32)) pads_S64x1024_S128x1024_0640_000 h_S_) bitsLt_bf16_f32 : FVec Ideal S128x1024 .bf16) (ix2 l n)
      = if h : l.val < 64 then W (ix3 0 ⟨l.val, h⟩ n) else (0 : EReal) := by
  pointwise
  split
  · rfl
  · simp [FloatOps.sitofp]

/-- The rate weight row by row: zero in its first sixty-four rows, the argument below. -/
theorem padded_high (W : FVec Ideal S1x64x1024 .f32) (l : Fin 128) (n : Fin 1024) :
    (truncf (F := Ideal) .bf16 (pad S128x1024 ![64, 0] ![0, 0] ![0, 0] (shapeCast S64x1024 W shapeCasts_S1x64x1024_S64x1024)
       (sitofp .f32 (constantI S_ 32 0#32)) pads_S64x1024_S128x1024_6400_000 h_S_) bitsLt_bf16_f32 : FVec Ideal S128x1024 .bf16) (ix2 l n)
      = if h : 64 ≤ l.val then W (ix3 0 ⟨l.val - 64, by omega⟩ n) else (0 : EReal) := by
  pointwise
  split
  · rename_i h
    rw [dif_pos h.1]
  · rename_i h
    rw [dif_neg (by omega)]
    simp [FloatOps.sitofp]

set_option maxHeartbeats 2000000 in
/-- The block of the decay weight is the whole padded argument. -/
theorem w_blk (c : Dev nD) (t : Fin cfg0.N) (l : Fin 128) (n : Fin 1024) :
    (iblk m c 5 t : Vec Ideal S128x1024 .bf16) (ix2 l n)
      = if h : l.val < 64 then (m ((c : Thread nD τ).loc main_arg5) : FVec Ideal S1x64x1024 .f32) (ix3 0 ⟨l.val, h⟩ n) else (0 : EReal) := by
  have h : (V m c main_v2 : FVec Ideal S128x1024 .bf16)
      = (truncf (F := Ideal) .bf16 (pad S128x1024 ![0, 0] ![64, 0] ![0, 0] (shapeCast S64x1024 (m ((c : Thread nD τ).loc main_arg5) : FVec Ideal S1x64x1024 .f32) shapeCasts_S1x64x1024_S64x1024)
         (sitofp .f32 (constantI S_ 32 0#32)) pads_S64x1024_S128x1024_0640_000 h_S_) bitsLt_bf16_f32 : FVec Ideal S128x1024 .bf16) := by
    unfold V
    simp only [List.flatten_cons, List.flatten_nil, List.append_nil, List.cons_append, List.nil_append]
    after_results
    try rfl
  refine Eq.trans ?_ ((congrFun h (ix2 l n)).trans (padded_low _ l n))
  blk_point [iblk, idx t]

set_option maxHeartbeats 2000000 in
/-- The block of the rate weight is the whole padded argument. -/
theorem a_blk (c : Dev nD) (t : Fin cfg0.N) (l : Fin 128) (n : Fin 1024) :
    (iblk m c 7 t : Vec Ideal S128x1024 .bf16) (ix2 l n)
      = if h : 64 ≤ l.val then (m ((c : Thread nD τ).loc main_arg7) : FVec Ideal S1x64x1024 .f32) (ix3 0 ⟨l.val - 64, by omega⟩ n) else (0 : EReal) := by
  have h : (V m c main_v5 : FVec Ideal S128x1024 .bf16)
      = (truncf (F := Ideal) .bf16 (pad S128x1024 ![64, 0] ![0, 0] ![0, 0] (shapeCast S64x1024 (m ((c : Thread nD τ).loc main_arg7) : FVec Ideal S1x64x1024 .f32) shapeCasts_S1x64x1024_S64x1024)
         (sitofp .f32 (constantI S_ 32 0#32)) pads_S64x1024_S128x1024_6400_000 h_S_) bitsLt_bf16_f32 : FVec Ideal S128x1024 .bf16) := by
    unfold V
    simp only [List.flatten_cons, List.flatten_nil, List.append_nil, List.cons_append, List.nil_append]
    after_results
    try rfl
  refine Eq.trans ?_ ((congrFun h (ix2 l n)).trans (padded_high _ l n))
  blk_point [iblk, idx t]

end Cert.Layer.Rwkv
end
-- ==== Proof.Layer.RwkvValue.lean ====
module

public import proofs.«01_k».proof.Proof.Layer.RwkvStepAt
public import proofs.«01_k».proof.Proof.Layer.RwkvSlabsAt
public import proofs.«01_k».proof.Proof.Layer.RwkvRefAt
public import proofs.«01_k».proof.Proof.Layer.RwkvBlocks

@[expose] public section

set_option maxRecDepth 16384

noncomputable section

namespace Cert.Layer.Rwkv

open Idealize.ShloMosaic Idealize.ShloMosaic.TcCoe Idealize.SL.Sem
open Idealize.ShloMosaic.Pipeline (Dat)
open Cert.RwkvStepIdeal Cert.RwkvStepIdeal.Gen
open Cert.RwkvRefIdeal.Read

variable (m : (ℓ : Loc nD τ sig) → Buf (Elt Ideal) ℓ)

/-- The carried scratch as a list of blocks, from the blocks of a grid point. -/
def blocks (c : Dev nD) (t : Fin cfg0.N) : List (View.Piece (Elt Ideal) S6x1024x128 .f32) :=
  slabs (k0_pay3 (iblk m c 0 t) (iblk m c 1 t) (iblk m c 3 t)) (k0_pay4 (iblk m c 0 t) (iblk m c 1 t) (iblk m c 3 t)) (k0_pay5 (iblk m c 0 t) (iblk m c 1 t) (iblk m c 3 t))
    (k0_pay8 (iblk m c 0 t) (iblk m c 1 t) (iblk m c 3 t) (iblk m c 4 t) (iblk m c 5 t)) (k0_pay10 (k0_pay9 (iblk m c 0 t) (iblk m c 1 t) (iblk m c 3 t) (iblk m c 6 t) (iblk m c 7 t)))
    (iblk m c 8 t) (iblk m c 9 t)

/-- The first grid point. -/
def first : Fin cfg0.N := ⟨0, by have h : cfg0.N = 16 := N_0; omega⟩

/-- The carried scratch after every head is what the first head left. -/
theorem carried (c : Dev nD) : ∀ (n : ℕ) (hn : n < cfg0.N), (outsAt0 m c n hn).2 = View.canon (blocks m c first)
  | 0, hn => by
    rw [outsAt0_A m c ⟨0, hn⟩ rfl (by simp), slabs_A]
    unfold blocks
    rfl
  | n + 1, hn => by
    have hN : cfg0.N = 16 := N_0
    have h0 : ¬(⟨n + 1, hn⟩ : Fin cfg0.N).val % 16 = 0 := by simp only; omega
    refine Eq.trans ?_ (carried c n (by omega))
    by_cases h1 : (⟨n + 1, hn⟩ : Fin cfg0.N).val % 16 = 15
    · rw [outsAt0_C m c ⟨n + 1, hn⟩ h0 h1]
      rfl
    · rw [outsAt0_B m c ⟨n + 1, hn⟩ h0 h1]
      rfl

set_option maxHeartbeats 2000000 in
/-- What a head stores of its state, from the carried scratch. -/
theorem stored_state (c : Dev nD) (t : Fin cfg0.N) : (outsAt0 m c t.val t.isLt).1
    = View.canon (tiles (shapeCast S64x128 (View.ld (View.canon (blocks m c first)) (Rect.unit (k0_off2 (grid0.coords t)) S1x64x128.size (k0_off2_inb (grid0.coords t)))) shapeCasts_S1x64x128_S64x128)
        (shapeCast S64x128 (View.ld (View.canon (blocks m c first)) (Rect.unit (k0_off3 (grid0.coords t)) S1x64x128.size (k0_off3_inb (grid0.coords t)))) shapeCasts_S1x64x128_S64x128)
        (shapeCast S64x128 (View.ld (View.canon (blocks m c first)) (Rect.unit (k0_off4 (grid0.coords t)) S1x64x128.size (k0_off4_inb (grid0.coords t)))) shapeCasts_S1x64x128_S64x128)
        (shapeCast S64x128 (View.ld (View.canon (blocks m c first)) (Rect.unit (k0_off5 (grid0.coords t)) S1x64x128.size (k0_off5_inb (grid0.coords t)))) shapeCasts_S1x64x128_S64x128)
        (shapeCast S64x128 (View.ld (View.canon (blocks m c first)) (Rect.unit (k0_off6 (grid0.coords t)) S1x64x128.size (k0_off6_inb (grid0.coords t)))) shapeCasts_S1x64x128_S64x128)
        (iblk m c 2 t)) := by
  have hN : cfg0.N = 16 := N_0
  have ht := t.isLt
  by_cases h0 : t.val % 16 = 0
  · have h1 : ¬t.val % 16 = 15 := by omega
    obtain rfl : t = first := Fin.ext (by show t.val = 0; omega)
    rw [outsAt0_A m c first h0 h1]
    rw [tiles_A, slabs_A]
    unfold blocks
    rfl
  · by_cases h1 : t.val % 16 = 15
    · rw [outsAt0_C m c t h0 h1]
      rw [tiles_C, carried]
    · rw [outsAt0_B m c t h0 h1]
      rw [tiles_B, carried]

/-- Where a head's blocks of the carried scratch start. -/
theorem starts : ∀ t : Fin cfg0.N, k0_off2 (grid0.coords t) = ![1, 64 * t.val, 0] ∧ k0_off3 (grid0.coords t) = ![2, 64 * t.val, 0] ∧ k0_off4 (grid0.coords t) = ![3, 64 * t.val, 0]
    ∧ k0_off5 (grid0.coords t) = ![4, 64 * t.val, 0] ∧ k0_off6 (grid0.coords t) = ![5, 64 * t.val, 0] :=
  (by decide +kernel : ∀ t : Fin grid0.N, _)

/-- A head's block of the carried scratch, entry by entry. -/
theorem read_at (X : Vec Ideal S6x1024x128 .f32) (off : Fin 3 → ℕ) (inb) (q : Fin 6) (t : ℕ) (ht : t < 16) (ho : off = ![q.val, 64 * t, 0]) (l : Fin 64) (b : Fin 128) :
    shapeCast S64x128 (View.ld X (Rect.unit off S1x64x128.size inb)) shapeCasts_S1x64x128_S64x128 (ix2 l b) = X (ix3 q ⟨64 * t + l.val, by omega⟩ b) := by
  subst ho
  have h (Y : Vec Ideal S1x64x128 .f32) : shapeCast S64x128 Y shapeCasts_S1x64x128_S64x128 (ix2 l b) = Y (ix3 0 l b) := by pointwise
  refine (h _).trans (View.ld_unit_apply_of _ _ _ _ _ (ix3 q ⟨64 * t + l.val, by omega⟩ b) fun a => ?_)
  fin_cases a <;> simp

/-- Normalised keys of equal keys and weights are equal. -/
theorem ukey_congr {kb kb' : FVec Ideal S128x1024 .f32} {kw kw' : Vec Ideal S1x1024 .f32} (hk : ∀ b n, kb (ix2 b n) = kb' (ix2 b n)) (hw : ∀ n, kw (ix2 0 n) = kw' (ix2 0 n))
    (b : Fin 128) (n : Fin 1024) : ukey kb kw b n = ukey kb' kw' b n := by
  simp only [ukey, wkey, hk, hw]

/-- Scaled keys of equal keys, rates and scales are equal. -/
theorem skey_congr {kb kb' a a' : FVec Ideal S128x1024 .f32} {ka ka' : Vec Ideal S1x1024 .f32} (hk : ∀ b n, kb (ix2 b n) = kb' (ix2 b n)) (ha : ∀ b n, a (ix2 b n) = a' (ix2 b n))
    (hw : ∀ n, ka (ix2 0 n) = ka' (ix2 0 n)) (b : Fin 128) (n : Fin 1024) : skey kb a ka b n = skey kb' a' ka' b n := by
  simp only [skey, hk, ha, hw]

/-- The states the kernel writes are the reference's. -/
theorem final14 (c : Dev nD) : (dats m 0 c).arrAt 14 (cfgs 0).N
    = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 14 _ (by decide +kernel) fun t _ y => ?_
  blk_simp
  rw [after0_14, stored_state]
  idx_vars y
  have hN : cfg0.grid.N = 16 := N_0
  have ht : t.val < 16 := hN ▸ t.isLt
  obtain rfl : y0 = 0 := Subsingleton.elim _ _
  obtain ⟨o2, o3, o4, o5, o6⟩ := starts t
  have hm := mixed_row (p_blk m c first) (s_blk m c first) (u_blk m c first)
  have hk := keys_row hm
  have ha := rates_row hm (a0_blk m c first) (a_blk m c first)
  have hu := ukey_congr hk (kw_blk m c first)
  have hs := skey_congr hk ha (ka_blk m c first)
  refine (tiles_at ..).trans ?_
  simp only [read_at _ _ _ 1 t.val ht o2, read_at _ _ _ 2 t.val ht o3, read_at _ _ _ 3 t.val ht o4, read_at _ _ _ 4 t.val ht o5, read_at _ _ _ 5 t.val ht o6, blocks,
    slabs_1 1 rfl, slabs_2 2 rfl, slabs_3 3 rfl, slabs_4 4 rfl, slabs_5 5 rfl]
  simp only [values_row hm, decays_row hm (w0_blk m c first) (w_blk m c first), ha, hu, hs, x_blk]
  refine Eq.trans (v84_at ..).symm (congrArg (val_main_v84 (F := Ideal) _ _ _ _ _ _ _ _ _ _) ?_)
  blk_ext [idx t]

/-- The kernel runs to the end, writes the reference's states and leaves its arguments as they were. -/
theorem run (ρ : Dev nD → PrngReg) : θ_run defs (onTc (τ := τ) (main (F := Ideal))) ⟨m, fun _ => 0, ρ⟩ fun r => ∀ c : Dev nD,
      r.2.mem ((c : Thread nD τ).loc main_v25_1) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c =>
    ⟨(((dats m 0 c).toRForget_arrAt_iff (by rfl : forgets0 14 = false) _ _).mp ((h.1 c).1 14)).trans (final14 m c), h.2 c⟩)
    (θ_run_and (run_main m ρ) (unchanged m ρ))

end Cert.Layer.Rwkv
end
-- ==== Proof.lean ====
module

public import proofs.«01_k».proof.Proof.Gen.GlaStep.Frame
public import proofs.«01_k».proof.Proof.Gen.GlaStepIdeal.Value
public import proofs.«01_k».proof.Proof.Gen.GlaRefIdeal.Run
public import proofs.«01_k».proof.Proof.Gen.GlaRefIdeal.Read
public import proofs.«01_k».proof.Proof.Gen.Pre_finite_qkv
public import proofs.«01_k».proof.Proof.Layer.GlaValue
public import proofs.«01_k».proof.Defs
public import proofs.«01_k».proof.Proof.Gen.Proj.Frame
public import proofs.«01_k».proof.Proof.Gen.ProjIdeal.Frame
public import proofs.«01_k».proof.Proof.Gen.ProjRefIdeal.Run
public import proofs.«01_k».proof.Proof.Layer.ProjValue
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Layer.MergeValue
public import proofs.«01_k».proof.Proof.Gen.ProjSample.Frame
public import proofs.«01_k».proof.Proof.Gen.ProjSampleIdeal.Value
public import proofs.«01_k».proof.Proof.Gen.ProjSampleRefIdeal.Run
public import proofs.«01_k».proof.Proof.Gen.ProjSampleRefIdeal.Read
public import proofs.«01_k».proof.Proof.Layer.ProjSampleValue
public import proofs.«01_k».proof.Proof.Layer.MergeSampleValue
public import proofs.«01_k».proof.Proof.Gen.MergeSample.Frame
public import proofs.«01_k».proof.Proof.Gen.MergeSampleIdeal.Value
public import proofs.«01_k».proof.Proof.Gen.MergeSampleRefIdeal.Run
public import proofs.«01_k».proof.Proof.Gen.MergeSampleRefIdeal.Read
public import proofs.«01_k».proof.Proof.Layer.MixBitsFrame
public import proofs.«01_k».proof.Proof.Layer.MixFrame
public import proofs.«01_k».proof.Proof.Layer.RwkvBitsFrame
public import proofs.«01_k».proof.Proof.Layer.RwkvFrame
public import proofs.«01_k».proof.Proof.Layer.RwkvValue
public import proofs.«01_k».proof.Proof.Gen.RwkvRefIdeal.Run
public import proofs.«01_k».proof.Proof.Gen.RwkvRefIdeal.Read
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference of the projection runs to the end and leaves its arguments as they were. -/
theorem frame_projRef : Cert.quiescent_ProjRefIdeal := fun m g _ =>
  (θ_run Cert.ProjRefIdeal.defs _ _).mono
    (fun r h => ⟨fun c => (h c).2.2.2.2, sem_eq_zero_of_no_sems (by decide) _⟩) (Cert.ProjRefIdeal.Value.run m g)

/-- The reference of the merging call runs to the end and leaves its arguments as they were. -/
theorem frame_mergeRef : Cert.quiescent_MergeRefIdeal := fun m g _ =>
  (θ_run Cert.MergeRefIdeal.defs _ _).mono
    (fun r h => ⟨fun c => (h c).2, sem_eq_zero_of_no_sems (by decide) _⟩) (Cert.MergeRefIdeal.Value.run m g)

/-- The projection call returns the three column ranges of the reference's product, and the last step's rows of the second. -/
theorem algebraic_proj : Cert.algebraic_ProjIdeal_ProjRefIdeal := by
  pair_intro
  · run_from Cert.Layer.Proj.run m g
  · run_from Cert.ProjRefIdeal.Value.run m' g'
    all_goals rfl

/-- The merging call returns the reference's normed rows. -/
theorem algebraic_merge : Cert.algebraic_MergeIdeal_MergeRefIdeal := by
  pair_intro
  · run_from Cert.MergeIdeal.Value.run_blocks m g
  · run_from Cert.MergeRefIdeal.Value.run m' g'
    rw [Cert.MergeRefIdeal.Read.val_main_v55_eq]
    obtain ⟨h0, h1, h2, h3, h4, h5, h6, h7, h8⟩ := hagree c
    rw [h0, h1, h2, h3, h4, h5, h6, h7, h8]
    exact (Cert.Layer.Merge.final m c).symm

/-- The reference of the gated linear attention step runs to the end and leaves its arguments as they were. -/
theorem frame_glaRef : Cert.quiescent_GlaRefIdeal := fun m g _ =>
  (θ_run Cert.GlaRefIdeal.defs _ _).mono
    (fun r h => ⟨fun c => (h c).2.2, sem_eq_zero_of_no_sems (by decide) _⟩) (Cert.GlaRefIdeal.Value.run m g)

/-- The predicate's words say that the queries, keys and values are finite. -/
theorem finite_of_pre {P : FVec Ideal Cert.GlaStepIdeal.S128x3200 .f32} {S} {W} {B} {N}
    (h : Cert.Pre_finite_qkv.fn (F := Ideal) P S W B N = fun _ => 1#1) : Cert.Layer.Gla.Finite P := by
  intro R l hl
  have := congrFun h (ix2 R ⟨l.val, hl⟩)
  pointwise [Cert.Pre_finite_qkv.fn] at this
  have hlt : max (P (ix2 R l)) (-P (ix2 R l)) < (⊤ : EReal) := by
    by_contra hc
    have e : Ideal.ofBits FTy.f32 2139095040#32 = (⊤ : EReal) := by
      simp [Ideal.ofBits, Ideal.ieee, -EReal.coe_mul]
    rw [e] at this
    have hd : decide (FloatOps.absf (P (ix2 R l)) < (⊤ : EReal)) = false := decide_eq_false hc
    rw [hd] at this
    exact absurd this (by decide)
  constructor
  · intro e
    rw [e] at hlt
    simp at hlt
  · intro e
    rw [e] at hlt
    simp at hlt

/-- The gated linear attention step returns the reference's gated readouts and states, where the queries, keys and values are finite. -/
theorem algebraic_gla : Cert.algebraic_GlaStepIdeal_GlaRefIdeal_pre_finite_qkv := by
  pair_intro
  · run_from Cert.GlaStepIdeal.Value.run_blocks m g
  · run_from Cert.GlaRefIdeal.Value.run m' g'
    · rw [Cert.GlaRefIdeal.Read.val_main_v48_eq]
      obtain ⟨h0, h1, h2, h3, h4⟩ := hagree c
      rw [h0, h1, h2, h3, h4]
      exact (Cert.Layer.Gla.final5 m c (finite_of_pre (hpre c))).symm
    · exact (Cert.Layer.Gla.final6 m c (finite_of_pre (hpre c))).symm

/-- The reference of the sample's projection runs to the end and leaves its arguments as they were. -/
theorem frame_projSampleRef : Cert.quiescent_ProjSampleRefIdeal := fun m g _ =>
  (θ_run Cert.ProjSampleRefIdeal.defs _ _).mono
    (fun r h => ⟨fun c => (h c).2.2.2, sem_eq_zero_of_no_sems (by decide) _⟩) (Cert.ProjSampleRefIdeal.Value.run m g)

/-- The reference of the sample's merging call runs to the end and leaves its arguments as they were. -/
theorem frame_mergeSampleRef : Cert.quiescent_MergeSampleRefIdeal := fun m g _ =>
  (θ_run Cert.MergeSampleRefIdeal.defs _ _).mono
    (fun r h => ⟨fun c => (h c).2, sem_eq_zero_of_no_sems (by decide) _⟩) (Cert.MergeSampleRefIdeal.Value.run m g)

/-- The sample's projection call returns the three column ranges of the reference's product. -/
theorem algebraic_projSample : Cert.algebraic_ProjSampleIdeal_ProjSampleRefIdeal := by
  pair_intro
  · run_from Cert.ProjSampleIdeal.Value.run_blocks m g
  · run_from Cert.ProjSampleRefIdeal.Value.run m' g'
    · exact (Cert.Layer.ProjSample.final2 m c).symm
    · exact (Cert.Layer.ProjSample.final3 m c).symm
    · exact (Cert.Layer.ProjSample.final4 m c).symm

/-- The sample's merging call returns the reference's normed rows. -/
theorem algebraic_mergeSample : Cert.algebraic_MergeSampleIdeal_MergeSampleRefIdeal := by
  pair_intro
  · run_from Cert.MergeSampleIdeal.Value.run_blocks m g
  · run_from Cert.MergeSampleRefIdeal.Value.run m' g'
    rw [Cert.MergeSampleRefIdeal.Read.val_main_v53_eq]
    obtain ⟨h0, h1, h2, h3, h4, h5, h6, h7, h8⟩ := hagree c
    rw [h0, h1, h2, h3, h4, h5, h6, h7, h8]
    exact (Cert.Layer.MergeSample.final m c).symm

/-- The reference of the decaying state's step runs to the end and leaves its arguments as they were. -/
theorem frame_rwkvRef : Cert.quiescent_RwkvRefIdeal := fun m g _ =>
  (θ_run Cert.RwkvRefIdeal.defs _ _).mono
    (fun r h => ⟨fun c => (h c).2, sem_eq_zero_of_no_sems (by decide) _⟩) (Cert.RwkvRefIdeal.Value.run m g)

/-- The decaying state's step returns the reference's states. -/
theorem algebraic_rwkv : Cert.algebraic_RwkvStepIdeal_RwkvRefIdeal := by
  pair_intro
  · run_from Cert.Layer.Rwkv.run m g
  · run_from Cert.RwkvRefIdeal.Value.run m' g'
    rw [Cert.RwkvRefIdeal.Read.val_main_v84_eq]
    obtain ⟨h0, h1, h2, h3, h4, h5, h6, h7, h8, h9, -, -, -⟩ := hagree c
    rw [h0, h1, h2, h3, h4, h5, h6, h7, h8, h9]

/-- Every claim of the certificate. -/
theorem claim : Cert.Claim :=
  ⟨Cert.Proj.Gen.facts, Cert.ProjIdeal.Gen.facts, Cert.ProjRefIdeal.Gen.facts,
   Cert.Merge.Gen.facts, Cert.MergeIdeal.Gen.facts, Cert.MergeRefIdeal.Gen.facts,
   Cert.GlaStep.Gen.facts, Cert.GlaStepIdeal.Gen.facts, Cert.GlaRefIdeal.Gen.facts,
   Cert.ProjSample.Gen.facts, Cert.ProjSampleIdeal.Gen.facts, Cert.ProjSampleRefIdeal.Gen.facts,
   Cert.MergeSample.Gen.facts, Cert.MergeSampleIdeal.Gen.facts, Cert.MergeSampleRefIdeal.Gen.facts,
   Cert.RwkvStep.Gen.facts, Cert.RwkvStepIdeal.Gen.facts, Cert.RwkvRefIdeal.Gen.facts,
   Cert.Mix.Gen.facts, Cert.MixIdeal.Gen.facts, Cert.Pre_finite_qkv.Gen.facts,
   fun m ρ _ => Cert.Proj.Gen.frame m ρ, fun m ρ _ => Cert.ProjIdeal.Gen.frame m ρ, frame_projRef,
   fun m ρ _ => Cert.Merge.Gen.frame m ρ, fun m ρ _ => Cert.MergeIdeal.Gen.frame m ρ, frame_mergeRef,
   fun m ρ _ => Cert.GlaStep.Gen.frame m ρ, fun m ρ _ => Cert.GlaStepIdeal.Gen.frame m ρ, fun m ρ _ => Cert.GlaStepIdeal.Gen.frame m ρ,
   frame_glaRef, fun m g _ => frame_glaRef m g trivial,
   fun m ρ _ => Cert.ProjSample.Gen.frame m ρ, fun m ρ _ => Cert.ProjSampleIdeal.Gen.frame m ρ, frame_projSampleRef,
   fun m ρ _ => Cert.MergeSample.Gen.frame m ρ, fun m ρ _ => Cert.MergeSampleIdeal.Gen.frame m ρ, frame_mergeSampleRef,
   fun m ρ _ => Cert.Layer.RwkvBits.frame m ρ, fun m ρ _ => Cert.Layer.Rwkv.frame m ρ, frame_rwkvRef,
   fun m ρ _ => Cert.Layer.MixBits.frame m ρ, fun m ρ _ => Cert.Layer.Mix.frame m ρ,
   trivial, algebraic_proj, trivial, algebraic_merge, trivial, algebraic_gla,
   trivial, algebraic_projSample, trivial, algebraic_mergeSample, trivial, algebraic_rwkv, trivial⟩

end Cert.Proof

end
